-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x112 : Shape := ⟨2, ![32768, 112]⟩
abbrev S112x112 : Shape := ⟨2, ![112, 112]⟩
abbrev S32768x4096 : Shape := ⟨2, ![32768, 4096]⟩
abbrev S_ : Shape := ⟨0, ![]⟩
abbrev S32768x128 : Shape := ⟨2, ![32768, 128]⟩
abbrev S112x32768 : Shape := ⟨2, ![112, 32768]⟩
abbrev S128x128 : Shape := ⟨2, ![128, 128]⟩
abbrev S256x4096 : Shape := ⟨2, ![256, 4096]⟩
abbrev S112x4096 : Shape := ⟨2, ![112, 4096]⟩
abbrev S1x4096 : Shape := ⟨2, ![1, 4096]⟩
abbrev S42x1024x256 : Shape := ⟨3, ![42, 1024, 256]⟩
abbrev S4x1024x256 : Shape := ⟨3, ![4, 1024, 256]⟩
abbrev S2x256x256 : Shape := ⟨3, ![2, 256, 256]⟩
abbrev S128x256 : Shape := ⟨2, ![128, 256]⟩
abbrev S42 : Shape := ⟨1, ![42]⟩
abbrev S4 : Shape := ⟨1, ![4]⟩
abbrev S2 : Shape := ⟨1, ![2]⟩
abbrev S1 : Shape := ⟨1, ![1]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S112x256 : Shape := ⟨2, ![112, 256]⟩
abbrev S256 : Shape := ⟨1, ![256]⟩
abbrev S1x256 : Shape := ⟨2, ![1, 256]⟩
abbrev S255x256 : Shape := ⟨2, ![255, 256]⟩
abbrev S1024x128 : Shape := ⟨2, ![1024, 128]⟩
abbrev S1x128x256 : Shape := ⟨3, ![1, 128, 256]⟩
abbrev S8x256 : Shape := ⟨2, ![8, 256]⟩
abbrev S1x8x256 : Shape := ⟨3, ![1, 8, 256]⟩
abbrev S112x1024 : Shape := ⟨2, ![112, 1024]⟩

abbrev nBuf : Space → Nat
  | .hbm => 15
  | .vmem => 10
  | .smem => 0
  | _ => 0

abbrev bufTy : (tb : Table) → Fin (tcTables nBuf tb) → BufTy
  | .hbm, ⟨0, _⟩ => ⟨S32768x112, .bf16⟩
  | .hbm, ⟨1, _⟩ => ⟨S112x112, .f32⟩
  | .hbm, ⟨2, _⟩ => ⟨S32768x4096, .f32⟩
  | .hbm, ⟨3, _⟩ => ⟨S_, .i32⟩
  | .hbm, ⟨4, _⟩ => ⟨S_, .bf16⟩
  | .hbm, ⟨5, _⟩ => ⟨S32768x128, .bf16⟩
  | .hbm, ⟨6, _⟩ => ⟨S112x32768, .bf16⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S32768x4096, .f32⟩
  | .hbm, ⟨11, _⟩ => ⟨S32768x4096, .fp8e4m3⟩
  | .hbm, ⟨12, _⟩ => ⟨S256x4096, .f32⟩
  | .hbm, ⟨13, _⟩ => ⟨S112x4096, .fp8e4m3⟩
  | .hbm, ⟨14, _⟩ => ⟨S1x4096, .f32⟩
  | .local _ .vmem, ⟨0, _⟩ => ⟨S32768x128, .bf16⟩
  | .local _ .vmem, ⟨1, _⟩ => ⟨S112x32768, .bf16⟩
  | .local _ .vmem, ⟨2, _⟩ => ⟨S128x128, .f32⟩
  | .local _ .vmem, ⟨3, _⟩ => ⟨S112x4096, .fp8e4m3⟩
  | .local _ .vmem, ⟨4, _⟩ => ⟨S1x4096, .f32⟩
  | .local _ .vmem, ⟨5, _⟩ => ⟨S42x1024x256, .f32⟩
  | .local _ .vmem, ⟨6, _⟩ => ⟨S4x1024x256, .fp8e4m3⟩
  | .local _ .vmem, ⟨7, _⟩ => ⟨S2x256x256, .f32⟩
  | .local _ .vmem, ⟨8, _⟩ => ⟨S128x256, .f32⟩
  | .local _ .vmem, ⟨9, _⟩ => ⟨S128x256, .bf16⟩
  | _, _ => ⟨S32768x112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c42_i32 : BitVec 32 := 42#32
  let v0 : BitVec 32 := Scalar.addi c0_i32 c42_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg18 : BitVec 32 := Scf.iv c0_i32 c1_i32 k0_t1
  let c42_i32_60 : BitVec 32 := 42#32
  let c0_i32_61 : BitVec 32 := 0#32
  let v78 : BitVec 1 := Scalar.cmpi .eq c42_i32_60 c0_i32_61
  let c1_i32_62 : BitVec 32 := 1#32
  let v79 : BitVec 32 := Scalar.select v78 c1_i32_62 c42_i32_60
  let v80 : BitVec 32 := Scalar.remsi arg18 v79
  let c0_i32_64 : BitVec 32 := 0#32
  let v82 : BitVec 1 := Scalar.cmpi .slt v80 c0_i32_64
  let c0_i32_65 : BitVec 32 := 0#32
  let v83 : BitVec 1 := Scalar.cmpi .slt v79 c0_i32_65
  let v84 : BitVec 1 := Scalar.xori v82 v83
  let c0_i32_63 : BitVec 32 := 0#32
  let v81 : BitVec 1 := Scalar.cmpi .ne v80 c0_i32_63
  let v85 : BitVec 1 := Scalar.andi v84 v81
  let v86 : BitVec 32 := Scalar.addi v80 v79
  let v87 : BitVec 32 := Scalar.select v85 v86 v80
  ![v87.toNat]
def k0_off2 (k0_t1 : Fin k0_t1_loop.trips) : Fin 3 → Nat :=
  let c0_i32 : BitVec 32 := 0#32
  let c1_i32 : BitVec 32 := 1#32
  let arg18 : BitVec 32 := Scf.iv c0_i32 c1_i32 k0_t1
  let c42_i32_60 : BitVec 32 := 42#32
  let c0_i32_61 : BitVec 32 := 0#32
  let v78 : BitVec 1 := Scalar.cmpi .eq c42_i32_60 c0_i32_61
  let c1_i32_62 : BitVec 32 := 1#32
  let v79 : BitVec 32 := Scalar.select v78 c1_i32_62 c42_i32_60
  let v80 : BitVec 32 := Scalar.remsi arg18 v79
  let c0_i32_64 : BitVec 32 := 0#32
  let v82 : BitVec 1 := Scalar.cmpi .slt v80 c0_i32_64
  let c0_i32_65 : BitVec 32 := 0#32
  let v83 : BitVec 1 := Scalar.cmpi .slt v79 c0_i32_65
  let v84 : BitVec 1 := Scalar.xori v82 v83
  let c0_i32_63 : BitVec 32 := 0#32
  let v81 : BitVec 1 := Scalar.cmpi .ne v80 c0_i32_63
  let v85 : BitVec 1 := Scalar.andi v84 v81
  let v86 : BitVec 32 := Scalar.addi v80 v79
  let v87 : BitVec 32 := Scalar.select v85 v86 v80
  let c0_i32_66 : BitVec 32 := 0#32
  let c0_i32_67 : BitVec 32 := 0#32
  ![v87.toNat, 0, 0]
def k0_off3 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_54 : BitVec 32 := 32#32
  let c0_i32_55 : BitVec 32 := 0#32
  let v68 : BitVec 1 := Scalar.cmpi .eq c32_i32_54 c0_i32_55
  let c1_i32_56 : BitVec 32 := 1#32
  let v69 : BitVec 32 := Scalar.select v68 c1_i32_56 c32_i32_54
  let v70 : BitVec 32 := Scalar.remsi arg18 v69
  let c0_i32_58 : BitVec 32 := 0#32
  let v72 : BitVec 1 := Scalar.cmpi .slt v70 c0_i32_58
  let c0_i32_59 : BitVec 32 := 0#32
  let v73 : BitVec 1 := Scalar.cmpi .slt v69 c0_i32_59
  let v74 : BitVec 1 := Scalar.xori v72 v73
  let c0_i32_57 : BitVec 32 := 0#32
  let v71 : BitVec 1 := Scalar.cmpi .ne v70 c0_i32_57
  let v75 : BitVec 1 := Scalar.andi v74 v71
  let v76 : BitVec 32 := Scalar.addi v70 v69
  let v77 : BitVec 32 := Scalar.select v75 v76 v70
  let c1024_i32 : BitVec 32 := 1024#32
  let v88 : BitVec 32 := Scalar.muli v77 c1024_i32
  let c0_i32_48 : BitVec 32 := 0#32
  let v52 : BitVec 1 := Scalar.cmpi .sgt arg18 c0_i32_48
  let v53 : BitVec 32 := Scalar.extui v52
  let c0_i32_49 : BitVec 32 := 0#32
  let v54 : BitVec 1 := Scalar.cmpi .slt arg18 c0_i32_49
  let v55 : BitVec 32 := Scalar.extui v54
  let v56 : BitVec 32 := Scalar.subi v53 v55
  let c32_i32 : BitVec 32 := 32#32
  let c0_i32_50 : BitVec 32 := 0#32
  let v57 : BitVec 1 := Scalar.cmpi .sgt c32_i32 c0_i32_50
  let v58 : BitVec 32 := Scalar.extui v57
  let c0_i32_51 : BitVec 32 := 0#32
  let v59 : BitVec 1 := Scalar.cmpi .slt c32_i32 c0_i32_51
  let v60 : BitVec 32 := Scalar.extui v59
  let v61 : BitVec 32 := Scalar.subi v58 v60
  let v62 : BitVec 1 := Scalar.cmpi .ne v56 v61
  let v63 : BitVec 32 := Scalar.remsi arg18 c32_i32
  let c0_i32_52 : BitVec 32 := 0#32
  let v64 : BitVec 1 := Scalar.cmpi .ne v63 c0_i32_52
  let v65 : BitVec 1 := Scalar.andi v62 v64
  let v51 : BitVec 32 := Scalar.divsi arg18 c32_i32
  let c1_i32_53 : BitVec 32 := 1#32
  let v66 : BitVec 32 := Scalar.subi v51 c1_i32_53
  let v67 : BitVec 32 := Scalar.select v65 v66 v51
  let c256_i32 : BitVec 32 := 256#32
  let v89 : BitVec 32 := Scalar.muli v67 c256_i32
  ![v88.toNat, v89.toNat]
@[reducible] def k0_t2_loop : Scf.Loop 32 :=
  let c0_i32_2 : BitVec 32 := 0#32
  let c17_i32 : BitVec 32 := 17#32
  let v5 : BitVec 32 := Scalar.addi c0_i32_2 c17_i32
  let c1_i32_3 : BitVec 32 := 1#32
  ⟨c0_i32_2, v5, c1_i32_3⟩
def k0_cond1 (k0_t2 : Fin k0_t2_loop.trips) : BitVec 1 :=
  let c0_i32_2 : BitVec 32 := 0#32
  let c1_i32_3 : BitVec 32 := 1#32
  let arg18 : BitVec 32 := Scf.iv c0_i32_2 c1_i32_3 k0_t2
  let c0_i32_48 : BitVec 32 := 0#32
  let v51 : BitVec 1 := Scalar.cmpi .sgt arg18 c0_i32_48
  let v52 : BitVec 32 := Scalar.extui v51
  let c0_i32_49 : BitVec 32 := 0#32
  let v53 : BitVec 1 := Scalar.cmpi .ne v52 c0_i32_49
  v53

def k0_off4 (k0_t2 : Fin k0_t2_loop.trips) : Fin 1 → Nat :=
  let c0_i32_2 : BitVec 32 := 0#32
  let c1_i32_3 : BitVec 32 := 1#32
  let arg18 : BitVec 32 := Scf.iv c0_i32_2 c1_i32_3 k0_t2
  let c1_i32_58 : BitVec 32 := 1#32
  let v62 : BitVec 32 := Scalar.subi arg18 c1_i32_58
  let c2_i32_65 : BitVec 32 := 2#32
  let c0_i32_66 : BitVec 32 := 0#32
  let v74 : BitVec 1 := Scalar.cmpi .eq c2_i32_65 c0_i32_66
  let c1_i32_67 : BitVec 32 := 1#32
  let v75 : BitVec 32 := Scalar.select v74 c1_i32_67 c2_i32_65
  let v76 : BitVec 32 := Scalar.remsi v62 v75
  let c0_i32_69 : BitVec 32 := 0#32
  let v78 : BitVec 1 := Scalar.cmpi .slt v76 c0_i32_69
  let c0_i32_70 : BitVec 32 := 0#32
  let v79 : BitVec 1 := Scalar.cmpi .slt v75 c0_i32_70
  let v80 : BitVec 1 := Scalar.xori v78 v79
  let c0_i32_68 : BitVec 32 := 0#32
  let v77 : BitVec 1 := Scalar.cmpi .ne v76 c0_i32_68
  let v81 : BitVec 1 := Scalar.andi v80 v77
  let v82 : BitVec 32 := Scalar.addi v76 v75
  let v83 : BitVec 32 := Scalar.select v81 v82 v76
  ![v83.toNat]
def k0_off5 (k0_t2 : Fin k0_t2_loop.trips) : Fin 2 → Nat :=
  let c0_i32_71 : BitVec 32 := 0#32
  let c0_i32_2 : BitVec 32 := 0#32
  let c1_i32_3 : BitVec 32 := 1#32
  let arg18 : BitVec 32 := Scf.iv c0_i32_2 c1_i32_3 k0_t2
  let c1_i32_58 : BitVec 32 := 1#32
  let v62 : BitVec 32 := Scalar.subi arg18 c1_i32_58
  let c256_i32 : BitVec 32 := 256#32
  let v73 : BitVec 32 := Scalar.muli v62 c256_i32
  ![0, v73.toNat]
def k0_off6 (k0_t2 : Fin k0_t2_loop.trips) : Fin 3 → Nat :=
  let c0_i32_2 : BitVec 32 := 0#32
  let c1_i32_3 : BitVec 32 := 1#32
  let arg18 : BitVec 32 := Scf.iv c0_i32_2 c1_i32_3 k0_t2
  let c1_i32_58 : BitVec 32 := 1#32
  let v62 : BitVec 32 := Scalar.subi arg18 c1_i32_58
  let c2_i32_59 : BitVec 32 := 2#32
  let c0_i32_60 : BitVec 32 := 0#32
  let v63 : BitVec 1 := Scalar.cmpi .eq c2_i32_59 c0_i32_60
  let c1_i32_61 : BitVec 32 := 1#32
  let v64 : BitVec 32 := Scalar.select v63 c1_i32_61 c2_i32_59
  let v65 : BitVec 32 := Scalar.remsi v62 v64
  let c0_i32_63 : BitVec 32 := 0#32
  let v67 : BitVec 1 := Scalar.cmpi .slt v65 c0_i32_63
  let c0_i32_64 : BitVec 32 := 0#32
  let v68 : BitVec 1 := Scalar.cmpi .slt v64 c0_i32_64
  let v69 : BitVec 1 := Scalar.xori v67 v68
  let c0_i32_62 : BitVec 32 := 0#32
  let v66 : BitVec 1 := Scalar.cmpi .ne v65 c0_i32_62
  let v70 : BitVec 1 := Scalar.andi v69 v66
  let v71 : BitVec 32 := Scalar.addi v65 v64
  let v72 : BitVec 32 := Scalar.select v70 v71 v65
  let c0_i32_72 : BitVec 32 := 0#32
  let c0_i32_73 : BitVec 32 := 0#32
  ![v72.toNat, 0, 0]
def k0_mult1 (k0_t2 : Fin k0_t2_loop.trips) : BitVec 32 :=
  let c0_i32_2 : BitVec 32 := 0#32
  let c1_i32_3 : BitVec 32 := 1#32
  let arg18 : BitVec 32 := Scf.iv c0_i32_2 c1_i32_3 k0_t2
  let c1_i32_74 : BitVec 32 := 1#32
  let v89 : BitVec 32 := Scalar.subi arg18 c1_i32_74
  let c256_i32_75 : BitVec 32 := 256#32
  let v90 : BitVec 32 := Scalar.muli v89 c256_i32_75
  v90
def k0_off7 (k0_t2 : Fin k0_t2_loop.trips) : Fin 2 → Nat :=
  let c0_94 : Index := 0#32
  let c0_i32_2 : BitVec 32 := 0#32
  let c1_i32_3 : BitVec 32 := 1#32
  let arg18 : BitVec 32 := Scf.iv c0_i32_2 c1_i32_3 k0_t2
  let c1_i32_74 : BitVec 32 := 1#32
  let v89 : BitVec 32 := Scalar.subi arg18 c1_i32_74
  let c256_i32_75 : BitVec 32 := 256#32
  let v90 : BitVec 32 := Scalar.muli v89 c256_i32_75
  let v91 : BitVec 32 := v90
  let v145 : Index := Scalar.indexCast v91
  ![0, v145.toNat]
def k0_off8 (k0_t2 : Fin k0_t2_loop.trips) : Fin 2 → Nat :=
  let c0_95 : Index := 0#32
  let c0_i32_2 : BitVec 32 := 0#32
  let c1_i32_3 : BitVec 32 := 1#32
  let arg18 : BitVec 32 := Scf.iv c0_i32_2 c1_i32_3 k0_t2
  let c1_i32_74 : BitVec 32 := 1#32
  let v89 : BitVec 32 := Scalar.subi arg18 c1_i32_74
  let c256_i32_75 : BitVec 32 := 256#32
  let v90 : BitVec 32 := Scalar.muli v89 c256_i32_75
  let v91 : BitVec 32 := v90
  let v147 : Index := Scalar.indexCast v91
  ![0, v147.toNat]
def k0_cond2 (k0_t2 : Fin k0_t2_loop.trips) : BitVec 1 :=
  let c0_i32_2 : BitVec 32 := 0#32
  let c1_i32_3 : BitVec 32 := 1#32
  let arg18 : BitVec 32 := Scf.iv c0_i32_2 c1_i32_3 k0_t2
  let c1_i32_50 : BitVec 32 := 1#32
  let v54 : BitVec 1 := Scalar.cmpi .sgt arg18 c1_i32_50
  let v55 : BitVec 32 := Scalar.extui v54
  let c0_i32_51 : BitVec 32 := 0#32
  let v56 : BitVec 1 := Scalar.cmpi .ne v55 c0_i32_51
  v56

def k0_off9 (k0_t2 : Fin k0_t2_loop.trips) : Fin 1 → Nat :=
  let c0_i32_2 : BitVec 32 := 0#32
  let c1_i32_3 : BitVec 32 := 1#32
  let arg18 : BitVec 32 := Scf.iv c0_i32_2 c1_i32_3 k0_t2
  let c2_i32_58 : BitVec 32 := 2#32
  let v62 : BitVec 32 := Scalar.subi arg18 c2_i32_58
  let c2_i32_65 : BitVec 32 := 2#32
  let c0_i32_66 : BitVec 32 := 0#32
  let v74 : BitVec 1 := Scalar.cmpi .eq c2_i32_65 c0_i32_66
  let c1_i32_67 : BitVec 32 := 1#32
  let v75 : BitVec 32 := Scalar.select v74 c1_i32_67 c2_i32_65
  let v76 : BitVec 32 := Scalar.remsi v62 v75
  let c0_i32_69 : BitVec 32 := 0#32
  let v78 : BitVec 1 := Scalar.cmpi .slt v76 c0_i32_69
  let c0_i32_70 : BitVec 32 := 0#32
  let v79 : BitVec 1 := Scalar.cmpi .slt v75 c0_i32_70
  let v80 : BitVec 1 := Scalar.xori v78 v79
  let c0_i32_68 : BitVec 32 := 0#32
  let v77 : BitVec 1 := Scalar.cmpi .ne v76 c0_i32_68
  let v81 : BitVec 1 := Scalar.andi v80 v77
  let v82 : BitVec 32 := Scalar.addi v76 v75
  let v83 : BitVec 32 := Scalar.select v81 v82 v76
  ![v83.toNat]
def k0_off10 (k0_t2 : Fin k0_t2_loop.trips) : Fin 2 → Nat :=
  let c0_i32_71 : BitVec 32 := 0#32
  let c0_i32_2 : BitVec 32 := 0#32
  let c1_i32_3 : BitVec 32 := 1#32
  let arg18 : BitVec 32 := Scf.iv c0_i32_2 c1_i32_3 k0_t2
  let c2_i32_58 : BitVec 32 := 2#32
  let v62 : BitVec 32 := Scalar.subi arg18 c2_i32_58
  let c256_i32 : BitVec 32 := 256#32
  let v73 : BitVec 32 := Scalar.muli v62 c256_i32
  ![0, v73.toNat]
def k0_off11 (k0_t2 : Fin k0_t2_loop.trips) : Fin 3 → Nat :=
  let c0_i32_2 : BitVec 32 := 0#32
  let c1_i32_3 : BitVec 32 := 1#32
  let arg18 : BitVec 32 := Scf.iv c0_i32_2 c1_i32_3 k0_t2
  let c2_i32_58 : BitVec 32 := 2#32
  let v62 : BitVec 32 := Scalar.subi arg18 c2_i32_58
  let c2_i32_59 : BitVec 32 := 2#32
  let c0_i32_60 : BitVec 32 := 0#32
  let v63 : BitVec 1 := Scalar.cmpi .eq c2_i32_59 c0_i32_60
  let c1_i32_61 : BitVec 32 := 1#32
  let v64 : BitVec 32 := Scalar.select v63 c1_i32_61 c2_i32_59
  let v65 : BitVec 32 := Scalar.remsi v62 v64
  let c0_i32_63 : BitVec 32 := 0#32
  let v67 : BitVec 1 := Scalar.cmpi .slt v65 c0_i32_63
  let c0_i32_64 : BitVec 32 := 0#32
  let v68 : BitVec 1 := Scalar.cmpi .slt v64 c0_i32_64
  let v69 : BitVec 1 := Scalar.xori v67 v68
  let c0_i32_62 : BitVec 32 := 0#32
  let v66 : BitVec 1 := Scalar.cmpi .ne v65 c0_i32_62
  let v70 : BitVec 1 := Scalar.andi v69 v66
  let v71 : BitVec 32 := Scalar.addi v65 v64
  let v72 : BitVec 32 := Scalar.select v70 v71 v65
  let c0_i32_72 : BitVec 32 := 0#32
  let c0_i32_73 : BitVec 32 := 0#32
  ![v72.toNat, 0, 0]
@[reducible] def k0_t3_loop : Scf.Loop 32 :=
  let c0_i32_55 : BitVec 32 := 0#32
  let c32_i32 : BitVec 32 := 32#32
  let v61 : BitVec 32 := Scalar.addi c0_i32_55 c32_i32
  let c1_i32_56 : BitVec 32 := 1#32
  ⟨c0_i32_55, v61, c1_i32_56⟩
def k0_cond3 (k0_t2 : Fin k0_t2_loop.trips) (k0_t3 : Fin k0_t3_loop.trips) : BitVec 1 :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c0_i32_61 : BitVec 32 := 0#32
  let v66 : BitVec 1 := Scalar.cmpi .sge v65 c0_i32_61
  let v67 : BitVec 32 := Scalar.extui v66
  let c0_i32_62 : BitVec 32 := 0#32
  let v68 : BitVec 1 := Scalar.cmpi .ne v67 c0_i32_62
  v68

def k0_off12 (k0_t2 : Fin k0_t2_loop.trips) (k0_t3 : Fin k0_t3_loop.trips) : Fin 1 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c42_i32_87 : BitVec 32 := 42#32
  let c0_i32_88 : BitVec 32 := 0#32
  let v116 : BitVec 1 := Scalar.cmpi .eq c42_i32_87 c0_i32_88
  let c1_i32_89 : BitVec 32 := 1#32
  let v117 : BitVec 32 := Scalar.select v116 c1_i32_89 c42_i32_87
  let v118 : BitVec 32 := Scalar.remsi v65 v117
  let c0_i32_91 : BitVec 32 := 0#32
  let v120 : BitVec 1 := Scalar.cmpi .slt v118 c0_i32_91
  let c0_i32_92 : BitVec 32 := 0#32
  let v121 : BitVec 1 := Scalar.cmpi .slt v117 c0_i32_92
  let v122 : BitVec 1 := Scalar.xori v120 v121
  let c0_i32_90 : BitVec 32 := 0#32
  let v119 : BitVec 1 := Scalar.cmpi .ne v118 c0_i32_90
  let v123 : BitVec 1 := Scalar.andi v122 v119
  let v124 : BitVec 32 := Scalar.addi v118 v117
  let v125 : BitVec 32 := Scalar.select v123 v124 v118
  ![v125.toNat]
def k0_off13 (k0_t2 : Fin k0_t2_loop.trips) (k0_t3 : Fin k0_t3_loop.trips) : Fin 2 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c32_i32_81 : BitVec 32 := 32#32
  let c0_i32_82 : BitVec 32 := 0#32
  let v106 : BitVec 1 := Scalar.cmpi .eq c32_i32_81 c0_i32_82
  let c1_i32_83 : BitVec 32 := 1#32
  let v107 : BitVec 32 := Scalar.select v106 c1_i32_83 c32_i32_81
  let v108 : BitVec 32 := Scalar.remsi v65 v107
  let c0_i32_85 : BitVec 32 := 0#32
  let v110 : BitVec 1 := Scalar.cmpi .slt v108 c0_i32_85
  let c0_i32_86 : BitVec 32 := 0#32
  let v111 : BitVec 1 := Scalar.cmpi .slt v107 c0_i32_86
  let v112 : BitVec 1 := Scalar.xori v110 v111
  let c0_i32_84 : BitVec 32 := 0#32
  let v109 : BitVec 1 := Scalar.cmpi .ne v108 c0_i32_84
  let v113 : BitVec 1 := Scalar.andi v112 v109
  let v114 : BitVec 32 := Scalar.addi v108 v107
  let v115 : BitVec 32 := Scalar.select v113 v114 v108
  let c1024_i32 : BitVec 32 := 1024#32
  let v126 : BitVec 32 := Scalar.muli v115 c1024_i32
  let c0_i32_75 : BitVec 32 := 0#32
  let v90 : BitVec 1 := Scalar.cmpi .sgt v65 c0_i32_75
  let v91 : BitVec 32 := Scalar.extui v90
  let c0_i32_76 : BitVec 32 := 0#32
  let v92 : BitVec 1 := Scalar.cmpi .slt v65 c0_i32_76
  let v93 : BitVec 32 := Scalar.extui v92
  let v94 : BitVec 32 := Scalar.subi v91 v93
  let c32_i32_74 : BitVec 32 := 32#32
  let c0_i32_77 : BitVec 32 := 0#32
  let v95 : BitVec 1 := Scalar.cmpi .sgt c32_i32_74 c0_i32_77
  let v96 : BitVec 32 := Scalar.extui v95
  let c0_i32_78 : BitVec 32 := 0#32
  let v97 : BitVec 1 := Scalar.cmpi .slt c32_i32_74 c0_i32_78
  let v98 : BitVec 32 := Scalar.extui v97
  let v99 : BitVec 32 := Scalar.subi v96 v98
  let v100 : BitVec 1 := Scalar.cmpi .ne v94 v99
  let v101 : BitVec 32 := Scalar.remsi v65 c32_i32_74
  let c0_i32_79 : BitVec 32 := 0#32
  let v102 : BitVec 1 := Scalar.cmpi .ne v101 c0_i32_79
  let v103 : BitVec 1 := Scalar.andi v100 v102
  let v89 : BitVec 32 := Scalar.divsi v65 c32_i32_74
  let c1_i32_80 : BitVec 32 := 1#32
  let v104 : BitVec 32 := Scalar.subi v89 c1_i32_80
  let v105 : BitVec 32 := Scalar.select v103 v104 v89
  let c256_i32 : BitVec 32 := 256#32
  let v127 : BitVec 32 := Scalar.muli v105 c256_i32
  ![v126.toNat, v127.toNat]
def k0_off14 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c42_i32_87 : BitVec 32 := 42#32
  let c0_i32_88 : BitVec 32 := 0#32
  let v116 : BitVec 1 := Scalar.cmpi .eq c42_i32_87 c0_i32_88
  let c1_i32_89 : BitVec 32 := 1#32
  let v117 : BitVec 32 := Scalar.select v116 c1_i32_89 c42_i32_87
  let v118 : BitVec 32 := Scalar.remsi v65 v117
  let c0_i32_91 : BitVec 32 := 0#32
  let v120 : BitVec 1 := Scalar.cmpi .slt v118 c0_i32_91
  let c0_i32_92 : BitVec 32 := 0#32
  let v121 : BitVec 1 := Scalar.cmpi .slt v117 c0_i32_92
  let v122 : BitVec 1 := Scalar.xori v120 v121
  let c0_i32_90 : BitVec 32 := 0#32
  let v119 : BitVec 1 := Scalar.cmpi .ne v118 c0_i32_90
  let v123 : BitVec 1 := Scalar.andi v122 v119
  let v124 : BitVec 32 := Scalar.addi v118 v117
  let v125 : BitVec 32 := Scalar.select v123 v124 v118
  let c0_i32_93 : BitVec 32 := 0#32
  let c0_i32_94 : BitVec 32 := 0#32
  ![v125.toNat, 0, 0]
def k0_cond4 (k0_t2 : Fin k0_t2_loop.trips) (k0_t3 : Fin k0_t3_loop.trips) : BitVec 1 :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c0_i32_63 : BitVec 32 := 0#32
  let v69 : BitVec 1 := Scalar.cmpi .sge v65 c0_i32_63
  let c42_i32_64 : BitVec 32 := 42#32
  let v70 : BitVec 32 := Scalar.addi v65 c42_i32_64
  let c512_i32 : BitVec 32 := 512#32
  let v71 : BitVec 1 := Scalar.cmpi .slt v70 c512_i32
  let v72 : BitVec 1 := Scalar.andi v69 v71
  let v73 : BitVec 32 := Scalar.extui v72
  let c0_i32_65 : BitVec 32 := 0#32
  let v74 : BitVec 1 := Scalar.cmpi .ne v73 c0_i32_65
  v74

def k0_off15 (k0_t2 : Fin k0_t2_loop.trips) (k0_t3 : Fin k0_t3_loop.trips) : Fin 1 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c42_i32_74 : BitVec 32 := 42#32
  let v89 : BitVec 32 := Scalar.addi v65 c42_i32_74
  let c42_i32_88 : BitVec 32 := 42#32
  let c0_i32_89 : BitVec 32 := 0#32
  let v117 : BitVec 1 := Scalar.cmpi .eq c42_i32_88 c0_i32_89
  let c1_i32_90 : BitVec 32 := 1#32
  let v118 : BitVec 32 := Scalar.select v117 c1_i32_90 c42_i32_88
  let v119 : BitVec 32 := Scalar.remsi v89 v118
  let c0_i32_92 : BitVec 32 := 0#32
  let v121 : BitVec 1 := Scalar.cmpi .slt v119 c0_i32_92
  let c0_i32_93 : BitVec 32 := 0#32
  let v122 : BitVec 1 := Scalar.cmpi .slt v118 c0_i32_93
  let v123 : BitVec 1 := Scalar.xori v121 v122
  let c0_i32_91 : BitVec 32 := 0#32
  let v120 : BitVec 1 := Scalar.cmpi .ne v119 c0_i32_91
  let v124 : BitVec 1 := Scalar.andi v123 v120
  let v125 : BitVec 32 := Scalar.addi v119 v118
  let v126 : BitVec 32 := Scalar.select v124 v125 v119
  ![v126.toNat]
def k0_off16 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c42_i32_74 : BitVec 32 := 42#32
  let v89 : BitVec 32 := Scalar.addi v65 c42_i32_74
  let c42_i32_88 : BitVec 32 := 42#32
  let c0_i32_89 : BitVec 32 := 0#32
  let v117 : BitVec 1 := Scalar.cmpi .eq c42_i32_88 c0_i32_89
  let c1_i32_90 : BitVec 32 := 1#32
  let v118 : BitVec 32 := Scalar.select v117 c1_i32_90 c42_i32_88
  let v119 : BitVec 32 := Scalar.remsi v89 v118
  let c0_i32_92 : BitVec 32 := 0#32
  let v121 : BitVec 1 := Scalar.cmpi .slt v119 c0_i32_92
  let c0_i32_93 : BitVec 32 := 0#32
  let v122 : BitVec 1 := Scalar.cmpi .slt v118 c0_i32_93
  let v123 : BitVec 1 := Scalar.xori v121 v122
  let c0_i32_91 : BitVec 32 := 0#32
  let v120 : BitVec 1 := Scalar.cmpi .ne v119 c0_i32_91
  let v124 : BitVec 1 := Scalar.andi v123 v120
  let v125 : BitVec 32 := Scalar.addi v119 v118
  let v126 : BitVec 32 := Scalar.select v124 v125 v119
  let c0_i32_94 : BitVec 32 := 0#32
  let c0_i32_95 : BitVec 32 := 0#32
  ![v126.toNat, 0, 0]
def k0_off17 (k0_t2 : Fin k0_t2_loop.trips) (k0_t3 : Fin k0_t3_loop.trips) : Fin 2 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_59 : BitVec 32 := 32#32
  let v64 : BitVec 32 := Scalar.subi v63 c32_i32_59
  let c4_i32_60 : BitVec 32 := 4#32
  let v65 : BitVec 32 := Scalar.subi v64 c4_i32_60
  let c42_i32_74 : BitVec 32 := 42#32
  let v89 : BitVec 32 := Scalar.addi v65 c42_i32_74
  let c32_i32_82 : BitVec 32 := 32#32
  let c0_i32_83 : BitVec 32 := 0#32
  let v107 : BitVec 1 := Scalar.cmpi .eq c32_i32_82 c0_i32_83
  let c1_i32_84 : BitVec 32 := 1#32
  let v108 : BitVec 32 := Scalar.select v107 c1_i32_84 c32_i32_82
  let v109 : BitVec 32 := Scalar.remsi v89 v108
  let c0_i32_86 : BitVec 32 := 0#32
  let v111 : BitVec 1 := Scalar.cmpi .slt v109 c0_i32_86
  let c0_i32_87 : BitVec 32 := 0#32
  let v112 : BitVec 1 := Scalar.cmpi .slt v108 c0_i32_87
  let v113 : BitVec 1 := Scalar.xori v111 v112
  let c0_i32_85 : BitVec 32 := 0#32
  let v110 : BitVec 1 := Scalar.cmpi .ne v109 c0_i32_85
  let v114 : BitVec 1 := Scalar.andi v113 v110
  let v115 : BitVec 32 := Scalar.addi v109 v108
  let v116 : BitVec 32 := Scalar.select v114 v115 v109
  let c1024_i32 : BitVec 32 := 1024#32
  let v127 : BitVec 32 := Scalar.muli v116 c1024_i32
  let c0_i32_76 : BitVec 32 := 0#32
  let v91 : BitVec 1 := Scalar.cmpi .sgt v89 c0_i32_76
  let v92 : BitVec 32 := Scalar.extui v91
  let c0_i32_77 : BitVec 32 := 0#32
  let v93 : BitVec 1 := Scalar.cmpi .slt v89 c0_i32_77
  let v94 : BitVec 32 := Scalar.extui v93
  let v95 : BitVec 32 := Scalar.subi v92 v94
  let c32_i32_75 : BitVec 32 := 32#32
  let c0_i32_78 : BitVec 32 := 0#32
  let v96 : BitVec 1 := Scalar.cmpi .sgt c32_i32_75 c0_i32_78
  let v97 : BitVec 32 := Scalar.extui v96
  let c0_i32_79 : BitVec 32 := 0#32
  let v98 : BitVec 1 := Scalar.cmpi .slt c32_i32_75 c0_i32_79
  let v99 : BitVec 32 := Scalar.extui v98
  let v100 : BitVec 32 := Scalar.subi v97 v99
  let v101 : BitVec 1 := Scalar.cmpi .ne v95 v100
  let v102 : BitVec 32 := Scalar.remsi v89 c32_i32_75
  let c0_i32_80 : BitVec 32 := 0#32
  let v103 : BitVec 1 := Scalar.cmpi .ne v102 c0_i32_80
  let v104 : BitVec 1 := Scalar.andi v101 v103
  let v90 : BitVec 32 := Scalar.divsi v89 c32_i32_75
  let c1_i32_81 : BitVec 32 := 1#32
  let v105 : BitVec 32 := Scalar.subi v90 c1_i32_81
  let v106 : BitVec 32 := Scalar.select v104 v105 v90
  let c256_i32 : BitVec 32 := 256#32
  let v128 : BitVec 32 := Scalar.muli v106 c256_i32
  ![v127.toNat, v128.toNat]
def k0_cond5 (k0_t2 : Fin k0_t2_loop.trips) : BitVec 1 :=
  let c0_i32_2 : BitVec 32 := 0#32
  let c1_i32_3 : BitVec 32 := 1#32
  let arg18 : BitVec 32 := Scf.iv c0_i32_2 c1_i32_3 k0_t2
  let c0_i32_66 : BitVec 32 := 0#32
  let v75 : BitVec 1 := Scalar.cmpi .sgt arg18 c0_i32_66
  let v76 : BitVec 32 := Scalar.extui v75
  let c0_i32_67 : BitVec 32 := 0#32
  let v77 : BitVec 1 := Scalar.cmpi .ne v76 c0_i32_67
  v77

def k0_mult2 (k0_t3 : Fin k0_t3_loop.trips) : BitVec 32 :=
  let c0_i32_55 : BitVec 32 := 0#32
  let c1_i32_56 : BitVec 32 := 1#32
  let arg19 : BitVec 32 := Scf.iv c0_i32_55 c1_i32_56 k0_t3
  let c1024_i32 : BitVec 32 := 1024#32
  let v102 : BitVec 32 := Scalar.muli arg19 c1024_i32
  v102
def k0_off18 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c1_i32_74 : BitVec 32 := 1#32
  let v89 : BitVec 32 := Scalar.subi arg18 c1_i32_74
  let c32_i32_75 : BitVec 32 := 32#32
  let v90 : BitVec 32 := Scalar.muli v89 c32_i32_75
  let c0_i32_55 : BitVec 32 := 0#32
  let c1_i32_56 : BitVec 32 := 1#32
  let arg19 : BitVec 32 := Scf.iv c0_i32_55 c1_i32_56 k0_t3
  let v91 : BitVec 32 := Scalar.addi v90 arg19
  let c42_i32_76 : BitVec 32 := 42#32
  let c0_i32_77 : BitVec 32 := 0#32
  let v92 : BitVec 1 := Scalar.cmpi .eq c42_i32_76 c0_i32_77
  let c1_i32_78 : BitVec 32 := 1#32
  let v93 : BitVec 32 := Scalar.select v92 c1_i32_78 c42_i32_76
  let v94 : BitVec 32 := Scalar.remsi v91 v93
  let c0_i32_80 : BitVec 32 := 0#32
  let v96 : BitVec 1 := Scalar.cmpi .slt v94 c0_i32_80
  let c0_i32_81 : BitVec 32 := 0#32
  let v97 : BitVec 1 := Scalar.cmpi .slt v93 c0_i32_81
  let v98 : BitVec 1 := Scalar.xori v96 v97
  let c0_i32_79 : BitVec 32 := 0#32
  let v95 : BitVec 1 := Scalar.cmpi .ne v94 c0_i32_79
  let v99 : BitVec 1 := Scalar.andi v98 v95
  let v100 : BitVec 32 := Scalar.addi v94 v93
  let v101 : BitVec 32 := Scalar.select v99 v100 v94
  let v104 : Index := Scalar.indexCast v101
  let c0_82 : Index := 0#32
  let c0_83 : Index := 0#32
  ![v104.toNat, 0, 0]
def k0_off19 (k0_t3 : Fin k0_t3_loop.trips) : Fin 2 → Nat :=
  let c0_i32_55 : BitVec 32 := 0#32
  let c1_i32_56 : BitVec 32 := 1#32
  let arg19 : BitVec 32 := Scf.iv c0_i32_55 c1_i32_56 k0_t3
  let c1024_i32 : BitVec 32 := 1024#32
  let v102 : BitVec 32 := Scalar.muli arg19 c1024_i32
  let v103 : BitVec 32 := v102
  let v107 : Index := Scalar.indexCast v103
  let c0_84 : Index := 0#32
  ![v107.toNat, 0]
def k0_cond6 (k0_t2 : Fin k0_t2_loop.trips) (k0_t3 : Fin k0_t3_loop.trips) : BitVec 1 :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c1_i32_68 : BitVec 32 := 1#32
  let v78 : BitVec 1 := Scalar.cmpi .sge v63 c1_i32_68
  let c512_i32_69 : BitVec 32 := 512#32
  let v79 : BitVec 1 := Scalar.cmpi .sle v63 c512_i32_69
  let v80 : BitVec 1 := Scalar.andi v78 v79
  let v81 : BitVec 32 := Scalar.extui v80
  let c0_i32_70 : BitVec 32 := 0#32
  let v82 : BitVec 1 := Scalar.cmpi .ne v81 c0_i32_70
  v82

def k0_off20 (k0_t2 : Fin k0_t2_loop.trips) (k0_t3 : Fin k0_t3_loop.trips) : Fin 1 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c1_i32_74 : BitVec 32 := 1#32
  let v89 : BitVec 32 := Scalar.subi v63 c1_i32_74
  let c4_i32_88 : BitVec 32 := 4#32
  let c0_i32_89 : BitVec 32 := 0#32
  let v117 : BitVec 1 := Scalar.cmpi .eq c4_i32_88 c0_i32_89
  let c1_i32_90 : BitVec 32 := 1#32
  let v118 : BitVec 32 := Scalar.select v117 c1_i32_90 c4_i32_88
  let v119 : BitVec 32 := Scalar.remsi v89 v118
  let c0_i32_92 : BitVec 32 := 0#32
  let v121 : BitVec 1 := Scalar.cmpi .slt v119 c0_i32_92
  let c0_i32_93 : BitVec 32 := 0#32
  let v122 : BitVec 1 := Scalar.cmpi .slt v118 c0_i32_93
  let v123 : BitVec 1 := Scalar.xori v121 v122
  let c0_i32_91 : BitVec 32 := 0#32
  let v120 : BitVec 1 := Scalar.cmpi .ne v119 c0_i32_91
  let v124 : BitVec 1 := Scalar.andi v123 v120
  let v125 : BitVec 32 := Scalar.addi v119 v118
  let v126 : BitVec 32 := Scalar.select v124 v125 v119
  ![v126.toNat]
def k0_off21 (k0_t2 : Fin k0_t2_loop.trips) (k0_t3 : Fin k0_t3_loop.trips) : Fin 2 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c1_i32_74 : BitVec 32 := 1#32
  let v89 : BitVec 32 := Scalar.subi v63 c1_i32_74
  let c32_i32_82 : BitVec 32 := 32#32
  let c0_i32_83 : BitVec 32 := 0#32
  let v107 : BitVec 1 := Scalar.cmpi .eq c32_i32_82 c0_i32_83
  let c1_i32_84 : BitVec 32 := 1#32
  let v108 : BitVec 32 := Scalar.select v107 c1_i32_84 c32_i32_82
  let v109 : BitVec 32 := Scalar.remsi v89 v108
  let c0_i32_86 : BitVec 32 := 0#32
  let v111 : BitVec 1 := Scalar.cmpi .slt v109 c0_i32_86
  let c0_i32_87 : BitVec 32 := 0#32
  let v112 : BitVec 1 := Scalar.cmpi .slt v108 c0_i32_87
  let v113 : BitVec 1 := Scalar.xori v111 v112
  let c0_i32_85 : BitVec 32 := 0#32
  let v110 : BitVec 1 := Scalar.cmpi .ne v109 c0_i32_85
  let v114 : BitVec 1 := Scalar.andi v113 v110
  let v115 : BitVec 32 := Scalar.addi v109 v108
  let v116 : BitVec 32 := Scalar.select v114 v115 v109
  let c1024_i32 : BitVec 32 := 1024#32
  let v127 : BitVec 32 := Scalar.muli v116 c1024_i32
  let c0_i32_76 : BitVec 32 := 0#32
  let v91 : BitVec 1 := Scalar.cmpi .sgt v89 c0_i32_76
  let v92 : BitVec 32 := Scalar.extui v91
  let c0_i32_77 : BitVec 32 := 0#32
  let v93 : BitVec 1 := Scalar.cmpi .slt v89 c0_i32_77
  let v94 : BitVec 32 := Scalar.extui v93
  let v95 : BitVec 32 := Scalar.subi v92 v94
  let c32_i32_75 : BitVec 32 := 32#32
  let c0_i32_78 : BitVec 32 := 0#32
  let v96 : BitVec 1 := Scalar.cmpi .sgt c32_i32_75 c0_i32_78
  let v97 : BitVec 32 := Scalar.extui v96
  let c0_i32_79 : BitVec 32 := 0#32
  let v98 : BitVec 1 := Scalar.cmpi .slt c32_i32_75 c0_i32_79
  let v99 : BitVec 32 := Scalar.extui v98
  let v100 : BitVec 32 := Scalar.subi v97 v99
  let v101 : BitVec 1 := Scalar.cmpi .ne v95 v100
  let v102 : BitVec 32 := Scalar.remsi v89 c32_i32_75
  let c0_i32_80 : BitVec 32 := 0#32
  let v103 : BitVec 1 := Scalar.cmpi .ne v102 c0_i32_80
  let v104 : BitVec 1 := Scalar.andi v101 v103
  let v90 : BitVec 32 := Scalar.divsi v89 c32_i32_75
  let c1_i32_81 : BitVec 32 := 1#32
  let v105 : BitVec 32 := Scalar.subi v90 c1_i32_81
  let v106 : BitVec 32 := Scalar.select v104 v105 v90
  let c256_i32 : BitVec 32 := 256#32
  let v128 : BitVec 32 := Scalar.muli v106 c256_i32
  ![v127.toNat, v128.toNat]
def k0_off22 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c1_i32_74 : BitVec 32 := 1#32
  let v89 : BitVec 32 := Scalar.subi v63 c1_i32_74
  let c4_i32_88 : BitVec 32 := 4#32
  let c0_i32_89 : BitVec 32 := 0#32
  let v117 : BitVec 1 := Scalar.cmpi .eq c4_i32_88 c0_i32_89
  let c1_i32_90 : BitVec 32 := 1#32
  let v118 : BitVec 32 := Scalar.select v117 c1_i32_90 c4_i32_88
  let v119 : BitVec 32 := Scalar.remsi v89 v118
  let c0_i32_92 : BitVec 32 := 0#32
  let v121 : BitVec 1 := Scalar.cmpi .slt v119 c0_i32_92
  let c0_i32_93 : BitVec 32 := 0#32
  let v122 : BitVec 1 := Scalar.cmpi .slt v118 c0_i32_93
  let v123 : BitVec 1 := Scalar.xori v121 v122
  let c0_i32_91 : BitVec 32 := 0#32
  let v120 : BitVec 1 := Scalar.cmpi .ne v119 c0_i32_91
  let v124 : BitVec 1 := Scalar.andi v123 v120
  let v125 : BitVec 32 := Scalar.addi v119 v118
  let v126 : BitVec 32 := Scalar.select v124 v125 v119
  let c0_i32_94 : BitVec 32 := 0#32
  let c0_i32_95 : BitVec 32 := 0#32
  ![v126.toNat, 0, 0]
def k0_cond7 (k0_t2 : Fin k0_t2_loop.trips) : BitVec 1 :=
  let c0_i32_2 : BitVec 32 := 0#32
  let c1_i32_3 : BitVec 32 := 1#32
  let arg18 : BitVec 32 := Scf.iv c0_i32_2 c1_i32_3 k0_t2
  let c16_i32 : BitVec 32 := 16#32
  let v83 : BitVec 1 := Scalar.cmpi .slt arg18 c16_i32
  let v84 : BitVec 32 := Scalar.extui v83
  let c0_i32_71 : BitVec 32 := 0#32
  let v85 : BitVec 1 := Scalar.cmpi .ne v84 c0_i32_71
  v85

def k0_off23 (k0_t2 : Fin k0_t2_loop.trips) (k0_t3 : Fin k0_t3_loop.trips) : Fin 1 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_88 : BitVec 32 := 42#32
  let c0_i32_89 : BitVec 32 := 0#32
  let v118 : BitVec 1 := Scalar.cmpi .eq c42_i32_88 c0_i32_89
  let c1_i32_90 : BitVec 32 := 1#32
  let v119 : BitVec 32 := Scalar.select v118 c1_i32_90 c42_i32_88
  let v120 : BitVec 32 := Scalar.remsi v90 v119
  let c0_i32_92 : BitVec 32 := 0#32
  let v122 : BitVec 1 := Scalar.cmpi .slt v120 c0_i32_92
  let c0_i32_93 : BitVec 32 := 0#32
  let v123 : BitVec 1 := Scalar.cmpi .slt v119 c0_i32_93
  let v124 : BitVec 1 := Scalar.xori v122 v123
  let c0_i32_91 : BitVec 32 := 0#32
  let v121 : BitVec 1 := Scalar.cmpi .ne v120 c0_i32_91
  let v125 : BitVec 1 := Scalar.andi v124 v121
  let v126 : BitVec 32 := Scalar.addi v120 v119
  let v127 : BitVec 32 := Scalar.select v125 v126 v120
  ![v127.toNat]
def k0_off24 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_88 : BitVec 32 := 42#32
  let c0_i32_89 : BitVec 32 := 0#32
  let v118 : BitVec 1 := Scalar.cmpi .eq c42_i32_88 c0_i32_89
  let c1_i32_90 : BitVec 32 := 1#32
  let v119 : BitVec 32 := Scalar.select v118 c1_i32_90 c42_i32_88
  let v120 : BitVec 32 := Scalar.remsi v90 v119
  let c0_i32_92 : BitVec 32 := 0#32
  let v122 : BitVec 1 := Scalar.cmpi .slt v120 c0_i32_92
  let c0_i32_93 : BitVec 32 := 0#32
  let v123 : BitVec 1 := Scalar.cmpi .slt v119 c0_i32_93
  let v124 : BitVec 1 := Scalar.xori v122 v123
  let c0_i32_91 : BitVec 32 := 0#32
  let v121 : BitVec 1 := Scalar.cmpi .ne v120 c0_i32_91
  let v125 : BitVec 1 := Scalar.andi v124 v121
  let v126 : BitVec 32 := Scalar.addi v120 v119
  let v127 : BitVec 32 := Scalar.select v125 v126 v120
  let c0_i32_94 : BitVec 32 := 0#32
  let c0_i32_95 : BitVec 32 := 0#32
  ![v127.toNat, 0, 0]
def k0_off25 (k0_t2 : Fin k0_t2_loop.trips) (k0_t3 : Fin k0_t3_loop.trips) : Fin 2 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c32_i32_82 : BitVec 32 := 32#32
  let c0_i32_83 : BitVec 32 := 0#32
  let v108 : BitVec 1 := Scalar.cmpi .eq c32_i32_82 c0_i32_83
  let c1_i32_84 : BitVec 32 := 1#32
  let v109 : BitVec 32 := Scalar.select v108 c1_i32_84 c32_i32_82
  let v110 : BitVec 32 := Scalar.remsi v90 v109
  let c0_i32_86 : BitVec 32 := 0#32
  let v112 : BitVec 1 := Scalar.cmpi .slt v110 c0_i32_86
  let c0_i32_87 : BitVec 32 := 0#32
  let v113 : BitVec 1 := Scalar.cmpi .slt v109 c0_i32_87
  let v114 : BitVec 1 := Scalar.xori v112 v113
  let c0_i32_85 : BitVec 32 := 0#32
  let v111 : BitVec 1 := Scalar.cmpi .ne v110 c0_i32_85
  let v115 : BitVec 1 := Scalar.andi v114 v111
  let v116 : BitVec 32 := Scalar.addi v110 v109
  let v117 : BitVec 32 := Scalar.select v115 v116 v110
  let c1024_i32 : BitVec 32 := 1024#32
  let v128 : BitVec 32 := Scalar.muli v117 c1024_i32
  let c0_i32_76 : BitVec 32 := 0#32
  let v92 : BitVec 1 := Scalar.cmpi .sgt v90 c0_i32_76
  let v93 : BitVec 32 := Scalar.extui v92
  let c0_i32_77 : BitVec 32 := 0#32
  let v94 : BitVec 1 := Scalar.cmpi .slt v90 c0_i32_77
  let v95 : BitVec 32 := Scalar.extui v94
  let v96 : BitVec 32 := Scalar.subi v93 v95
  let c32_i32_75 : BitVec 32 := 32#32
  let c0_i32_78 : BitVec 32 := 0#32
  let v97 : BitVec 1 := Scalar.cmpi .sgt c32_i32_75 c0_i32_78
  let v98 : BitVec 32 := Scalar.extui v97
  let c0_i32_79 : BitVec 32 := 0#32
  let v99 : BitVec 1 := Scalar.cmpi .slt c32_i32_75 c0_i32_79
  let v100 : BitVec 32 := Scalar.extui v99
  let v101 : BitVec 32 := Scalar.subi v98 v100
  let v102 : BitVec 1 := Scalar.cmpi .ne v96 v101
  let v103 : BitVec 32 := Scalar.remsi v90 c32_i32_75
  let c0_i32_80 : BitVec 32 := 0#32
  let v104 : BitVec 1 := Scalar.cmpi .ne v103 c0_i32_80
  let v105 : BitVec 1 := Scalar.andi v102 v104
  let v91 : BitVec 32 := Scalar.divsi v90 c32_i32_75
  let c1_i32_81 : BitVec 32 := 1#32
  let v106 : BitVec 32 := Scalar.subi v91 c1_i32_81
  let v107 : BitVec 32 := Scalar.select v105 v106 v91
  let c256_i32 : BitVec 32 := 256#32
  let v129 : BitVec 32 := Scalar.muli v107 c256_i32
  ![v128.toNat, v129.toNat]
def k0_cond8 (k0_t2 : Fin k0_t2_loop.trips) (k0_t3 : Fin k0_t3_loop.trips) : BitVec 1 :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_96 : BitVec 32 := 4#32
  let v135 : BitVec 1 := Scalar.cmpi .sge v90 c4_i32_96
  let v136 : BitVec 32 := Scalar.extui v135
  let c0_i32_97 : BitVec 32 := 0#32
  let v137 : BitVec 1 := Scalar.cmpi .ne v136 c0_i32_97
  v137

def k0_off26 (k0_t2 : Fin k0_t2_loop.trips) (k0_t3 : Fin k0_t3_loop.trips) : Fin 1 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_323 : BitVec 32 := 4#32
  let v698 : BitVec 32 := Scalar.subi v90 c4_i32_323
  let c4_i32_337 : BitVec 32 := 4#32
  let c0_i32_338 : BitVec 32 := 0#32
  let v726 : BitVec 1 := Scalar.cmpi .eq c4_i32_337 c0_i32_338
  let c1_i32_339 : BitVec 32 := 1#32
  let v727 : BitVec 32 := Scalar.select v726 c1_i32_339 c4_i32_337
  let v728 : BitVec 32 := Scalar.remsi v698 v727
  let c0_i32_341 : BitVec 32 := 0#32
  let v730 : BitVec 1 := Scalar.cmpi .slt v728 c0_i32_341
  let c0_i32_342 : BitVec 32 := 0#32
  let v731 : BitVec 1 := Scalar.cmpi .slt v727 c0_i32_342
  let v732 : BitVec 1 := Scalar.xori v730 v731
  let c0_i32_340 : BitVec 32 := 0#32
  let v729 : BitVec 1 := Scalar.cmpi .ne v728 c0_i32_340
  let v733 : BitVec 1 := Scalar.andi v732 v729
  let v734 : BitVec 32 := Scalar.addi v728 v727
  let v735 : BitVec 32 := Scalar.select v733 v734 v728
  ![v735.toNat]
def k0_off27 (k0_t2 : Fin k0_t2_loop.trips) (k0_t3 : Fin k0_t3_loop.trips) : Fin 2 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_323 : BitVec 32 := 4#32
  let v698 : BitVec 32 := Scalar.subi v90 c4_i32_323
  let c32_i32_331 : BitVec 32 := 32#32
  let c0_i32_332 : BitVec 32 := 0#32
  let v716 : BitVec 1 := Scalar.cmpi .eq c32_i32_331 c0_i32_332
  let c1_i32_333 : BitVec 32 := 1#32
  let v717 : BitVec 32 := Scalar.select v716 c1_i32_333 c32_i32_331
  let v718 : BitVec 32 := Scalar.remsi v698 v717
  let c0_i32_335 : BitVec 32 := 0#32
  let v720 : BitVec 1 := Scalar.cmpi .slt v718 c0_i32_335
  let c0_i32_336 : BitVec 32 := 0#32
  let v721 : BitVec 1 := Scalar.cmpi .slt v717 c0_i32_336
  let v722 : BitVec 1 := Scalar.xori v720 v721
  let c0_i32_334 : BitVec 32 := 0#32
  let v719 : BitVec 1 := Scalar.cmpi .ne v718 c0_i32_334
  let v723 : BitVec 1 := Scalar.andi v722 v719
  let v724 : BitVec 32 := Scalar.addi v718 v717
  let v725 : BitVec 32 := Scalar.select v723 v724 v718
  let c1024_i32_343 : BitVec 32 := 1024#32
  let v736 : BitVec 32 := Scalar.muli v725 c1024_i32_343
  let c0_i32_325 : BitVec 32 := 0#32
  let v700 : BitVec 1 := Scalar.cmpi .sgt v698 c0_i32_325
  let v701 : BitVec 32 := Scalar.extui v700
  let c0_i32_326 : BitVec 32 := 0#32
  let v702 : BitVec 1 := Scalar.cmpi .slt v698 c0_i32_326
  let v703 : BitVec 32 := Scalar.extui v702
  let v704 : BitVec 32 := Scalar.subi v701 v703
  let c32_i32_324 : BitVec 32 := 32#32
  let c0_i32_327 : BitVec 32 := 0#32
  let v705 : BitVec 1 := Scalar.cmpi .sgt c32_i32_324 c0_i32_327
  let v706 : BitVec 32 := Scalar.extui v705
  let c0_i32_328 : BitVec 32 := 0#32
  let v707 : BitVec 1 := Scalar.cmpi .slt c32_i32_324 c0_i32_328
  let v708 : BitVec 32 := Scalar.extui v707
  let v709 : BitVec 32 := Scalar.subi v706 v708
  let v710 : BitVec 1 := Scalar.cmpi .ne v704 v709
  let v711 : BitVec 32 := Scalar.remsi v698 c32_i32_324
  let c0_i32_329 : BitVec 32 := 0#32
  let v712 : BitVec 1 := Scalar.cmpi .ne v711 c0_i32_329
  let v713 : BitVec 1 := Scalar.andi v710 v712
  let v699 : BitVec 32 := Scalar.divsi v698 c32_i32_324
  let c1_i32_330 : BitVec 32 := 1#32
  let v714 : BitVec 32 := Scalar.subi v699 c1_i32_330
  let v715 : BitVec 32 := Scalar.select v713 v714 v699
  let c256_i32_344 : BitVec 32 := 256#32
  let v737 : BitVec 32 := Scalar.muli v715 c256_i32_344
  ![v736.toNat, v737.toNat]
def k0_off28 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_323 : BitVec 32 := 4#32
  let v698 : BitVec 32 := Scalar.subi v90 c4_i32_323
  let c4_i32_337 : BitVec 32 := 4#32
  let c0_i32_338 : BitVec 32 := 0#32
  let v726 : BitVec 1 := Scalar.cmpi .eq c4_i32_337 c0_i32_338
  let c1_i32_339 : BitVec 32 := 1#32
  let v727 : BitVec 32 := Scalar.select v726 c1_i32_339 c4_i32_337
  let v728 : BitVec 32 := Scalar.remsi v698 v727
  let c0_i32_341 : BitVec 32 := 0#32
  let v730 : BitVec 1 := Scalar.cmpi .slt v728 c0_i32_341
  let c0_i32_342 : BitVec 32 := 0#32
  let v731 : BitVec 1 := Scalar.cmpi .slt v727 c0_i32_342
  let v732 : BitVec 1 := Scalar.xori v730 v731
  let c0_i32_340 : BitVec 32 := 0#32
  let v729 : BitVec 1 := Scalar.cmpi .ne v728 c0_i32_340
  let v733 : BitVec 1 := Scalar.andi v732 v729
  let v734 : BitVec 32 := Scalar.addi v728 v727
  let v735 : BitVec 32 := Scalar.select v733 v734 v728
  let c0_i32_345 : BitVec 32 := 0#32
  let c0_i32_346 : BitVec 32 := 0#32
  ![v735.toNat, 0, 0]
def k0_off29 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v148 : Index := Scalar.indexCast v147
  let c0_104 : Index := 0#32
  let c0_105 : Index := 0#32
  ![v148.toNat, 0, 0]
def k0_off30 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_119 : BitVec 32 := 4#32
  let c0_i32_120 : BitVec 32 := 0#32
  let v199 : BitVec 1 := Scalar.cmpi .eq c4_i32_119 c0_i32_120
  let c1_i32_121 : BitVec 32 := 1#32
  let v200 : BitVec 32 := Scalar.select v199 c1_i32_121 c4_i32_119
  let v201 : BitVec 32 := Scalar.remsi v90 v200
  let c0_i32_123 : BitVec 32 := 0#32
  let v203 : BitVec 1 := Scalar.cmpi .slt v201 c0_i32_123
  let c0_i32_124 : BitVec 32 := 0#32
  let v204 : BitVec 1 := Scalar.cmpi .slt v200 c0_i32_124
  let v205 : BitVec 1 := Scalar.xori v203 v204
  let c0_i32_122 : BitVec 32 := 0#32
  let v202 : BitVec 1 := Scalar.cmpi .ne v201 c0_i32_122
  let v206 : BitVec 1 := Scalar.andi v205 v202
  let v207 : BitVec 32 := Scalar.addi v201 v200
  let v208 : BitVec 32 := Scalar.select v206 v207 v201
  let v209 : Index := Scalar.indexCast v208
  let c0_125 : Index := 0#32
  let c0_126 : Index := 0#32
  ![v209.toNat, 0, 0]
def k0_off31 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v213 : Index := Scalar.indexCast v147
  let c128 : Index := 128#32
  let c0_127 : Index := 0#32
  ![v213.toNat, 128, 0]
def k0_off32 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_145 : BitVec 32 := 4#32
  let c0_i32_146 : BitVec 32 := 0#32
  let v264 : BitVec 1 := Scalar.cmpi .eq c4_i32_145 c0_i32_146
  let c1_i32_147 : BitVec 32 := 1#32
  let v265 : BitVec 32 := Scalar.select v264 c1_i32_147 c4_i32_145
  let v266 : BitVec 32 := Scalar.remsi v90 v265
  let c0_i32_149 : BitVec 32 := 0#32
  let v268 : BitVec 1 := Scalar.cmpi .slt v266 c0_i32_149
  let c0_i32_150 : BitVec 32 := 0#32
  let v269 : BitVec 1 := Scalar.cmpi .slt v265 c0_i32_150
  let v270 : BitVec 1 := Scalar.xori v268 v269
  let c0_i32_148 : BitVec 32 := 0#32
  let v267 : BitVec 1 := Scalar.cmpi .ne v266 c0_i32_148
  let v271 : BitVec 1 := Scalar.andi v270 v267
  let v272 : BitVec 32 := Scalar.addi v266 v265
  let v273 : BitVec 32 := Scalar.select v271 v272 v266
  let v274 : Index := Scalar.indexCast v273
  let c128_151 : Index := 128#32
  let c0_152 : Index := 0#32
  ![v274.toNat, 128, 0]
def k0_off33 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v278 : Index := Scalar.indexCast v147
  let c256 : Index := 256#32
  let c0_153 : Index := 0#32
  ![v278.toNat, 256, 0]
def k0_off34 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_171 : BitVec 32 := 4#32
  let c0_i32_172 : BitVec 32 := 0#32
  let v329 : BitVec 1 := Scalar.cmpi .eq c4_i32_171 c0_i32_172
  let c1_i32_173 : BitVec 32 := 1#32
  let v330 : BitVec 32 := Scalar.select v329 c1_i32_173 c4_i32_171
  let v331 : BitVec 32 := Scalar.remsi v90 v330
  let c0_i32_175 : BitVec 32 := 0#32
  let v333 : BitVec 1 := Scalar.cmpi .slt v331 c0_i32_175
  let c0_i32_176 : BitVec 32 := 0#32
  let v334 : BitVec 1 := Scalar.cmpi .slt v330 c0_i32_176
  let v335 : BitVec 1 := Scalar.xori v333 v334
  let c0_i32_174 : BitVec 32 := 0#32
  let v332 : BitVec 1 := Scalar.cmpi .ne v331 c0_i32_174
  let v336 : BitVec 1 := Scalar.andi v335 v332
  let v337 : BitVec 32 := Scalar.addi v331 v330
  let v338 : BitVec 32 := Scalar.select v336 v337 v331
  let v339 : Index := Scalar.indexCast v338
  let c256_177 : Index := 256#32
  let c0_178 : Index := 0#32
  ![v339.toNat, 256, 0]
def k0_off35 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v343 : Index := Scalar.indexCast v147
  let c384 : Index := 384#32
  let c0_179 : Index := 0#32
  ![v343.toNat, 384, 0]
def k0_off36 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_197 : BitVec 32 := 4#32
  let c0_i32_198 : BitVec 32 := 0#32
  let v394 : BitVec 1 := Scalar.cmpi .eq c4_i32_197 c0_i32_198
  let c1_i32_199 : BitVec 32 := 1#32
  let v395 : BitVec 32 := Scalar.select v394 c1_i32_199 c4_i32_197
  let v396 : BitVec 32 := Scalar.remsi v90 v395
  let c0_i32_201 : BitVec 32 := 0#32
  let v398 : BitVec 1 := Scalar.cmpi .slt v396 c0_i32_201
  let c0_i32_202 : BitVec 32 := 0#32
  let v399 : BitVec 1 := Scalar.cmpi .slt v395 c0_i32_202
  let v400 : BitVec 1 := Scalar.xori v398 v399
  let c0_i32_200 : BitVec 32 := 0#32
  let v397 : BitVec 1 := Scalar.cmpi .ne v396 c0_i32_200
  let v401 : BitVec 1 := Scalar.andi v400 v397
  let v402 : BitVec 32 := Scalar.addi v396 v395
  let v403 : BitVec 32 := Scalar.select v401 v402 v396
  let v404 : Index := Scalar.indexCast v403
  let c384_203 : Index := 384#32
  let c0_204 : Index := 0#32
  ![v404.toNat, 384, 0]
def k0_off37 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v408 : Index := Scalar.indexCast v147
  let c512 : Index := 512#32
  let c0_205 : Index := 0#32
  ![v408.toNat, 512, 0]
def k0_off38 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_223 : BitVec 32 := 4#32
  let c0_i32_224 : BitVec 32 := 0#32
  let v459 : BitVec 1 := Scalar.cmpi .eq c4_i32_223 c0_i32_224
  let c1_i32_225 : BitVec 32 := 1#32
  let v460 : BitVec 32 := Scalar.select v459 c1_i32_225 c4_i32_223
  let v461 : BitVec 32 := Scalar.remsi v90 v460
  let c0_i32_227 : BitVec 32 := 0#32
  let v463 : BitVec 1 := Scalar.cmpi .slt v461 c0_i32_227
  let c0_i32_228 : BitVec 32 := 0#32
  let v464 : BitVec 1 := Scalar.cmpi .slt v460 c0_i32_228
  let v465 : BitVec 1 := Scalar.xori v463 v464
  let c0_i32_226 : BitVec 32 := 0#32
  let v462 : BitVec 1 := Scalar.cmpi .ne v461 c0_i32_226
  let v466 : BitVec 1 := Scalar.andi v465 v462
  let v467 : BitVec 32 := Scalar.addi v461 v460
  let v468 : BitVec 32 := Scalar.select v466 v467 v461
  let v469 : Index := Scalar.indexCast v468
  let c512_229 : Index := 512#32
  let c0_230 : Index := 0#32
  ![v469.toNat, 512, 0]
def k0_off39 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v473 : Index := Scalar.indexCast v147
  let c640 : Index := 640#32
  let c0_231 : Index := 0#32
  ![v473.toNat, 640, 0]
def k0_off40 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_249 : BitVec 32 := 4#32
  let c0_i32_250 : BitVec 32 := 0#32
  let v524 : BitVec 1 := Scalar.cmpi .eq c4_i32_249 c0_i32_250
  let c1_i32_251 : BitVec 32 := 1#32
  let v525 : BitVec 32 := Scalar.select v524 c1_i32_251 c4_i32_249
  let v526 : BitVec 32 := Scalar.remsi v90 v525
  let c0_i32_253 : BitVec 32 := 0#32
  let v528 : BitVec 1 := Scalar.cmpi .slt v526 c0_i32_253
  let c0_i32_254 : BitVec 32 := 0#32
  let v529 : BitVec 1 := Scalar.cmpi .slt v525 c0_i32_254
  let v530 : BitVec 1 := Scalar.xori v528 v529
  let c0_i32_252 : BitVec 32 := 0#32
  let v527 : BitVec 1 := Scalar.cmpi .ne v526 c0_i32_252
  let v531 : BitVec 1 := Scalar.andi v530 v527
  let v532 : BitVec 32 := Scalar.addi v526 v525
  let v533 : BitVec 32 := Scalar.select v531 v532 v526
  let v534 : Index := Scalar.indexCast v533
  let c640_255 : Index := 640#32
  let c0_256 : Index := 0#32
  ![v534.toNat, 640, 0]
def k0_off41 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v538 : Index := Scalar.indexCast v147
  let c768 : Index := 768#32
  let c0_257 : Index := 0#32
  ![v538.toNat, 768, 0]
def k0_off42 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_275 : BitVec 32 := 4#32
  let c0_i32_276 : BitVec 32 := 0#32
  let v589 : BitVec 1 := Scalar.cmpi .eq c4_i32_275 c0_i32_276
  let c1_i32_277 : BitVec 32 := 1#32
  let v590 : BitVec 32 := Scalar.select v589 c1_i32_277 c4_i32_275
  let v591 : BitVec 32 := Scalar.remsi v90 v590
  let c0_i32_279 : BitVec 32 := 0#32
  let v593 : BitVec 1 := Scalar.cmpi .slt v591 c0_i32_279
  let c0_i32_280 : BitVec 32 := 0#32
  let v594 : BitVec 1 := Scalar.cmpi .slt v590 c0_i32_280
  let v595 : BitVec 1 := Scalar.xori v593 v594
  let c0_i32_278 : BitVec 32 := 0#32
  let v592 : BitVec 1 := Scalar.cmpi .ne v591 c0_i32_278
  let v596 : BitVec 1 := Scalar.andi v595 v592
  let v597 : BitVec 32 := Scalar.addi v591 v590
  let v598 : BitVec 32 := Scalar.select v596 v597 v591
  let v599 : Index := Scalar.indexCast v598
  let c768_281 : Index := 768#32
  let c0_282 : Index := 0#32
  ![v599.toNat, 768, 0]
def k0_off43 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c42_i32_98 : BitVec 32 := 42#32
  let c0_i32_99 : BitVec 32 := 0#32
  let v138 : BitVec 1 := Scalar.cmpi .eq c42_i32_98 c0_i32_99
  let c1_i32_100 : BitVec 32 := 1#32
  let v139 : BitVec 32 := Scalar.select v138 c1_i32_100 c42_i32_98
  let v140 : BitVec 32 := Scalar.remsi v90 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let v603 : Index := Scalar.indexCast v147
  let c896 : Index := 896#32
  let c0_283 : Index := 0#32
  ![v603.toNat, 896, 0]
def k0_off44 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_74 : BitVec 32 := 32#32
  let v89 : BitVec 32 := Scalar.muli arg18 c32_i32_74
  let c0_i32_55 : BitVec 32 := 0#32
  let c1_i32_56 : BitVec 32 := 1#32
  let arg19 : BitVec 32 := Scf.iv c0_i32_55 c1_i32_56 k0_t3
  let v90 : BitVec 32 := Scalar.addi v89 arg19
  let c4_i32_301 : BitVec 32 := 4#32
  let c0_i32_302 : BitVec 32 := 0#32
  let v654 : BitVec 1 := Scalar.cmpi .eq c4_i32_301 c0_i32_302
  let c1_i32_303 : BitVec 32 := 1#32
  let v655 : BitVec 32 := Scalar.select v654 c1_i32_303 c4_i32_301
  let v656 : BitVec 32 := Scalar.remsi v90 v655
  let c0_i32_305 : BitVec 32 := 0#32
  let v658 : BitVec 1 := Scalar.cmpi .slt v656 c0_i32_305
  let c0_i32_306 : BitVec 32 := 0#32
  let v659 : BitVec 1 := Scalar.cmpi .slt v655 c0_i32_306
  let v660 : BitVec 1 := Scalar.xori v658 v659
  let c0_i32_304 : BitVec 32 := 0#32
  let v657 : BitVec 1 := Scalar.cmpi .ne v656 c0_i32_304
  let v661 : BitVec 1 := Scalar.andi v660 v657
  let v662 : BitVec 32 := Scalar.addi v656 v655
  let v663 : BitVec 32 := Scalar.select v661 v662 v656
  let v664 : Index := Scalar.indexCast v663
  let c896_307 : Index := 896#32
  let c0_308 : Index := 0#32
  ![v664.toNat, 896, 0]
def k0_mult3 (k0_t3 : Fin k0_t3_loop.trips) : BitVec 32 :=
  let c0_i32_55 : BitVec 32 := 0#32
  let c1_i32_56 : BitVec 32 := 1#32
  let arg19 : BitVec 32 := Scf.iv c0_i32_55 c1_i32_56 k0_t3
  let c8_i32 : BitVec 32 := 8#32
  let v679 : BitVec 32 := Scalar.muli arg19 c8_i32
  v679
def k0_off45 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c2_i32_309 : BitVec 32 := 2#32
  let c0_i32_310 : BitVec 32 := 0#32
  let v669 : BitVec 1 := Scalar.cmpi .eq c2_i32_309 c0_i32_310
  let c1_i32_311 : BitVec 32 := 1#32
  let v670 : BitVec 32 := Scalar.select v669 c1_i32_311 c2_i32_309
  let v671 : BitVec 32 := Scalar.remsi arg18 v670
  let c0_i32_313 : BitVec 32 := 0#32
  let v673 : BitVec 1 := Scalar.cmpi .slt v671 c0_i32_313
  let c0_i32_314 : BitVec 32 := 0#32
  let v674 : BitVec 1 := Scalar.cmpi .slt v670 c0_i32_314
  let v675 : BitVec 1 := Scalar.xori v673 v674
  let c0_i32_312 : BitVec 32 := 0#32
  let v672 : BitVec 1 := Scalar.cmpi .ne v671 c0_i32_312
  let v676 : BitVec 1 := Scalar.andi v675 v672
  let v677 : BitVec 32 := Scalar.addi v671 v670
  let v678 : BitVec 32 := Scalar.select v676 v677 v671
  let v681 : Index := Scalar.indexCast v678
  let c0_i32_55 : BitVec 32 := 0#32
  let c1_i32_56 : BitVec 32 := 1#32
  let arg19 : BitVec 32 := Scf.iv c0_i32_55 c1_i32_56 k0_t3
  let c8_i32 : BitVec 32 := 8#32
  let v679 : BitVec 32 := Scalar.muli arg19 c8_i32
  let v680 : BitVec 32 := v679
  let v682 : Index := Scalar.indexCast v680
  let c0_315 : Index := 0#32
  ![v681.toNat, v682.toNat, 0]
def k0_mult4 (k0_t3 : Fin k0_t3_loop.trips) : BitVec 32 :=
  let c0_i32_55 : BitVec 32 := 0#32
  let c1_i32_56 : BitVec 32 := 1#32
  let arg19 : BitVec 32 := Scf.iv c0_i32_55 c1_i32_56 k0_t3
  let c1024_i32_316 : BitVec 32 := 1024#32
  let v686 : BitVec 32 := Scalar.muli arg19 c1024_i32_316
  v686
def k0_off46 (k0_t3 : Fin k0_t3_loop.trips) : Fin 2 → Nat :=
  let c0_319 : Index := 0#32
  let c0_i32_55 : BitVec 32 := 0#32
  let c1_i32_56 : BitVec 32 := 1#32
  let arg19 : BitVec 32 := Scf.iv c0_i32_55 c1_i32_56 k0_t3
  let c1024_i32_316 : BitVec 32 := 1024#32
  let v686 : BitVec 32 := Scalar.muli arg19 c1024_i32_316
  let v687 : BitVec 32 := v686
  let v689 : Index := Scalar.indexCast v687
  ![0, v689.toNat]
def k0_cond9 (k0_t2 : Fin k0_t2_loop.trips) : BitVec 1 :=
  let c0_i32_2 : BitVec 32 := 0#32
  let c1_i32_3 : BitVec 32 := 1#32
  let arg18 : BitVec 32 := Scf.iv c0_i32_2 c1_i32_3 k0_t2
  let c0_i32_72 : BitVec 32 := 0#32
  let v86 : BitVec 1 := Scalar.cmpi .sgt arg18 c0_i32_72
  let v87 : BitVec 32 := Scalar.extui v86
  let c0_i32_73 : BitVec 32 := 0#32
  let v88 : BitVec 1 := Scalar.cmpi .ne v87 c0_i32_73
  v88

def k0_off47 (k0_t2 : Fin k0_t2_loop.trips) (k0_t3 : Fin k0_t3_loop.trips) : Fin 1 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_74 : BitVec 32 := 32#32
  let v89 : BitVec 32 := Scalar.subi v63 c32_i32_74
  let c42_i32_88 : BitVec 32 := 42#32
  let c0_i32_89 : BitVec 32 := 0#32
  let v117 : BitVec 1 := Scalar.cmpi .eq c42_i32_88 c0_i32_89
  let c1_i32_90 : BitVec 32 := 1#32
  let v118 : BitVec 32 := Scalar.select v117 c1_i32_90 c42_i32_88
  let v119 : BitVec 32 := Scalar.remsi v89 v118
  let c0_i32_92 : BitVec 32 := 0#32
  let v121 : BitVec 1 := Scalar.cmpi .slt v119 c0_i32_92
  let c0_i32_93 : BitVec 32 := 0#32
  let v122 : BitVec 1 := Scalar.cmpi .slt v118 c0_i32_93
  let v123 : BitVec 1 := Scalar.xori v121 v122
  let c0_i32_91 : BitVec 32 := 0#32
  let v120 : BitVec 1 := Scalar.cmpi .ne v119 c0_i32_91
  let v124 : BitVec 1 := Scalar.andi v123 v120
  let v125 : BitVec 32 := Scalar.addi v119 v118
  let v126 : BitVec 32 := Scalar.select v124 v125 v119
  ![v126.toNat]
def k0_off48 (k0_t2 : Fin k0_t2_loop.trips) (k0_t3 : Fin k0_t3_loop.trips) : Fin 2 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_74 : BitVec 32 := 32#32
  let v89 : BitVec 32 := Scalar.subi v63 c32_i32_74
  let c32_i32_82 : BitVec 32 := 32#32
  let c0_i32_83 : BitVec 32 := 0#32
  let v107 : BitVec 1 := Scalar.cmpi .eq c32_i32_82 c0_i32_83
  let c1_i32_84 : BitVec 32 := 1#32
  let v108 : BitVec 32 := Scalar.select v107 c1_i32_84 c32_i32_82
  let v109 : BitVec 32 := Scalar.remsi v89 v108
  let c0_i32_86 : BitVec 32 := 0#32
  let v111 : BitVec 1 := Scalar.cmpi .slt v109 c0_i32_86
  let c0_i32_87 : BitVec 32 := 0#32
  let v112 : BitVec 1 := Scalar.cmpi .slt v108 c0_i32_87
  let v113 : BitVec 1 := Scalar.xori v111 v112
  let c0_i32_85 : BitVec 32 := 0#32
  let v110 : BitVec 1 := Scalar.cmpi .ne v109 c0_i32_85
  let v114 : BitVec 1 := Scalar.andi v113 v110
  let v115 : BitVec 32 := Scalar.addi v109 v108
  let v116 : BitVec 32 := Scalar.select v114 v115 v109
  let c1024_i32 : BitVec 32 := 1024#32
  let v127 : BitVec 32 := Scalar.muli v116 c1024_i32
  let c0_i32_76 : BitVec 32 := 0#32
  let v91 : BitVec 1 := Scalar.cmpi .sgt v89 c0_i32_76
  let v92 : BitVec 32 := Scalar.extui v91
  let c0_i32_77 : BitVec 32 := 0#32
  let v93 : BitVec 1 := Scalar.cmpi .slt v89 c0_i32_77
  let v94 : BitVec 32 := Scalar.extui v93
  let v95 : BitVec 32 := Scalar.subi v92 v94
  let c32_i32_75 : BitVec 32 := 32#32
  let c0_i32_78 : BitVec 32 := 0#32
  let v96 : BitVec 1 := Scalar.cmpi .sgt c32_i32_75 c0_i32_78
  let v97 : BitVec 32 := Scalar.extui v96
  let c0_i32_79 : BitVec 32 := 0#32
  let v98 : BitVec 1 := Scalar.cmpi .slt c32_i32_75 c0_i32_79
  let v99 : BitVec 32 := Scalar.extui v98
  let v100 : BitVec 32 := Scalar.subi v97 v99
  let v101 : BitVec 1 := Scalar.cmpi .ne v95 v100
  let v102 : BitVec 32 := Scalar.remsi v89 c32_i32_75
  let c0_i32_80 : BitVec 32 := 0#32
  let v103 : BitVec 1 := Scalar.cmpi .ne v102 c0_i32_80
  let v104 : BitVec 1 := Scalar.andi v101 v103
  let v90 : BitVec 32 := Scalar.divsi v89 c32_i32_75
  let c1_i32_81 : BitVec 32 := 1#32
  let v105 : BitVec 32 := Scalar.subi v90 c1_i32_81
  let v106 : BitVec 32 := Scalar.select v104 v105 v90
  let c256_i32 : BitVec 32 := 256#32
  let v128 : BitVec 32 := Scalar.muli v106 c256_i32
  ![v127.toNat, v128.toNat]
def k0_off49 (k0_t2 : Fin k0_t2_loop.trips) (k0_t3 : Fin k0_t3_loop.trips) : Fin 3 → Nat :=
  let c0_i32_2 : BitVec 32 := 0#32
  let c1_i32_3 : BitVec 32 := 1#32
  let arg18 : BitVec 32 := Scf.iv c0_i32_2 c1_i32_3 k0_t2
  let c32_i32_58 : BitVec 32 := 32#32
  let v62 : BitVec 32 := Scalar.muli arg18 c32_i32_58
  let c0_i32_55 : BitVec 32 := 0#32
  let c1_i32_56 : BitVec 32 := 1#32
  let arg19 : BitVec 32 := Scf.iv c0_i32_55 c1_i32_56 k0_t3
  let v63 : BitVec 32 := Scalar.addi v62 arg19
  let c32_i32_74 : BitVec 32 := 32#32
  let v89 : BitVec 32 := Scalar.subi v63 c32_i32_74
  let c42_i32_88 : BitVec 32 := 42#32
  let c0_i32_89 : BitVec 32 := 0#32
  let v117 : BitVec 1 := Scalar.cmpi .eq c42_i32_88 c0_i32_89
  let c1_i32_90 : BitVec 32 := 1#32
  let v118 : BitVec 32 := Scalar.select v117 c1_i32_90 c42_i32_88
  let v119 : BitVec 32 := Scalar.remsi v89 v118
  let c0_i32_92 : BitVec 32 := 0#32
  let v121 : BitVec 1 := Scalar.cmpi .slt v119 c0_i32_92
  let c0_i32_93 : BitVec 32 := 0#32
  let v122 : BitVec 1 := Scalar.cmpi .slt v118 c0_i32_93
  let v123 : BitVec 1 := Scalar.xori v121 v122
  let c0_i32_91 : BitVec 32 := 0#32
  let v120 : BitVec 1 := Scalar.cmpi .ne v119 c0_i32_91
  let v124 : BitVec 1 := Scalar.andi v123 v120
  let v125 : BitVec 32 := Scalar.addi v119 v118
  let v126 : BitVec 32 := Scalar.select v124 v125 v119
  let c0_i32_94 : BitVec 32 := 0#32
  let c0_i32_95 : BitVec 32 := 0#32
  ![v126.toNat, 0, 0]
abbrev stage0_0 : Fin 1 → Memref sig .tc .vmem S32768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32768x112 : Shape := ⟨2, ![32768, 112]⟩
abbrev S112x112 : Shape := ⟨2, ![112, 112]⟩
abbrev S32768x4096 : Shape := ⟨2, ![32768, 4096]⟩
abbrev S256x4096 : Shape := ⟨2, ![256, 4096]⟩
abbrev S112x4096 : Shape := ⟨2, ![112, 4096]⟩
abbrev S1x4096 : Shape := ⟨2, ![1, 4096]⟩
abbrev S256x128x4096 : Shape := ⟨3, ![256, 128, 4096]⟩
abbrev S256x1x4096 : Shape := ⟨3, ![256, 1, 4096]⟩
abbrev S254x256x1x4096 : Shape := ⟨4, ![254, 256, 1, 4096]⟩
abbrev S1x256x1x4096 : Shape := ⟨4, ![1, 256, 1, 4096]⟩
abbrev S4096 : Shape := ⟨1, ![4096]⟩
abbrev S254x1x4096 : Shape := ⟨3, ![254, 1, 4096]⟩
abbrev S1x1x4096 : Shape := ⟨3, ![1, 1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S32768x112, .bf16⟩
  | .hbm, ⟨1, _⟩ => ⟨S112x112, .f32⟩
  | .hbm, ⟨2, _⟩ => ⟨S32768x4096, .f32⟩
  | .hbm, ⟨3, _⟩ => ⟨S32768x4096, .f32⟩
  | .hbm, ⟨4, _⟩ => ⟨S32768x4096, .fp8e4m3⟩
  | .hbm, ⟨5, _⟩ => ⟨S256x4096, .f32⟩
  | .hbm, ⟨6, _⟩ => ⟨S112x4096, .fp8e4m3⟩
  | .hbm, ⟨7, _⟩ => ⟨S1x4096, .f32⟩
  | .local _ .vmem, ⟨0, _⟩ => ⟨S32768x112, .bf16⟩
  | .local _ .vmem, ⟨1, _⟩ => ⟨S112x112, .f32⟩
  | .local _ .vmem, ⟨2, _⟩ => ⟨S32768x4096, .f32⟩
  | .local _ .vmem, ⟨3, _⟩ => ⟨S32768x4096, .f32⟩
  | .local _ .vmem, ⟨4, _⟩ => ⟨S32768x4096, .fp8e4m3⟩
  | .local _ .vmem, ⟨5, _⟩ => ⟨S256x4096, .f32⟩
  | .local _ .vmem, ⟨6, _⟩ => ⟨S112x4096, .fp8e4m3⟩
  | .local _ .vmem, ⟨7, _⟩ => ⟨S1x4096, .f32⟩
  | _, _ => ⟨S32768x112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x112 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S112x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Twin.lean ====
/- The two printed programs are the same program. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxRecDepth 65536
theorem kernel_eq : Cert.Kernel.cc0_householder_fp8 (F := F) = Cert.KernelIdeal.cc0_householder_fp8 (F := F) := rfl
theorem defs₀_eq : Cert.Kernel.defs₀ (F := F) = Cert.KernelIdeal.defs₀ (F := F) := by
  refine congrArg Defs.onTc (funext fun l => funext fun a => ?_)
  match l, a with
  | ⟨0, _⟩, (t, s) => rfl
theorem defs_eq : Cert.Kernel.defs (F := F) = Cert.KernelIdeal.defs (F := F) :=
  congrArg (Pipeline.defs (Cert.KernelIdeal.pcfgs (F := F))) defs₀_eq
theorem main_eq : Cert.Kernel.main (F := F) = Cert.KernelIdeal.main (F := F) := rfl

end Cert.Proof

end
-- ==== Proof.Names.lean ====
/- The kernel's windows under one name each: tile `q` of an array of the matrix's size, slot `s` of each scratch
   buffer, slot `s`'s semaphore; and the equations that read the printed offsets as these. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

noncomputable section

namespace Cert.Proof.Sweep

open Cert.KernelIdeal Cert.KernelIdeal.Gen
open Idealize.ShloMosaic
open Idealize.ShloMosaic.TcCoe Idealize.ShloMosaic.Tactic

/-! ## Offsets -/

/-- Where tile `q` begins: row block `q % 32` of 1024 rows, column panel `q / 32` of 256 columns. -/
abbrev tOff (q : ℕ) : Fin 2 → ℕ := ![q % 32 * 1024, q / 32 * 256]
abbrev pOff (s : ℕ) : Fin 3 → ℕ := ![s, 0, 0]
abbrev bOff (s b : ℕ) : Fin 3 → ℕ := ![s, b * 128, 0]
abbrev mOff (s : ℕ) : Fin 1 → ℕ := ![s]

theorem tOff_inb (q : Fin 512) : ∀ a, tOff q.val a + S1024x256.size a ≤ S32768x4096.size a := by
  have := q.isLt; intro a; fin_cases a
  · show q.val % 32 * 1024 + 1024 ≤ 32768; omega
  · show q.val / 32 * 256 + 256 ≤ 4096; omega
theorem ringOff_inb (s : Fin 42) : ∀ a, pOff s.val a + S1x1024x256.size a ≤ S42x1024x256.size a := by
  have := s.isLt; intro a; fin_cases a
  · show s.val + 1 ≤ 42; omega
  · show 0 + 1024 ≤ 1024; omega
  · show 0 + 256 ≤ 256; omega
theorem cstOff_inb (s : Fin 4) : ∀ a, pOff s.val a + S1x1024x256.size a ≤ S4x1024x256.size a := by
  have := s.isLt; intro a; fin_cases a
  · show s.val + 1 ≤ 4; omega
  · show 0 + 1024 ≤ 1024; omega
  · show 0 + 256 ≤ 256; omega
theorem csstOff_inb (s : Fin 2) : ∀ a, pOff s.val a + S1x256x256.size a ≤ S2x256x256.size a := by
  have := s.isLt; intro a; fin_cases a
  · show s.val + 1 ≤ 2; omega
  · show 0 + 256 ≤ 256; omega
  · show 0 + 256 ≤ 256; omega
abbrev sOff (i : ℕ) : Fin 2 → ℕ := ![0, i * 256]
theorem sOff_inb (i : Fin 16) : ∀ a, sOff i.val a + S256x256.size a ≤ S256x4096.size a := by
  have := i.isLt; intro a; fin_cases a
  · show 0 + 256 ≤ 256; omega
  · show i.val * 256 + 256 ≤ 4096; omega
theorem m42_inb (s : Fin 42) : ∀ a, mOff s.val a + S1.size a ≤ S42.size a := by
  have := s.isLt; intro a; fin_cases a; show s.val + 1 ≤ 42; omega
theorem m4_inb (s : Fin 4) : ∀ a, mOff s.val a + S1.size a ≤ S4.size a := by
  have := s.isLt; intro a; fin_cases a; show s.val + 1 ≤ 4; omega
theorem m2_inb (s : Fin 2) : ∀ a, mOff s.val a + S1.size a ≤ S2.size a := by
  have := s.isLt; intro a; fin_cases a; show s.val + 1 ≤ 2; omega

/-! ## Windows -/

abbrev cM : Memref sig .tc .hbm S32768x4096 .f32 := Memref.whole main_arg2
abbrev coM : Memref sig .tc .hbm S32768x4096 .f32 := Memref.whole main_v3_0
abbrev ccM : Memref sig .tc .hbm S32768x4096 .fp8e4m3 := Memref.whole main_v3_1
abbrev csM : Memref sig .tc .hbm S256x4096 .f32 := Memref.whole main_v3_2
abbrev ringM : Memref sig .tc .vmem S42x1024x256 .f32 := Memref.whole cc0_scratch0
abbrev cstM : Memref sig .tc .vmem S4x1024x256 .fp8e4m3 := Memref.whole cc0_scratch1
abbrev csstM : Memref sig .tc .vmem S2x256x256 .f32 := Memref.whole cc0_scratch2
abbrev wM : Memref sig .tc .vmem S128x256 .f32 := Memref.whole cc0_scratch3
abbrev ywM : Memref sig .tc .vmem S128x256 .bf16 := Memref.whole cc0_scratch4

/-- Tile `q` of `c`, of the updated matrix, of the codes. -/
def cT (q : Fin 512) : Memref sig .tc .hbm S1024x256 .f32 :=
  cM.slice (Rect.unit (s := S32768x4096) (tOff q.val) S1024x256.size (tOff_inb q)) (fun _ => rfl)
def coT (q : Fin 512) : Memref sig .tc .hbm S1024x256 .f32 :=
  coM.slice (Rect.unit (s := S32768x4096) (tOff q.val) S1024x256.size (tOff_inb q)) (fun _ => rfl)
def ccT (q : Fin 512) : Memref sig .tc .hbm S1024x256 .fp8e4m3 :=
  ccM.slice (Rect.unit (s := S32768x4096) (tOff q.val) S1024x256.size (tOff_inb q)) (fun _ => rfl)
/-- Panel `i` of the scales. -/
def csT (i : Fin 16) : Memref sig .tc .hbm S256x256 .f32 :=
  csM.slice (Rect.unit (s := S256x4096) (sOff i.val) S256x256.size (sOff_inb i)) (fun _ => rfl)
/-- Slot `s` of the tile ring, of the codes' ring, of the scales' ring. -/
def rS (s : Fin 42) : Memref sig .tc .vmem S1024x256 .f32 :=
  (ringM.slice (Rect.unit (s := S42x1024x256) (pOff s.val) S1x1024x256.size (ringOff_inb s)) (fun _ => rfl)).squeeze S1024x256 squeezes_S1x1024x256_S1024x256
def kS (s : Fin 4) : Memref sig .tc .vmem S1024x256 .fp8e4m3 :=
  (cstM.slice (Rect.unit (s := S4x1024x256) (pOff s.val) S1x1024x256.size (cstOff_inb s)) (fun _ => rfl)).squeeze S1024x256 squeezes_S1x1024x256_S1024x256
def sS (s : Fin 2) : Memref sig .tc .vmem S256x256 .f32 :=
  (csstM.slice (Rect.unit (s := S2x256x256) (pOff s.val) S1x256x256.size (csstOff_inb s)) (fun _ => rfl)).squeeze S256x256 squeezes_S1x256x256_S256x256
/-- The slots' semaphores: tiles in, tiles out, codes out, scales out. -/
def mI (s : Fin 42) : DmaSems sig S_ := (cc0_scratch5.slice (Rect.unit (s := S42) (mOff s.val) S1.size (m42_inb s))).squeeze S_ squeezes_S1_S_
def mO (s : Fin 42) : DmaSems sig S_ := (cc0_scratch6.slice (Rect.unit (s := S42) (mOff s.val) S1.size (m42_inb s))).squeeze S_ squeezes_S1_S_
def mC (s : Fin 4) : DmaSems sig S_ := (cc0_scratch7.slice (Rect.unit (s := S4) (mOff s.val) S1.size (m4_inb s))).squeeze S_ squeezes_S1_S_
def mS (s : Fin 2) : DmaSems sig S_ := (cc0_scratch8.slice (Rect.unit (s := S2) (mOff s.val) S1.size (m2_inb s))).squeeze S_ squeezes_S1_S_

instance (q : Fin 512) : ClosedOff (tOff q.val) := ⟨tOff q.val, rfl⟩
instance (s : ℕ) : ClosedOff (pOff s) := ⟨pOff s, rfl⟩
instance (i : ℕ) : ClosedOff (sOff i) := ⟨sOff i, rfl⟩

/-! ## The printed offsets in closed form

`i` is the sweep, `k` the row block, `t = 32 i + k` the step. -/

abbrev T1 := Fin k0_t1_loop.trips
abbrev T2 := Fin k0_t2_loop.trips
abbrev T3 := Fin k0_t3_loop.trips
theorem trips1 : k0_t1_loop.trips = 42 := by decide +kernel
theorem trips2 : k0_t2_loop.trips = 17 := by decide +kernel
theorem trips3 : k0_t3_loop.trips = 32 := by decide +kernel
/-- The step a pair of trips is. -/
abbrev stp (i : T2) (k : T3) : ℕ := i.val * 32 + k.val
abbrev sl42 (n : ℕ) : Fin 42 := Ring.sl 42 n
abbrev sl4 (n : ℕ) : Fin 4 := Ring.sl 4 n
abbrev sl2 (n : ℕ) : Fin 2 := Ring.sl 2 n
abbrev tl (n : ℕ) : Fin 512 := Ring.bk 512 n
abbrev pn (n : ℕ) : Fin 16 := Ring.bk 16 n

theorem off1 : ∀ q : T1, k0_off1 q = mOff (sl42 q.val).val := by decide +kernel
theorem off2 : ∀ q : T1, k0_off2 q = pOff (sl42 q.val).val := by decide +kernel
theorem off3 : ∀ q : T1, k0_off3 q = tOff (tl q.val).val := by decide +kernel

theorem c1 : ∀ i : T2, k0_cond1 i = 1#1 ↔ 0 < i.val := by decide +kernel
theorem c2 : ∀ i : T2, k0_cond2 i = 1#1 ↔ 1 < i.val := by decide +kernel
theorem c3 : ∀ (i : T2) (k : T3), k0_cond3 i k = 1#1 ↔ 36 ≤ stp i k := by decide +kernel
theorem c4 : ∀ (i : T2) (k : T3), k0_cond4 i k = 1#1 ↔ 36 ≤ stp i k ∧ stp i k < 506 := by decide +kernel
theorem c5 : ∀ i : T2, k0_cond5 i = 1#1 ↔ 0 < i.val := by decide +kernel
theorem c6 : ∀ (i : T2) (k : T3), k0_cond6 i k = 1#1 ↔ 1 ≤ stp i k ∧ stp i k ≤ 512 := by decide +kernel
theorem c7 : ∀ i : T2, k0_cond7 i = 1#1 ↔ i.val < 16 := by decide +kernel
theorem c8 : ∀ (i : T2) (k : T3), k0_cond8 i k = 1#1 ↔ 4 ≤ stp i k := by decide +kernel
theorem c9 : ∀ i : T2, k0_cond9 i = 1#1 ↔ 0 < i.val := by decide +kernel

theorem off4 : ∀ i : T2, 0 < i.val → k0_off4 i = mOff (sl2 (i.val - 1)).val := by decide +kernel
theorem off5 : ∀ i : T2, 0 < i.val → k0_off5 i = sOff (pn (i.val - 1)).val := by decide +kernel
theorem off6 : ∀ i : T2, 0 < i.val → k0_off6 i = pOff (sl2 (i.val - 1)).val := by decide +kernel
theorem off7 : ∀ i : T2, 0 < i.val → k0_off7 i = sOff (pn (i.val - 1)).val := by decide +kernel
theorem off8 : ∀ i : T2, 0 < i.val → k0_off8 i = sOff (pn (i.val - 1)).val := by decide +kernel
theorem off9 : ∀ i : T2, 1 < i.val → k0_off9 i = mOff (sl2 (i.val - 2)).val := by decide +kernel
theorem off10 : ∀ i : T2, 1 < i.val → k0_off10 i = sOff (pn (i.val - 2)).val := by decide +kernel
theorem off11 : ∀ i : T2, 1 < i.val → k0_off11 i = pOff (sl2 (i.val - 2)).val := by decide +kernel

theorem off12 : ∀ (i : T2) (k : T3), 36 ≤ stp i k → k0_off12 i k = mOff (sl42 (stp i k - 36)).val := by decide +kernel
theorem off13 : ∀ (i : T2) (k : T3), 36 ≤ stp i k → k0_off13 i k = tOff (tl (stp i k - 36)).val := by decide +kernel
theorem off14 : ∀ (i : T2) (k : T3), 36 ≤ stp i k → k0_off14 i k = pOff (sl42 (stp i k - 36)).val := by decide +kernel
theorem off15 : ∀ (i : T2) (k : T3), 36 ≤ stp i k ∧ stp i k < 506 → k0_off15 i k = mOff (sl42 (stp i k + 6)).val := by decide +kernel
theorem off16 : ∀ (i : T2) (k : T3), 36 ≤ stp i k ∧ stp i k < 506 → k0_off16 i k = pOff (sl42 (stp i k + 6)).val := by decide +kernel
theorem off17 : ∀ (i : T2) (k : T3), 36 ≤ stp i k ∧ stp i k < 506 → k0_off17 i k = tOff (tl (stp i k + 6)).val := by decide +kernel
theorem off18 : ∀ (i : T2) (k : T3), 0 < i.val → k0_off18 i k = pOff (sl42 (stp i k - 32)).val := by decide +kernel
theorem off19 : ∀ k : T3, k0_off19 k = ![k.val * 1024, 0] := by decide +kernel
theorem off20 : ∀ (i : T2) (k : T3), 1 ≤ stp i k ∧ stp i k ≤ 512 → k0_off20 i k = mOff (sl4 (stp i k - 1)).val := by decide +kernel
theorem off21 : ∀ (i : T2) (k : T3), 1 ≤ stp i k ∧ stp i k ≤ 512 → k0_off21 i k = tOff (tl (stp i k - 1)).val := by decide +kernel
theorem off22 : ∀ (i : T2) (k : T3), 1 ≤ stp i k ∧ stp i k ≤ 512 → k0_off22 i k = pOff (sl4 (stp i k - 1)).val := by decide +kernel
theorem off23 : ∀ (i : T2) (k : T3), i.val < 16 → k0_off23 i k = mOff (sl42 (stp i k)).val := by decide +kernel
theorem off24 : ∀ (i : T2) (k : T3), i.val < 16 → k0_off24 i k = pOff (sl42 (stp i k)).val := by decide +kernel
theorem off25 : ∀ (i : T2) (k : T3), i.val < 16 → k0_off25 i k = tOff (tl (stp i k)).val := by decide +kernel
theorem off26 : ∀ (i : T2) (k : T3), i.val < 16 ∧ 4 ≤ stp i k → k0_off26 i k = mOff (sl4 (stp i k - 4)).val := by decide +kernel
theorem off27 : ∀ (i : T2) (k : T3), i.val < 16 ∧ 4 ≤ stp i k → k0_off27 i k = tOff (tl (stp i k - 4)).val := by decide +kernel
theorem off28 : ∀ (i : T2) (k : T3), i.val < 16 ∧ 4 ≤ stp i k → k0_off28 i k = pOff (sl4 (stp i k - 4)).val := by decide +kernel
theorem off29 : ∀ (i : T2) (k : T3), i.val < 16 → k0_off29 i k = bOff (sl42 (stp i k)).val 0 := by decide +kernel
theorem off31 : ∀ (i : T2) (k : T3), i.val < 16 → k0_off31 i k = bOff (sl42 (stp i k)).val 1 := by decide +kernel
theorem off33 : ∀ (i : T2) (k : T3), i.val < 16 → k0_off33 i k = bOff (sl42 (stp i k)).val 2 := by decide +kernel
theorem off35 : ∀ (i : T2) (k : T3), i.val < 16 → k0_off35 i k = bOff (sl42 (stp i k)).val 3 := by decide +kernel
theorem off37 : ∀ (i : T2) (k : T3), i.val < 16 → k0_off37 i k = bOff (sl42 (stp i k)).val 4 := by decide +kernel
theorem off39 : ∀ (i : T2) (k : T3), i.val < 16 → k0_off39 i k = bOff (sl42 (stp i k)).val 5 := by decide +kernel
theorem off41 : ∀ (i : T2) (k : T3), i.val < 16 → k0_off41 i k = bOff (sl42 (stp i k)).val 6 := by decide +kernel
theorem off43 : ∀ (i : T2) (k : T3), i.val < 16 → k0_off43 i k = bOff (sl42 (stp i k)).val 7 := by decide +kernel
theorem off30 : ∀ (i : T2) (k : T3), i.val < 16 → k0_off30 i k = bOff (sl4 (stp i k)).val 0 := by decide +kernel
theorem off32 : ∀ (i : T2) (k : T3), i.val < 16 → k0_off32 i k = bOff (sl4 (stp i k)).val 1 := by decide +kernel
theorem off34 : ∀ (i : T2) (k : T3), i.val < 16 → k0_off34 i k = bOff (sl4 (stp i k)).val 2 := by decide +kernel
theorem off36 : ∀ (i : T2) (k : T3), i.val < 16 → k0_off36 i k = bOff (sl4 (stp i k)).val 3 := by decide +kernel
theorem off38 : ∀ (i : T2) (k : T3), i.val < 16 → k0_off38 i k = bOff (sl4 (stp i k)).val 4 := by decide +kernel
theorem off40 : ∀ (i : T2) (k : T3), i.val < 16 → k0_off40 i k = bOff (sl4 (stp i k)).val 5 := by decide +kernel
theorem off42 : ∀ (i : T2) (k : T3), i.val < 16 → k0_off42 i k = bOff (sl4 (stp i k)).val 6 := by decide +kernel
theorem off44 : ∀ (i : T2) (k : T3), i.val < 16 → k0_off44 i k = bOff (sl4 (stp i k)).val 7 := by decide +kernel
theorem off45 : ∀ (i : T2) (k : T3), i.val < 16 → k0_off45 i k = ![(sl2 i.val).val, k.val * 8, 0] := by decide +kernel
theorem off46 : ∀ k : T3, k0_off46 k = ![0, k.val * 1024] := by decide +kernel
theorem off47 : ∀ (i : T2) (k : T3), 0 < i.val → k0_off47 i k = mOff (sl42 (stp i k - 32)).val := by decide +kernel
theorem off48 : ∀ (i : T2) (k : T3), 0 < i.val → k0_off48 i k = tOff (tl (stp i k - 32)).val := by decide +kernel
theorem off49 : ∀ (i : T2) (k : T3), 0 < i.val → k0_off49 i k = pOff (sl42 (stp i k - 32)).val := by decide +kernel

end Cert.Proof.Sweep

end
-- ==== Proof.Blocks.lean ====
/- The two loop bodies of the kernel cut at their conditionals: each `when` of the source is one block, and the printed
   loop bodies are the blocks in sequence. -/
module

public import proofs.«01_k».proof.Proof.Names

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

noncomputable def blk3 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (k0_t3 : Fin k0_t3_loop.trips) (v65 : BitVec 32) (jp : Unit → Prog (TpuEff nD τ sig (Elt F) Λ₀ .tc) Unit) :
    Prog (TpuEff nD τ sig (Elt F) Λ₀ .tc) (Unit) := do
  if k0_h3 : k0_cond3 k0_t2 k0_t3 = 1#1 then do
    k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v65
    let v128 : DmaSems sig S1 := arg15.slice (Rect.unit (s := S42) (k0_off12 k0_t2 k0_t3) S1.size (k0_off12_inb k0_t2 k0_t3 k0_h3))
    let v129 : DmaSems sig S_ := v128.squeeze S_ squeezes_S1_S_
    let v130 : Memref sig .tc .hbm S1024x256 .f32 := arg4.slice (Rect.unit (s := S32768x4096) (k0_off13 k0_t2 k0_t3) S1024x256.size (k0_off13_inb k0_t2 k0_t3 k0_h3)) (fun _ => rfl)
    let v131 : Memref sig .tc .vmem S1x1024x256 .f32 := arg9.slice (Rect.unit (s := S42x1024x256) (k0_off14 k0_t2 k0_t3) S1x1024x256.size (k0_off14_inb k0_t2 k0_t3 k0_h3)) (fun _ => rfl)
    let v132 : Memref sig .tc .vmem S1024x256 .f32 := v131.squeeze S1024x256 squeezes_S1x1024x256_S1024x256
    Prog.lift (.waitDma2 v129.sem v132 v130 ((View.wordExact_bits rfl).reshape _ _) (View.wordExact_bits rfl))
    jp ⟨⟩
  else do
    jp ⟨⟩

noncomputable def blk4 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (k0_t3 : Fin k0_t3_loop.trips) (v65 : BitVec 32) (jp : Unit → Prog (TpuEff nD τ sig (Elt F) Λ₀ .tc) Unit) :
    Prog (TpuEff nD τ sig (Elt F) Λ₀ .tc) (Unit) := do
  if k0_h4 : k0_cond4 k0_t2 k0_t3 = 1#1 then do
    let v106 : BitVec 32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v65
    let v129 : DmaSems sig S1 := arg14.slice (Rect.unit (s := S42) (k0_off15 k0_t2 k0_t3) S1.size (k0_off15_inb k0_t2 k0_t3 k0_h4))
    let v130 : DmaSems sig S_ := v129.squeeze S_ squeezes_S1_S_
    let v131 : Memref sig .tc .vmem S1x1024x256 .f32 := arg9.slice (Rect.unit (s := S42x1024x256) (k0_off16 k0_t2 k0_t3) S1x1024x256.size (k0_off16_inb k0_t2 k0_t3 k0_h4)) (fun _ => rfl)
    let v132 : Memref sig .tc .vmem S1024x256 .f32 := v131.squeeze S1024x256 squeezes_S1x1024x256_S1024x256
    let v133 : Memref sig .tc .hbm S1024x256 .f32 := arg3.slice (Rect.unit (s := S32768x4096) (k0_off17 k0_t2 k0_t3) S1024x256.size (k0_off17_inb k0_t2 k0_t3 k0_h4)) (fun _ => rfl)
    Prog.lift (.enqueueDma v133 (.here v132) (.dma v130.sem) (View.wordExact_bits rfl) ((View.wordExact_bits rfl).reshape _ _) ⟨Or.inl rfl, trivial⟩)
    jp ⟨⟩
  else do
    jp ⟨⟩

noncomputable def blk5 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (k0_t3 : Fin k0_t3_loop.trips)  (jp : Unit → Prog (TpuEff nD τ sig (Elt F) Λ₀ .tc) Unit) :
    Prog (TpuEff nD τ sig (Elt F) Λ₀ .tc) (Unit) := do
  if k0_h5 : k0_cond5 k0_t2 = 1#1 then do
    let v105 : Vec F S1x1024x256 .f32 ← Prog.lift (.load arg9 (Rect.unit (s := S42x1024x256) (k0_off18 k0_t2 k0_t3) S1x1024x256.size (k0_off18_inb k0_t2 k0_t3 k0_h5)).toLoadRect (View.loadsAt_vmem h_S1x1024x256))
    let v108 : Vec F S1024x128 .bf16 ← Prog.lift (.load arg0 (Rect.unit (s := S32768x128) (k0_off19 k0_t3) S1024x128.size (k0_off19_inb k0_t2 k0_t3 k0_h5)).toLoadRect (View.loadsAt_vmem h_S1024x128))
    let v110 : Vec F S128x256 .bf16 ← Prog.lift (.load arg13 (Rect.unit (s := S128x256) ![0, 0] S128x256.size inb_S128x256_S128x256_0_0).toLoadRect (View.loadsAt_vmem h_S128x256))
    let v114 : Vec F S1x1024x256 .f32 ← Prog.lift (.load arg9 (Rect.unit (s := S42x1024x256) (k0_off18 k0_t2 k0_t3) S1x1024x256.size (k0_off18_inb k0_t2 k0_t3 k0_h5)).toLoadRect (View.loadsAt_vmem h_S1x1024x256))
    Prog.lift (.store arg9 (Rect.unit (s := S42x1024x256) (k0_off18 k0_t2 k0_t3) S1x1024x256.size (k0_off18_inb k0_t2 k0_t3 k0_h5)) (k0_pay83 v105 v108 v110) Finset.univ (View.stores_vmem_bits_univ h_S1x1024x256 rfl) (.inl rfl))
    jp ⟨⟩
  else do
    jp ⟨⟩

noncomputable def blk6 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (k0_t3 : Fin k0_t3_loop.trips) (v63 : BitVec 32) (jp : Unit → Prog (TpuEff nD τ sig (Elt F) Λ₀ .tc) Unit) :
    Prog (TpuEff nD τ sig (Elt F) Λ₀ .tc) (Unit) := do
  if k0_h6 : k0_cond6 k0_t2 k0_t3 = 1#1 then do
    let v106 : BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v63
    let v129 : DmaSems sig S1 := arg16.slice (Rect.unit (s := S4) (k0_off20 k0_t2 k0_t3) S1.size (k0_off20_inb k0_t2 k0_t3 k0_h6))
    let v130 : DmaSems sig S_ := v129.squeeze S_ squeezes_S1_S_
    let v131 : Memref sig .tc .hbm S1024x256 .fp8e4m3 := arg5.slice (Rect.unit (s := S32768x4096) (k0_off21 k0_t2 k0_t3) S1024x256.size (k0_off21_inb k0_t2 k0_t3 k0_h6)) (fun _ => rfl)
    let v132 : Memref sig .tc .vmem S1x1024x256 .fp8e4m3 := arg10.slice (Rect.unit (s := S4x1024x256) (k0_off22 k0_t2 k0_t3) S1x1024x256.size (k0_off22_inb k0_t2 k0_t3 k0_h6)) (fun _ => rfl)
    let v133 : Memref sig .tc .vmem S1024x256 .fp8e4m3 := v132.squeeze S1024x256 squeezes_S1x1024x256_S1024x256
    Prog.lift (.enqueueDma v133 (.here v131) (.dma v130.sem) ((harg10.wordExact_slice rfl _ (k0_off22_wordsfp8e4m3 k0_t2 k0_t3 k0_h6)).reshape _ _) (harg5.wordExact_slice rfl _ (k0_off21_wordsfp8e4m3 k0_t2 k0_t3 k0_h6)) ⟨Or.inl rfl, trivial⟩)
    jp ⟨⟩
  else do
    jp ⟨⟩

noncomputable def blk7 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (k0_t3 : Fin k0_t3_loop.trips) (arg18 : BitVec 32) (arg19 : BitVec 32) (jp : Unit → Prog (TpuEff nD τ sig (Elt F) Λ₀ .tc) Unit) :
    Prog (TpuEff nD τ sig (Elt F) Λ₀ .tc) (Unit) := do
  if k0_h7 : k0_cond7 k0_t2 = 1#1 then do
    let ⟨v90, v107, v117, c1024_i32⟩ : Σ' (v90 : BitVec 32) (v107 : BitVec 32) (v117 : BitVec 32), BitVec 32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 arg19
    let ⟨v147, v150, v166⟩ : Σ' (v147 : BitVec 32) (v150 : FVec F S128x256 .f32), IVec S255x256 32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v107 v117 c1024_i32
    let ⟨v184, v194, v198⟩ : Σ' (v184 : FVec F S1x256 .f32) (v194 : FVec F S128x256 .fp8e4m3), FVec F S128x256 .bf16 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v90 v150 v166
    let ⟨v215, v246, v249, c23_i32_142⟩ : Σ' (v215 : FVec F S128x256 .f32) (v246 : IVec S1x256 32) (v249 : FVec F S1x256 .f32), BitVec 32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v147 v194
    let ⟨v263, v280, v291, v292⟩ : Σ' (v263 : FVec F S128x256 .bf16) (v280 : FVec F S128x256 .f32) (v291 : FVec F S255x256 .f32), FVec F S255x256 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v147 v215 v246 v249 c23_i32_142
    let ⟨v314, v324, v328, v330, v331, v332, v333, c0_i32_176⟩ : Σ' (v314 : FVec F S1x256 .f32) (v324 : FVec F S128x256 .fp8e4m3) (v328 : FVec F S128x256 .bf16) (v330 : BitVec 32) (v331 : BitVec 32) (v332 : BitVec 1) (v333 : BitVec 1), BitVec 32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v90 v280 v291 v292
    let ⟨v345, v368, v372, v374, v375⟩ : Σ' (v345 : FVec F S128x256 .f32) (v368 : IVec S1x256 1) (v372 : IVec S1x256 32) (v374 : IVec S1x256 32), IVec S1x256 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v147 v324 v330 v331 v332 v333 c0_i32_176
    let ⟨v379, v393, v410, v415, v416, v417⟩ : Σ' (v379 : FVec F S1x256 .f32) (v393 : FVec F S128x256 .bf16) (v410 : FVec F S128x256 .f32) (v415 : FVec F S1x256 .f32) (v416 : IVec S255x256 32), IVec S255x256 32 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v147 v345 v368 v372 v374 v375
    let ⟨v444, v454, v458, v460⟩ : Σ' (v444 : FVec F S1x256 .f32) (v454 : FVec F S128x256 .fp8e4m3) (v458 : FVec F S128x256 .bf16), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v410 v415 v416 v417
    let ⟨v475, v493, v498, v500, v501⟩ : Σ' (v475 : FVec F S128x256 .f32) (v493 : IVec S1x256 32) (v498 : IVec S1x256 1) (v500 : IVec S1x256 32), IVec S1x256 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v147 v454 v460
    let ⟨v509, v523, v540, v543⟩ : Σ' (v509 : FVec F S1x256 .f32) (v523 : FVec F S128x256 .bf16) (v540 : FVec F S128x256 .f32), FVec F S1x256 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v147 v475 v493 v498 v500 v501
    let ⟨v574, v584, v585, v587⟩ : Σ' (v574 : FVec F S1x256 .f32) (v584 : FVec F S128x256 .fp8e4m3) (v585 : FVec F S128x256 .bf16), FVec F S128x256 .bf16 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v540 v543
    let ⟨v588, v605, v623, v625, v627⟩ : Σ' (v588 : FVec F S128x256 .bf16) (v605 : FVec F S128x256 .f32) (v623 : IVec S1x256 32) (v625 : IVec S1x256 1), IVec S1x256 1 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v147 v584 v585 v587
    let ⟨v653, v668, c2_i32_309, c0_i32_310⟩ : Σ' (v653 : FVec F S128x256 .bf16) (v668 : FVec F S8x256 .f32) (c2_i32_309 : BitVec 32), BitVec 32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 k0_h7 v90 v184 v249 v314 v379 v444 v509 v574 v605 v623 v625 v627
    let v683 : Vec F S1x8x256 .f32 ← Prog.lift (.load arg11 (Rect.unit (s := S2x256x256) (k0_off45 k0_t2 k0_t3) S1x8x256.size (k0_off45_inb k0_t2 k0_t3 k0_h7)).toLoadRect (View.loadsAt_vmem h_S1x8x256))
    Prog.lift (.store arg11 (Rect.unit (s := S2x256x256) (k0_off45 k0_t2 k0_t3) S1x8x256.size (k0_off45_inb k0_t2 k0_t3 k0_h7)) (k0_pay84 v668) Finset.univ (View.stores_vmem_bits_univ h_S1x8x256 rfl) (.inl rfl))
    let v688 : Vec F S112x256 .f32 ← Prog.lift (.load arg12 (Rect.unit (s := S128x256) ![0, 0] S112x256.size inb_S128x256_S112x256_0_0).toLoadRect (View.loadsAt_vmem h_S112x256))
    let v690 : Vec F S112x1024 .bf16 ← Prog.lift (.load arg1 (Rect.unit (s := S112x32768) (k0_off46 k0_t3) S112x1024.size (k0_off46_inb k0_t2 k0_t3 k0_h7)).toLoadRect (View.loadsAt_vmem h_S112x1024))
    let v695 : Vec F S112x256 .f32 ← Prog.lift (.load arg12 (Rect.unit (s := S128x256) ![0, 0] S112x256.size inb_S128x256_S112x256_0_0).toLoadRect (View.loadsAt_vmem h_S112x256))
    Prog.lift (.store arg12 (Rect.unit (s := S128x256) ![0, 0] S112x256.size inb_S128x256_S112x256_0_0) (k0_pay85 v198 v263 v328 v393 v458 v523 v588 v653 v688 v690) Finset.univ (View.stores_vmem_bits_univ h_S112x256 rfl) (.inl rfl))
    jp ⟨⟩
  else do
    jp ⟨⟩

noncomputable def blk9 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (k0_t3 : Fin k0_t3_loop.trips) (v63 : BitVec 32) (jp : Unit → Prog (TpuEff nD τ sig (Elt F) Λ₀ .tc) Unit) :
    Prog (TpuEff nD τ sig (Elt F) Λ₀ .tc) (Unit) := do
  if k0_h9 : k0_cond9 k0_t2 = 1#1 then do
    let v106 : BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v63
    let v129 : DmaSems sig S1 := arg15.slice (Rect.unit (s := S42) (k0_off47 k0_t2 k0_t3) S1.size (k0_off47_inb k0_t2 k0_t3 k0_h9))
    let v130 : DmaSems sig S_ := v129.squeeze S_ squeezes_S1_S_
    let v131 : Memref sig .tc .hbm S1024x256 .f32 := arg4.slice (Rect.unit (s := S32768x4096) (k0_off48 k0_t2 k0_t3) S1024x256.size (k0_off48_inb k0_t2 k0_t3 k0_h9)) (fun _ => rfl)
    let v132 : Memref sig .tc .vmem S1x1024x256 .f32 := arg9.slice (Rect.unit (s := S42x1024x256) (k0_off49 k0_t2 k0_t3) S1x1024x256.size (k0_off49_inb k0_t2 k0_t3 k0_h9)) (fun _ => rfl)
    let v133 : Memref sig .tc .vmem S1024x256 .f32 := v132.squeeze S1024x256 squeezes_S1x1024x256_S1024x256
    Prog.lift (.enqueueDma v133 (.here v131) (.dma v130.sem) ((View.wordExact_bits rfl).reshape _ _) (View.wordExact_bits rfl) ⟨Or.inl rfl, trivial⟩)
    jp ⟨⟩
  else do
    jp ⟨⟩

noncomputable def blk1 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (arg18 : BitVec 32) (jp : Unit → Prog (TpuEff nD τ sig (Elt F) Λ₀ .tc) Unit) :
    Prog (TpuEff nD τ sig (Elt F) Λ₀ .tc) (Unit) := do
  if k0_h1 : k0_cond1 k0_t2 = 1#1 then do
    let ⟨v91, v96⟩ : Σ' (v91 : BitVec 32), FVec F S112x256 .f32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 arg18 k0_h1
    let ⟨v130, v139⟩ : Σ' (v130 : FVec F S1x256 .f32), FVec F S112x256 .f32 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v96
    let v146 : Vec F S112x256 .fp8e4m3 ← Prog.lift (.load arg7 (Rect.unit (s := S112x4096) (k0_off7 k0_t2) S112x256.size (k0_off7_inb k0_t2 k0_h1)).toLoadRect (View.loadsAt_vmem h_S112x256))
    Prog.lift (.store arg7 (Rect.unit (s := S112x4096) (k0_off7 k0_t2) S112x256.size (k0_off7_inb k0_t2 k0_h1)) (k0_pay80 v139) Finset.univ (View.stores_vmem h_S112x256 (harg7.storeExact_slice rfl _ (k0_off7_packedfp8e4m3 k0_t2 k0_h1)) (fun _ => rfl)) (.inl rfl))
    let v148 : Vec F S1x256 .f32 ← Prog.lift (.load arg8 (Rect.unit (s := S1x4096) (k0_off8 k0_t2) S1x256.size (k0_off8_inb k0_t2 k0_h1)).toLoadRect (View.loadsAt_vmem h_S1x256))
    Prog.lift (.store arg8 (Rect.unit (s := S1x4096) (k0_off8 k0_t2) S1x256.size (k0_off8_inb k0_t2 k0_h1)) v130 Finset.univ (View.stores_vmem_bits_univ h_S1x256 rfl) (.inl rfl))
    let v149 : Vec F S112x256 .bf16 ← Prog.lift (.load arg13 (Rect.unit (s := S128x256) ![0, 0] S112x256.size inb_S128x256_S112x256_0_0).toLoadRect (View.loadsAt_vmem h_S112x256))
    Prog.lift (.store arg13 (Rect.unit (s := S128x256) ![0, 0] S112x256.size inb_S128x256_S112x256_0_0) (k0_pay81 v130 v139) Finset.univ (View.stores_vmem h_S112x256 (harg13.storeExact_slice rfl _ packedbf16_S128x256_S112x256_0_0) (fun _ => rfl)) (.inl rfl))
    jp ⟨⟩
  else do
    jp ⟨⟩

noncomputable def blk2 (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips)  (jp : Unit → Prog (TpuEff nD τ sig (Elt F) Λ₀ .tc) Unit) :
    Prog (TpuEff nD τ sig (Elt F) Λ₀ .tc) (Unit) := do
  if k0_h2 : k0_cond2 k0_t2 = 1#1 then do
    let v84 : DmaSems sig S1 := arg17.slice (Rect.unit (s := S2) (k0_off9 k0_t2) S1.size (k0_off9_inb k0_t2 k0_h2))
    let v85 : DmaSems sig S_ := v84.squeeze S_ squeezes_S1_S_
    let v86 : Memref sig .tc .hbm S256x256 .f32 := arg6.slice (Rect.unit (s := S256x4096) (k0_off10 k0_t2) S256x256.size (k0_off10_inb k0_t2 k0_h2)) (fun _ => rfl)
    let v87 : Memref sig .tc .vmem S1x256x256 .f32 := arg11.slice (Rect.unit (s := S2x256x256) (k0_off11 k0_t2) S1x256x256.size (k0_off11_inb k0_t2 k0_h2)) (fun _ => rfl)
    let v88 : Memref sig .tc .vmem S256x256 .f32 := v87.squeeze S256x256 squeezes_S1x256x256_S256x256
    Prog.lift (.waitDma2 v85.sem v88 v86 ((View.wordExact_bits rfl).reshape _ _) (View.wordExact_bits rfl))
    jp ⟨⟩
  else do
    jp ⟨⟩

theorem t3_eq (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) (arg18 : BitVec 32) (k0_t3 : Fin k0_t3_loop.trips) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 arg18 k0_t3 () = (blk3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 (Scalar.subi (Scalar.subi (Scalar.addi (Scalar.muli arg18 32#32) (Scf.iv 0#32 1#32 k0_t3)) 32#32) 4#32) fun _ => (blk4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 (Scalar.subi (Scalar.subi (Scalar.addi (Scalar.muli arg18 32#32) (Scf.iv 0#32 1#32 k0_t3)) 32#32) 4#32) fun _ => (blk5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3  fun _ => (blk6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 (Scalar.addi (Scalar.muli arg18 32#32) (Scf.iv 0#32 1#32 k0_t3)) fun _ => (blk7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 arg18 (Scf.iv 0#32 1#32 k0_t3) fun _ => (blk9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 k0_t3 (Scalar.addi (Scalar.muli arg18 32#32) (Scf.iv 0#32 1#32 k0_t3)) fun _ => pure ⟨⟩)))))) := by
  rfl

theorem t2_eq (arg0 : Memref sig .tc .vmem S32768x128 .bf16) (harg0 : arg0.IsWhole) (arg1 : Memref sig .tc .vmem S112x32768 .bf16) (harg1 : arg1.IsWhole) (arg2 : Memref sig .tc .vmem S128x128 .f32) (harg2 : arg2.IsWhole) (arg3 : Memref sig .tc .hbm S32768x4096 .f32) (harg3 : arg3.IsWhole) (arg4 : Memref sig .tc .hbm S32768x4096 .f32) (harg4 : arg4.IsWhole) (arg5 : Memref sig .tc .hbm S32768x4096 .fp8e4m3) (harg5 : arg5.IsWhole) (arg6 : Memref sig .tc .hbm S256x4096 .f32) (harg6 : arg6.IsWhole) (arg7 : Memref sig .tc .vmem S112x4096 .fp8e4m3) (harg7 : arg7.IsWhole) (arg8 : Memref sig .tc .vmem S1x4096 .f32) (harg8 : arg8.IsWhole) (arg9 : Memref sig .tc .vmem S42x1024x256 .f32) (harg9 : arg9.IsWhole) (arg10 : Memref sig .tc .vmem S4x1024x256 .fp8e4m3) (harg10 : arg10.IsWhole) (arg11 : Memref sig .tc .vmem S2x256x256 .f32) (harg11 : arg11.IsWhole) (arg12 : Memref sig .tc .vmem S128x256 .f32) (harg12 : arg12.IsWhole) (arg13 : Memref sig .tc .vmem S128x256 .bf16) (harg13 : arg13.IsWhole) (arg14 : DmaSems sig S42) (arg15 : DmaSems sig S42) (arg16 : DmaSems sig S4) (arg17 : DmaSems sig S2) (k0_t2 : Fin k0_t2_loop.trips) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 () = (blk1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 (Scf.iv 0#32 1#32 k0_t2) fun _ => blk2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 fun _ => (do
      let v58 : Vec F S128x256 .f32 ← Prog.lift (.load arg12 (Rect.unit (s := S128x256) ![0, 0] S128x256.size inb_S128x256_S128x256_0_0).toLoadRect (View.loadsAt_vmem h_S128x256))
      Prog.lift (.store arg12 (Rect.unit (s := S128x256) ![0, 0] S128x256.size inb_S128x256_S128x256_0_0) (k0_pay82 (F := F)) Finset.univ (View.stores_vmem_bits_univ h_S128x256 rfl) (.inl rfl))
      Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 k0_t2 (Scf.iv 0#32 1#32 k0_t2))
      pure ⟨⟩)) := by
  rfl

end Cert.Proof.Sweep

end
-- ==== Proof.Canon.lean ====
/- The printed slices of the loops are the windows of `Names`: one equation per printed slice. -/
module

public import proofs.«01_k».proof.Proof.Blocks

@[expose] public section

noncomputable section

namespace Cert.Proof.Sweep

open Cert.KernelIdeal Cert.KernelIdeal.Gen
open Idealize.ShloMosaic
open Idealize.ShloMosaic.TcCoe Idealize.ShloMosaic.Tactic

theorem mI_congr {off : Fin 1 → Nat} {s : Fin 42} (e : off = mOff s.val) (hh) :
    (cc0_scratch5.slice (Rect.unit (s := S42) off S1.size hh)).squeeze S_ squeezes_S1_S_ = mI s :=
  congrArg (fun A : DmaSems sig S1 => A.squeeze S_ squeezes_S1_S_) (SemArray.slice_unit_congr _ e _ _)
theorem mO_congr {off : Fin 1 → Nat} {s : Fin 42} (e : off = mOff s.val) (hh) :
    (cc0_scratch6.slice (Rect.unit (s := S42) off S1.size hh)).squeeze S_ squeezes_S1_S_ = mO s :=
  congrArg (fun A : DmaSems sig S1 => A.squeeze S_ squeezes_S1_S_) (SemArray.slice_unit_congr _ e _ _)
theorem mC_congr {off : Fin 1 → Nat} {s : Fin 4} (e : off = mOff s.val) (hh) :
    (cc0_scratch7.slice (Rect.unit (s := S4) off S1.size hh)).squeeze S_ squeezes_S1_S_ = mC s :=
  congrArg (fun A : DmaSems sig S1 => A.squeeze S_ squeezes_S1_S_) (SemArray.slice_unit_congr _ e _ _)
theorem mS_congr {off : Fin 1 → Nat} {s : Fin 2} (e : off = mOff s.val) (hh) :
    (cc0_scratch8.slice (Rect.unit (s := S2) off S1.size hh)).squeeze S_ squeezes_S1_S_ = mS s :=
  congrArg (fun A : DmaSems sig S1 => A.squeeze S_ squeezes_S1_S_) (SemArray.slice_unit_congr _ e _ _)
theorem rS_congr {off : Fin 3 → Nat} {s : Fin 42} (e : off = pOff s.val) (hh hs) :
    (ringM.slice (Rect.unit (s := S42x1024x256) off S1x1024x256.size hh) hs).squeeze S1024x256 squeezes_S1x1024x256_S1024x256 = rS s :=
  congrArg (fun M : Memref sig .tc .vmem S1x1024x256 .f32 => M.squeeze S1024x256 squeezes_S1x1024x256_S1024x256) (Memref.slice_unit_congr _ e _ _ _ _)
theorem kS_congr {off : Fin 3 → Nat} {s : Fin 4} (e : off = pOff s.val) (hh hs) :
    (cstM.slice (Rect.unit (s := S4x1024x256) off S1x1024x256.size hh) hs).squeeze S1024x256 squeezes_S1x1024x256_S1024x256 = kS s :=
  congrArg (fun M : Memref sig .tc .vmem S1x1024x256 .fp8e4m3 => M.squeeze S1024x256 squeezes_S1x1024x256_S1024x256) (Memref.slice_unit_congr _ e _ _ _ _)
theorem sS_congr {off : Fin 3 → Nat} {s : Fin 2} (e : off = pOff s.val) (hh hs) :
    (csstM.slice (Rect.unit (s := S2x256x256) off S1x256x256.size hh) hs).squeeze S256x256 squeezes_S1x256x256_S256x256 = sS s :=
  congrArg (fun M : Memref sig .tc .vmem S1x256x256 .f32 => M.squeeze S256x256 squeezes_S1x256x256_S256x256) (Memref.slice_unit_congr _ e _ _ _ _)
theorem cT_congr {off : Fin 2 → Nat} {s : Fin 512} (e : off = tOff s.val) (hh hs) :
    cM.slice (Rect.unit (s := S32768x4096) off S1024x256.size hh) hs = cT s :=
  Memref.slice_unit_congr _ e _ _ _ (fun _ => rfl)
theorem coT_congr {off : Fin 2 → Nat} {s : Fin 512} (e : off = tOff s.val) (hh hs) :
    coM.slice (Rect.unit (s := S32768x4096) off S1024x256.size hh) hs = coT s :=
  Memref.slice_unit_congr _ e _ _ _ (fun _ => rfl)
theorem ccT_congr {off : Fin 2 → Nat} {s : Fin 512} (e : off = tOff s.val) (hh hs) :
    ccM.slice (Rect.unit (s := S32768x4096) off S1024x256.size hh) hs = ccT s :=
  Memref.slice_unit_congr _ e _ _ _ (fun _ => rfl)
theorem csT_congr {off : Fin 2 → Nat} {s : Fin 16} (e : off = sOff s.val) (hh hs) :
    csM.slice (Rect.unit (s := S256x4096) off S256x256.size hh) hs = csT s :=
  Memref.slice_unit_congr _ e _ _ _ (fun _ => rfl)

@[sl_canon] theorem can1 (q : T1)  (hh) :
    (cc0_scratch5.slice (Rect.unit (s := S42) (k0_off1 q) S1.size hh)).squeeze S_ squeezes_S1_S_ = mI (sl42 q.val) := mI_congr (off1 q) _
@[sl_canon] theorem can2 (q : T1)  (hh hs) :
    (ringM.slice (Rect.unit (s := S42x1024x256) (k0_off2 q) S1x1024x256.size hh) hs).squeeze S1024x256 squeezes_S1x1024x256_S1024x256 = rS (sl42 q.val) := rS_congr (off2 q) _ _
@[sl_canon] theorem can3 (q : T1)  (hh hs) :
    cM.slice (Rect.unit (s := S32768x4096) (k0_off3 q) S1024x256.size hh) hs = cT (tl q.val) := cT_congr (off3 q) _ _
@[sl_canon] theorem can4 (i : T2) (h : 0 < i.val) (hh) :
    (cc0_scratch8.slice (Rect.unit (s := S2) (k0_off4 i) S1.size hh)).squeeze S_ squeezes_S1_S_ = mS (sl2 (i.val - 1)) := mS_congr (off4 i h) _
@[sl_canon] theorem can5 (i : T2) (h : 0 < i.val) (hh hs) :
    csM.slice (Rect.unit (s := S256x4096) (k0_off5 i) S256x256.size hh) hs = csT (pn (i.val - 1)) := csT_congr (off5 i h) _ _
@[sl_canon] theorem can6 (i : T2) (h : 0 < i.val) (hh hs) :
    (csstM.slice (Rect.unit (s := S2x256x256) (k0_off6 i) S1x256x256.size hh) hs).squeeze S256x256 squeezes_S1x256x256_S256x256 = sS (sl2 (i.val - 1)) := sS_congr (off6 i h) _ _
@[sl_canon] theorem can9 (i : T2) (h : 1 < i.val) (hh) :
    (cc0_scratch8.slice (Rect.unit (s := S2) (k0_off9 i) S1.size hh)).squeeze S_ squeezes_S1_S_ = mS (sl2 (i.val - 2)) := mS_congr (off9 i h) _
@[sl_canon] theorem can10 (i : T2) (h : 1 < i.val) (hh hs) :
    csM.slice (Rect.unit (s := S256x4096) (k0_off10 i) S256x256.size hh) hs = csT (pn (i.val - 2)) := csT_congr (off10 i h) _ _
@[sl_canon] theorem can11 (i : T2) (h : 1 < i.val) (hh hs) :
    (csstM.slice (Rect.unit (s := S2x256x256) (k0_off11 i) S1x256x256.size hh) hs).squeeze S256x256 squeezes_S1x256x256_S256x256 = sS (sl2 (i.val - 2)) := sS_congr (off11 i h) _ _
@[sl_canon] theorem can12 (i : T2) (k : T3) (h : 36 ≤ stp i k) (hh) :
    (cc0_scratch6.slice (Rect.unit (s := S42) (k0_off12 i k) S1.size hh)).squeeze S_ squeezes_S1_S_ = mO (sl42 (stp i k - 36)) := mO_congr (off12 i k h) _
@[sl_canon] theorem can13 (i : T2) (k : T3) (h : 36 ≤ stp i k) (hh hs) :
    coM.slice (Rect.unit (s := S32768x4096) (k0_off13 i k) S1024x256.size hh) hs = coT (tl (stp i k - 36)) := coT_congr (off13 i k h) _ _
@[sl_canon] theorem can14 (i : T2) (k : T3) (h : 36 ≤ stp i k) (hh hs) :
    (ringM.slice (Rect.unit (s := S42x1024x256) (k0_off14 i k) S1x1024x256.size hh) hs).squeeze S1024x256 squeezes_S1x1024x256_S1024x256 = rS (sl42 (stp i k - 36)) := rS_congr (off14 i k h) _ _
@[sl_canon] theorem can15 (i : T2) (k : T3) (h : 36 ≤ stp i k ∧ stp i k < 506) (hh) :
    (cc0_scratch5.slice (Rect.unit (s := S42) (k0_off15 i k) S1.size hh)).squeeze S_ squeezes_S1_S_ = mI (sl42 (stp i k + 6)) := mI_congr (off15 i k h) _
@[sl_canon] theorem can16 (i : T2) (k : T3) (h : 36 ≤ stp i k ∧ stp i k < 506) (hh hs) :
    (ringM.slice (Rect.unit (s := S42x1024x256) (k0_off16 i k) S1x1024x256.size hh) hs).squeeze S1024x256 squeezes_S1x1024x256_S1024x256 = rS (sl42 (stp i k + 6)) := rS_congr (off16 i k h) _ _
@[sl_canon] theorem can17 (i : T2) (k : T3) (h : 36 ≤ stp i k ∧ stp i k < 506) (hh hs) :
    cM.slice (Rect.unit (s := S32768x4096) (k0_off17 i k) S1024x256.size hh) hs = cT (tl (stp i k + 6)) := cT_congr (off17 i k h) _ _
@[sl_canon] theorem can20 (i : T2) (k : T3) (h : 1 ≤ stp i k ∧ stp i k ≤ 512) (hh) :
    (cc0_scratch7.slice (Rect.unit (s := S4) (k0_off20 i k) S1.size hh)).squeeze S_ squeezes_S1_S_ = mC (sl4 (stp i k - 1)) := mC_congr (off20 i k h) _
@[sl_canon] theorem can21 (i : T2) (k : T3) (h : 1 ≤ stp i k ∧ stp i k ≤ 512) (hh hs) :
    ccM.slice (Rect.unit (s := S32768x4096) (k0_off21 i k) S1024x256.size hh) hs = ccT (tl (stp i k - 1)) := ccT_congr (off21 i k h) _ _
@[sl_canon] theorem can22 (i : T2) (k : T3) (h : 1 ≤ stp i k ∧ stp i k ≤ 512) (hh hs) :
    (cstM.slice (Rect.unit (s := S4x1024x256) (k0_off22 i k) S1x1024x256.size hh) hs).squeeze S1024x256 squeezes_S1x1024x256_S1024x256 = kS (sl4 (stp i k - 1)) := kS_congr (off22 i k h) _ _
@[sl_canon] theorem can23 (i : T2) (k : T3) (h : i.val < 16) (hh) :
    (cc0_scratch5.slice (Rect.unit (s := S42) (k0_off23 i k) S1.size hh)).squeeze S_ squeezes_S1_S_ = mI (sl42 (stp i k)) := mI_congr (off23 i k h) _
@[sl_canon] theorem can24 (i : T2) (k : T3) (h : i.val < 16) (hh hs) :
    (ringM.slice (Rect.unit (s := S42x1024x256) (k0_off24 i k) S1x1024x256.size hh) hs).squeeze S1024x256 squeezes_S1x1024x256_S1024x256 = rS (sl42 (stp i k)) := rS_congr (off24 i k h) _ _
@[sl_canon] theorem can25 (i : T2) (k : T3) (h : i.val < 16) (hh hs) :
    cM.slice (Rect.unit (s := S32768x4096) (k0_off25 i k) S1024x256.size hh) hs = cT (tl (stp i k)) := cT_congr (off25 i k h) _ _
@[sl_canon] theorem can26 (i : T2) (k : T3) (h : i.val < 16 ∧ 4 ≤ stp i k) (hh) :
    (cc0_scratch7.slice (Rect.unit (s := S4) (k0_off26 i k) S1.size hh)).squeeze S_ squeezes_S1_S_ = mC (sl4 (stp i k - 4)) := mC_congr (off26 i k h) _
@[sl_canon] theorem can27 (i : T2) (k : T3) (h : i.val < 16 ∧ 4 ≤ stp i k) (hh hs) :
    ccM.slice (Rect.unit (s := S32768x4096) (k0_off27 i k) S1024x256.size hh) hs = ccT (tl (stp i k - 4)) := ccT_congr (off27 i k h) _ _
@[sl_canon] theorem can28 (i : T2) (k : T3) (h : i.val < 16 ∧ 4 ≤ stp i k) (hh hs) :
    (cstM.slice (Rect.unit (s := S4x1024x256) (k0_off28 i k) S1x1024x256.size hh) hs).squeeze S1024x256 squeezes_S1x1024x256_S1024x256 = kS (sl4 (stp i k - 4)) := kS_congr (off28 i k h) _ _
@[sl_canon] theorem can47 (i : T2) (k : T3) (h : 0 < i.val) (hh) :
    (cc0_scratch6.slice (Rect.unit (s := S42) (k0_off47 i k) S1.size hh)).squeeze S_ squeezes_S1_S_ = mO (sl42 (stp i k - 32)) := mO_congr (off47 i k h) _
@[sl_canon] theorem can48 (i : T2) (k : T3) (h : 0 < i.val) (hh hs) :
    coM.slice (Rect.unit (s := S32768x4096) (k0_off48 i k) S1024x256.size hh) hs = coT (tl (stp i k - 32)) := coT_congr (off48 i k h) _ _
@[sl_canon] theorem can49 (i : T2) (k : T3) (h : 0 < i.val) (hh hs) :
    (ringM.slice (Rect.unit (s := S42x1024x256) (k0_off49 i k) S1x1024x256.size hh) hs).squeeze S1024x256 squeezes_S1x1024x256_S1024x256 = rS (sl42 (stp i k - 32)) := rS_congr (off49 i k h) _ _

/-! The literal slices after the loops. -/

@[sl_canon] theorem litmC0 (hh) :
    (cc0_scratch7.slice (Rect.unit (s := S4) ![0] S1.size hh)).squeeze S_ squeezes_S1_S_ = mC 0 := mC_congr (by decide) _
@[sl_canon] theorem litccT0 (hh hs) :
    ccM.slice (Rect.unit (s := S32768x4096) ![28672, 3840] S1024x256.size hh) hs = ccT 508 := ccT_congr (by decide) _ _
@[sl_canon] theorem litkS0 (hh hs) :
    (cstM.slice (Rect.unit (s := S4x1024x256) ![0, 0, 0] S1x1024x256.size hh) hs).squeeze S1024x256 squeezes_S1x1024x256_S1024x256 = kS 0 := kS_congr (by decide) _ _
@[sl_canon] theorem litmO0 (hh) :
    (cc0_scratch6.slice (Rect.unit (s := S42) ![4] S1.size hh)).squeeze S_ squeezes_S1_S_ = mO 4 := mO_congr (by decide) _
@[sl_canon] theorem litcoT0 (hh hs) :
    coM.slice (Rect.unit (s := S32768x4096) ![28672, 3840] S1024x256.size hh) hs = coT 508 := coT_congr (by decide) _ _
@[sl_canon] theorem litrS0 (hh hs) :
    (ringM.slice (Rect.unit (s := S42x1024x256) ![4, 0, 0] S1x1024x256.size hh) hs).squeeze S1024x256 squeezes_S1x1024x256_S1024x256 = rS 4 := rS_congr (by decide) _ _
@[sl_canon] theorem litmC1 (hh) :
    (cc0_scratch7.slice (Rect.unit (s := S4) ![1] S1.size hh)).squeeze S_ squeezes_S1_S_ = mC 1 := mC_congr (by decide) _
@[sl_canon] theorem litccT1 (hh hs) :
    ccM.slice (Rect.unit (s := S32768x4096) ![29696, 3840] S1024x256.size hh) hs = ccT 509 := ccT_congr (by decide) _ _
@[sl_canon] theorem litkS1 (hh hs) :
    (cstM.slice (Rect.unit (s := S4x1024x256) ![1, 0, 0] S1x1024x256.size hh) hs).squeeze S1024x256 squeezes_S1x1024x256_S1024x256 = kS 1 := kS_congr (by decide) _ _
@[sl_canon] theorem litmO1 (hh) :
    (cc0_scratch6.slice (Rect.unit (s := S42) ![5] S1.size hh)).squeeze S_ squeezes_S1_S_ = mO 5 := mO_congr (by decide) _
@[sl_canon] theorem litcoT1 (hh hs) :
    coM.slice (Rect.unit (s := S32768x4096) ![29696, 3840] S1024x256.size hh) hs = coT 509 := coT_congr (by decide) _ _
@[sl_canon] theorem litrS1 (hh hs) :
    (ringM.slice (Rect.unit (s := S42x1024x256) ![5, 0, 0] S1x1024x256.size hh) hs).squeeze S1024x256 squeezes_S1x1024x256_S1024x256 = rS 5 := rS_congr (by decide) _ _
@[sl_canon] theorem litmC2 (hh) :
    (cc0_scratch7.slice (Rect.unit (s := S4) ![2] S1.size hh)).squeeze S_ squeezes_S1_S_ = mC 2 := mC_congr (by decide) _
@[sl_canon] theorem litccT2 (hh hs) :
    ccM.slice (Rect.unit (s := S32768x4096) ![30720, 3840] S1024x256.size hh) hs = ccT 510 := ccT_congr (by decide) _ _
@[sl_canon] theorem litkS2 (hh hs) :
    (cstM.slice (Rect.unit (s := S4x1024x256) ![2, 0, 0] S1x1024x256.size hh) hs).squeeze S1024x256 squeezes_S1x1024x256_S1024x256 = kS 2 := kS_congr (by decide) _ _
@[sl_canon] theorem litmO2 (hh) :
    (cc0_scratch6.slice (Rect.unit (s := S42) ![6] S1.size hh)).squeeze S_ squeezes_S1_S_ = mO 6 := mO_congr (by decide) _
@[sl_canon] theorem litcoT2 (hh hs) :
    coM.slice (Rect.unit (s := S32768x4096) ![30720, 3840] S1024x256.size hh) hs = coT 510 := coT_congr (by decide) _ _
@[sl_canon] theorem litrS2 (hh hs) :
    (ringM.slice (Rect.unit (s := S42x1024x256) ![6, 0, 0] S1x1024x256.size hh) hs).squeeze S1024x256 squeezes_S1x1024x256_S1024x256 = rS 6 := rS_congr (by decide) _ _
@[sl_canon] theorem litmC3 (hh) :
    (cc0_scratch7.slice (Rect.unit (s := S4) ![3] S1.size hh)).squeeze S_ squeezes_S1_S_ = mC 3 := mC_congr (by decide) _
@[sl_canon] theorem litccT3 (hh hs) :
    ccM.slice (Rect.unit (s := S32768x4096) ![31744, 3840] S1024x256.size hh) hs = ccT 511 := ccT_congr (by decide) _ _
@[sl_canon] theorem litkS3 (hh hs) :
    (cstM.slice (Rect.unit (s := S4x1024x256) ![3, 0, 0] S1x1024x256.size hh) hs).squeeze S1024x256 squeezes_S1x1024x256_S1024x256 = kS 3 := kS_congr (by decide) _ _
@[sl_canon] theorem litmO3 (hh) :
    (cc0_scratch6.slice (Rect.unit (s := S42) ![7] S1.size hh)).squeeze S_ squeezes_S1_S_ = mO 7 := mO_congr (by decide) _
@[sl_canon] theorem litcoT3 (hh hs) :
    coM.slice (Rect.unit (s := S32768x4096) ![31744, 3840] S1024x256.size hh) hs = coT 511 := coT_congr (by decide) _ _
@[sl_canon] theorem litrS3 (hh hs) :
    (ringM.slice (Rect.unit (s := S42x1024x256) ![7, 0, 0] S1x1024x256.size hh) hs).squeeze S1024x256 squeezes_S1x1024x256_S1024x256 = rS 7 := rS_congr (by decide) _ _
@[sl_canon] theorem litmS (hh) :
    (cc0_scratch8.slice (Rect.unit (s := S2) ![1] S1.size hh)).squeeze S_ squeezes_S1_S_ = mS 1 := mS_congr (by decide) _
@[sl_canon] theorem litcsT (hh hs) :
    csM.slice (Rect.unit (s := S256x4096) ![0, 3840] S256x256.size hh) hs = csT 15 := csT_congr (by decide) _ _
@[sl_canon] theorem litsS (hh hs) :
    (csstM.slice (Rect.unit (s := S2x256x256) ![1, 0, 0] S1x256x256.size hh) hs).squeeze S256x256 squeezes_S1x256x256_S256x256 = sS 1 := sS_congr (by decide) _ _

end Cert.Proof.Sweep

end
-- ==== Proof.Pieces.lean ====
/- The resources of the sweep: tiles, slots, semaphores, copies under way. -/
module

public import proofs.«01_k».proof.Proof.Canon
public import Idealize.ShloMosaic.Lib.Pipeline.KitQuiescent
public import Idealize.ShloMosaic.Lib.VecWindow

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

theorem entails_of_eq {P Q : sProp 𝕄} (e : P = Q) : P ⊢ Q := e ▸ .rfl

section
variable (c : Dev nD)

/-- The memref held at values `v`, at any contents. -/
abbrev holds {sp : Space} {s : Shape} {e : EltTy} (M : Memref sig .tc sp s e) (v : s.Idx → Elt F e) : sProp 𝕄 :=
  M.view.loc (c : Thread nD τ) ↦[M.view.set]{fullShare} M.view.rep v
abbrev any {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
/-- A semaphore at zero. -/
abbrev cellP (s : DmaSems sig S_) : sProp 𝕄 := semVal ((c : Thread nD τ), SemLoc.dma s.sem) 0
abbrev owesP : sProp 𝕄 := iprop(∃ W, owes (c : Thread nD τ) 0 W)

theorem any_of_holds {sp : Space} {s : Shape} {e : EltTy} (M : Memref sig .tc sp s e) (v : s.Idx → Elt F e) :
    (holds c M v : sProp 𝕄) ⊢ any c M := by
  iintro H; iexists _; iexact H

/-- What a copy of `v` leaves over any contents is `v`. -/
theorem holds_of_copy {sp : Space} {s : Shape} {e : EltTy} (M : Memref sig .tc sp s e) (f : Buf (Elt F) (M.view.loc (c : Thread nD τ)))
    (v : s.Idx → Elt F e) (w : (Rect.whole s).shape.Idx → Elt F e) (h : w = v) :
    (M.view.loc (c : Thread nD τ) ↦[M.view.set]{fullShare} M.view.writes (Elt F) f [⟨Rect.whole s, w⟩] : sProp 𝕄) ⊢ holds c M v := by
  subst h
  refine pointsTo_rep_of_read (c : Thread nD τ) M _ _ _ ?_
  exact View.read_writes_whole _ _ _

variable (X : Buf (Elt F) (cM.view.loc (c : Thread nD τ))) (NT : Fin 512 → S1024x256.Idx → Elt F .f32)

/-- Tile `q` of the input. -/
abbrev xt (q : Fin 512) : S1024x256.Idx → Elt F .f32 := (cT q).view.read (Elt F) X
abbrev homeP (q : Fin 512) : sProp 𝕄 := (cT q).view.loc (c : Thread nD τ) ↦[(cT q).view.set]{fullShare} X
/-- The slot a tile goes through. -/
abbrev sq (q : Fin 512) : Fin 42 := sl42 q.val
/-- Tile `q` on its way in, and on its way out. -/
abbrev fI (q : Fin 512) : sProp 𝕄 :=
  Transfers.Flight countersEmb (c : Thread nD τ) (SemLoc.dma (mI (sq q)).sem) () 32768 iprop(holds c (rS (sq q)) (xt c X q) ∗ homeP c X q)
abbrev fO (q : Fin 512) : sProp 𝕄 :=
  Transfers.Flight countersEmb (c : Thread nD τ) (SemLoc.dma (mO (sq q)).sem) () 32768 iprop(holds c (coT q) (NT q) ∗ holds c (rS (sq q)) (NT q))
/-- A slot of the ring with nothing in it. -/
abbrev freeR (s : Fin 42) : sProp 𝕄 := iprop(any c (rS s) ∗ cellP c (mI s) ∗ cellP c (mO s))
abbrev cells (q : Fin 512) : sProp 𝕄 := iprop(cellP c (mI (sq q)) ∗ cellP c (mO (sq q)))

/-- What tile `q` owns when `ns` tiles were asked for, `na` have come in, `nu` are updated, `no` were sent out and `nd` are out. -/
def tileP (ns na nu no nd : ℕ) (q : Fin 512) : sProp 𝕄 :=
  if q.val < nd then iprop(homeP c X q ∗ holds c (coT q) (NT q) ∗ (if ns ≤ q.val + 42 then freeR c (sq q) else iprop(emp)))
  else if q.val < no then iprop(homeP c X q ∗ fO c NT q ∗ cellP c (mI (sq q)))
  else if q.val < nu then iprop(homeP c X q ∗ any c (coT q) ∗ holds c (rS (sq q)) (NT q) ∗ cells c q)
  else if q.val < na then iprop(homeP c X q ∗ any c (coT q) ∗ holds c (rS (sq q)) (xt c X q) ∗ cells c q)
  else if q.val < ns then iprop(fI c X q ∗ any c (coT q) ∗ cellP c (mO (sq q)))
  else iprop(homeP c X q ∗ any c (coT q))

/-- The ring: every tile's share. -/
def ringP (ns na nu no nd : ℕ) : sProp 𝕄 := bigSep Finset.univ (tileP c X NT ns na nu no nd)

/-- One tile changes, the others stay. -/
theorem bigSep_step1 {ι : Type} [Fintype ι] [DecidableEq ι] (P P' : ι → sProp 𝕄) (q : ι) (h : ∀ r, r ≠ q → P r = P' r) :
    ∃ Z : sProp 𝕄, bigSep Finset.univ P = iprop(P q ∗ Z) ∧ bigSep Finset.univ P' = iprop(P' q ∗ Z) := by
  refine ⟨bigSep (Finset.univ.erase q) P', ?_, ?_⟩
  · conv_lhs => rw [← Finset.insert_erase (Finset.mem_univ q), bigSep_insert (Finset.notMem_erase _ _)]
    rw [bigSep_congr (fun r hr => h r (Finset.ne_of_mem_erase hr))]; rfl
  · conv_lhs => rw [← Finset.insert_erase (Finset.mem_univ q), bigSep_insert (Finset.notMem_erase _ _)]
    rfl
/-- Two tiles change, the others stay. -/
theorem bigSep_step2 {ι : Type} [Fintype ι] [DecidableEq ι] (P P' : ι → sProp 𝕄) (q q' : ι) (hq : q ≠ q') (h : ∀ r, r ≠ q → r ≠ q' → P r = P' r) :
    ∃ Z : sProp 𝕄, bigSep Finset.univ P = iprop(P q ∗ P q' ∗ Z) ∧ bigSep Finset.univ P' = iprop(P' q ∗ P' q' ∗ Z) := by
  have hm : q' ∈ Finset.univ.erase q := Finset.mem_erase.2 ⟨Ne.symm hq, Finset.mem_univ _⟩
  refine ⟨bigSep ((Finset.univ.erase q).erase q') P', ?_, ?_⟩
  · conv_lhs => rw [← Finset.insert_erase (Finset.mem_univ q), bigSep_insert (Finset.notMem_erase _ _), ← Finset.insert_erase hm, bigSep_insert (Finset.notMem_erase _ _)]
    rw [bigSep_congr (fun r hr => h r (Finset.ne_of_mem_erase (Finset.mem_of_mem_erase hr)) (Finset.ne_of_mem_erase hr))]; rfl
  · conv_lhs => rw [← Finset.insert_erase (Finset.mem_univ q), bigSep_insert (Finset.notMem_erase _ _), ← Finset.insert_erase hm, bigSep_insert (Finset.notMem_erase _ _)]
    rfl

/-- Tile `nd` comes out. -/
theorem ring_out (ns na nu no nd : ℕ) (h : nd < no) (hns : ns ≤ nd + 42) (q : Fin 512) (hq : q.val = nd) :
    ∃ Z : sProp 𝕄, ringP c X NT ns na nu no nd = iprop((homeP c X q ∗ fO c NT q ∗ cellP c (mI (sq q))) ∗ Z)
      ∧ ringP c X NT ns na nu no (nd + 1) = iprop((homeP c X q ∗ holds c (coT q) (NT q) ∗ freeR c (sq q)) ∗ Z) := by
  obtain ⟨Z, h1, h2⟩ := bigSep_step1 (tileP c X NT ns na nu no nd) (tileP c X NT ns na nu no (nd + 1)) q (fun r hr => by
    have : r.val ≠ nd := fun e => hr (Fin.ext (e.trans hq.symm))
    unfold tileP
    by_cases h1 : r.val < nd
    · rw [if_pos h1, if_pos (show r.val < nd + 1 by omega)]
    · rw [if_neg h1, if_neg (show ¬ r.val < nd + 1 by omega)])
  refine ⟨Z, h1.trans ?_, h2.trans ?_⟩
  · unfold tileP; rw [if_neg (show ¬ q.val < nd by omega), if_pos (show q.val < no by omega)]
  · unfold tileP; rw [if_pos (show q.val < nd + 1 by omega), if_pos (show ns ≤ q.val + 42 by omega)]
/-- Tile `no` is sent out. -/
theorem ring_send (ns na nu no nd : ℕ) (h : no < nu) (h2 : nd ≤ no) (q : Fin 512) (hq : q.val = no) :
    ∃ Z : sProp 𝕄, ringP c X NT ns na nu no nd = iprop((homeP c X q ∗ any c (coT q) ∗ holds c (rS (sq q)) (NT q) ∗ cells c q) ∗ Z)
      ∧ ringP c X NT ns na nu (no + 1) nd = iprop((homeP c X q ∗ fO c NT q ∗ cellP c (mI (sq q))) ∗ Z) := by
  obtain ⟨Z, h1, h2⟩ := bigSep_step1 (tileP c X NT ns na nu no nd) (tileP c X NT ns na nu (no + 1) nd) q (fun r hr => by
    have : r.val ≠ no := fun e => hr (Fin.ext (e.trans hq.symm))
    unfold tileP
    by_cases h1 : r.val < no
    · simp only [h1, show r.val < no + 1 by omega]
    · simp only [h1, show ¬ r.val < no + 1 by omega])
  refine ⟨Z, h1.trans ?_, h2.trans ?_⟩
  · unfold tileP; rw [if_neg (show ¬ q.val < nd by omega), if_neg (show ¬ q.val < no by omega), if_pos (show q.val < nu by omega)]
  · unfold tileP; rw [if_neg (show ¬ q.val < nd by omega), if_pos (show q.val < no + 1 by omega)]
/-- Tile `nu` is updated in its slot. -/
theorem ring_update (ns na nu no nd : ℕ) (h : nu < na) (h2 : nd ≤ no) (h3 : no ≤ nu) (q : Fin 512) (hq : q.val = nu) :
    ∃ Z : sProp 𝕄, ringP c X NT ns na nu no nd = iprop((homeP c X q ∗ any c (coT q) ∗ holds c (rS (sq q)) (xt c X q) ∗ cells c q) ∗ Z)
      ∧ ringP c X NT ns na (nu + 1) no nd = iprop((homeP c X q ∗ any c (coT q) ∗ holds c (rS (sq q)) (NT q) ∗ cells c q) ∗ Z) := by
  obtain ⟨Z, h1, h2⟩ := bigSep_step1 (tileP c X NT ns na nu no nd) (tileP c X NT ns na (nu + 1) no nd) q (fun r hr => by
    have : r.val ≠ nu := fun e => hr (Fin.ext (e.trans hq.symm))
    unfold tileP
    by_cases h1 : r.val < nu
    · simp only [h1, show r.val < nu + 1 by omega]
    · simp only [h1, show ¬ r.val < nu + 1 by omega])
  refine ⟨Z, h1.trans ?_, h2.trans ?_⟩
  · unfold tileP; rw [if_neg (show ¬ q.val < nd by omega), if_neg (show ¬ q.val < no by omega), if_neg (show ¬ q.val < nu by omega), if_pos (show q.val < na by omega)]
  · unfold tileP; rw [if_neg (show ¬ q.val < nd by omega), if_neg (show ¬ q.val < no by omega), if_pos (show q.val < nu + 1 by omega)]
/-- Tile `na` has come in. -/
theorem ring_in (ns na nu no nd : ℕ) (h : na < ns) (h2 : nd ≤ no) (h3 : no ≤ nu) (h4 : nu ≤ na) (q : Fin 512) (hq : q.val = na) :
    ∃ Z : sProp 𝕄, ringP c X NT ns na nu no nd = iprop((fI c X q ∗ any c (coT q) ∗ cellP c (mO (sq q))) ∗ Z)
      ∧ ringP c X NT ns (na + 1) nu no nd = iprop((homeP c X q ∗ any c (coT q) ∗ holds c (rS (sq q)) (xt c X q) ∗ cells c q) ∗ Z) := by
  obtain ⟨Z, h1, h2⟩ := bigSep_step1 (tileP c X NT ns na nu no nd) (tileP c X NT ns (na + 1) nu no nd) q (fun r hr => by
    have : r.val ≠ na := fun e => hr (Fin.ext (e.trans hq.symm))
    unfold tileP
    by_cases h1 : r.val < na
    · simp only [h1, show r.val < na + 1 by omega]
    · simp only [h1, show ¬ r.val < na + 1 by omega])
  refine ⟨Z, h1.trans ?_, h2.trans ?_⟩
  · unfold tileP; rw [if_neg (show ¬ q.val < nd by omega), if_neg (show ¬ q.val < no by omega), if_neg (show ¬ q.val < nu by omega), if_neg (show ¬ q.val < na by omega), if_pos (show q.val < ns by omega)]
  · unfold tileP; rw [if_neg (show ¬ q.val < nd by omega), if_neg (show ¬ q.val < no by omega), if_neg (show ¬ q.val < nu by omega), if_pos (show q.val < na + 1 by omega)]
/-- Tile `ns` is asked for, into the slot the tile 42 before it left. -/
theorem ring_ask (ns na nu no nd : ℕ) (h : na ≤ ns) (h2 : nd ≤ no) (h3 : no ≤ nu) (h4 : nu ≤ na) (q q' : Fin 512) (hq : q.val = ns) (hq' : q'.val + 42 = ns) (hd : q'.val < nd) :
    ∃ Z : sProp 𝕄, ringP c X NT ns na nu no nd = iprop((homeP c X q ∗ any c (coT q)) ∗ (homeP c X q' ∗ holds c (coT q') (NT q') ∗ freeR c (sq q')) ∗ Z)
      ∧ ringP c X NT (ns + 1) na nu no nd = iprop((fI c X q ∗ any c (coT q) ∗ cellP c (mO (sq q))) ∗ (homeP c X q' ∗ holds c (coT q') (NT q') ∗ emp) ∗ Z) := by
  obtain ⟨Z, h1, h2⟩ := bigSep_step2 (tileP c X NT ns na nu no nd) (tileP c X NT (ns + 1) na nu no nd) q q' (by intro e; subst e; omega) (fun r hr hr' => by
    have : r.val ≠ ns := fun e => hr (Fin.ext (e.trans hq.symm))
    have : r.val ≠ q'.val := fun e => hr' (Fin.ext e)
    unfold tileP
    by_cases h1 : r.val < ns <;> by_cases h2 : ns ≤ r.val + 42
    · simp only [h1, h2, show r.val < ns + 1 by omega, show ns + 1 ≤ r.val + 42 by omega]
    · simp only [h1, h2, show r.val < ns + 1 by omega, show ¬ ns + 1 ≤ r.val + 42 by omega]
    · simp only [h1, h2, show ¬ r.val < ns + 1 by omega, show ns + 1 ≤ r.val + 42 by omega]
    · omega)
  refine ⟨Z, h1.trans ?_, h2.trans ?_⟩
  · unfold tileP; rw [if_neg (show ¬ q.val < nd by omega), if_neg (show ¬ q.val < no by omega), if_neg (show ¬ q.val < nu by omega), if_neg (show ¬ q.val < na by omega), if_neg (show ¬ q.val < ns by omega),
      if_pos hd, if_pos (show ns ≤ q'.val + 42 by omega)]
  · unfold tileP; rw [if_neg (show ¬ q.val < nd by omega), if_neg (show ¬ q.val < no by omega), if_neg (show ¬ q.val < nu by omega), if_neg (show ¬ q.val < na by omega), if_pos (show q.val < ns + 1 by omega),
      if_pos hd, if_neg (show ¬ ns + 1 ≤ q'.val + 42 by omega)]

/-! ## The codes' ring -/

variable (KC : Fin 512 → S1024x256.Idx → Elt F .fp8e4m3)

abbrev sk (q : Fin 512) : Fin 4 := sl4 q.val
abbrev fK (q : Fin 512) : sProp 𝕄 :=
  Transfers.Flight countersEmb (c : Thread nD τ) (SemLoc.dma (mC (sk q)).sem) () 8192 iprop(holds c (ccT q) (KC q) ∗ holds c (kS (sk q)) (KC q))
abbrev freeK (s : Fin 4) : sProp 𝕄 := iprop(any c (kS s) ∗ cellP c (mC s))
/-- What tile `q` of the codes owns when `mw` were written, `ms` sent out and `md` are out. -/
def codeP (mw ms md : ℕ) (q : Fin 512) : sProp 𝕄 :=
  if q.val < md then iprop(holds c (ccT q) (KC q) ∗ (if mw ≤ q.val + 4 then freeK c (sk q) else iprop(emp)))
  else if q.val < ms then fK c KC q
  else if q.val < mw then iprop(any c (ccT q) ∗ holds c (kS (sk q)) (KC q) ∗ cellP c (mC (sk q)))
  else any c (ccT q)
/-- The codes' slots not yet used when `mw` tiles were written. -/
def slackK (mw : ℕ) : sProp 𝕄 := bigSep Finset.univ (fun s : Fin 4 => if mw ≤ s.val then freeK c s else iprop(emp))
/-- The ring of codes: every tile's share, and the slots not yet used. -/
def codesP (mw ms md : ℕ) : sProp 𝕄 := iprop(bigSep Finset.univ (codeP c KC mw ms md) ∗ slackK c mw)

/-- Tile `ms` of the codes is sent out. -/
theorem codes_send (mw ms md : ℕ) (h : ms < mw) (h2 : md ≤ ms) (q : Fin 512) (hq : q.val = ms) :
    ∃ Z : sProp 𝕄, codesP c KC mw ms md = iprop(((any c (ccT q) ∗ holds c (kS (sk q)) (KC q) ∗ cellP c (mC (sk q))) ∗ Z) ∗ slackK c mw)
      ∧ codesP c KC mw (ms + 1) md = iprop((fK c KC q ∗ Z) ∗ slackK c mw) := by
  obtain ⟨Z, h1, h2⟩ := bigSep_step1 (codeP c KC mw ms md) (codeP c KC mw (ms + 1) md) q (fun r hr => by
    have : r.val ≠ ms := fun e => hr (Fin.ext (e.trans hq.symm))
    unfold codeP
    by_cases h1 : r.val < ms
    · simp only [h1, show r.val < ms + 1 by omega]
    · simp only [h1, show ¬ r.val < ms + 1 by omega])
  refine ⟨Z, ?_, ?_⟩
  · unfold codesP; rw [h1]; unfold codeP; rw [if_neg (show ¬ q.val < md by omega), if_neg (show ¬ q.val < ms by omega), if_pos (show q.val < mw by omega)]
  · unfold codesP; rw [h2]; unfold codeP; rw [if_neg (show ¬ q.val < md by omega), if_pos (show q.val < ms + 1 by omega)]
/-- Tile `md` of the codes is out. -/
theorem codes_out (mw ms md : ℕ) (h : md < ms) (h2 : mw ≤ md + 4) (q : Fin 512) (hq : q.val = md) :
    ∃ Z : sProp 𝕄, codesP c KC mw ms md = iprop((fK c KC q ∗ Z) ∗ slackK c mw)
      ∧ codesP c KC mw ms (md + 1) = iprop(((holds c (ccT q) (KC q) ∗ freeK c (sk q)) ∗ Z) ∗ slackK c mw) := by
  obtain ⟨Z, h1, h2⟩ := bigSep_step1 (codeP c KC mw ms md) (codeP c KC mw ms (md + 1)) q (fun r hr => by
    have : r.val ≠ md := fun e => hr (Fin.ext (e.trans hq.symm))
    unfold codeP
    by_cases h1 : r.val < md
    · simp only [h1, show r.val < md + 1 by omega]
    · simp only [h1, show ¬ r.val < md + 1 by omega])
  refine ⟨Z, ?_, ?_⟩
  · unfold codesP; rw [h1]; unfold codeP; rw [if_neg (show ¬ q.val < md by omega), if_pos (show q.val < ms by omega)]
  · unfold codesP; rw [h2]; unfold codeP; rw [if_pos (show q.val < md + 1 by omega), if_pos (show mw ≤ q.val + 4 by omega)]
/-- Tile `mw` of the codes is written, into a slot that is free. -/
theorem codes_write (mw ms md : ℕ) (h : md ≤ ms) (h2 : ms ≤ mw) (h4 : mw < 4 ∨ mw < md + 4) (q : Fin 512) (hq : q.val = mw) :
    (codesP c KC mw ms md : sProp 𝕄) ⊢ iprop(freeK c (sk q) ∗ ((holds c (kS (sk q)) (KC q) ∗ cellP c (mC (sk q))) -∗ codesP c KC (mw + 1) ms md)) := by
  by_cases hlt : mw < 4
  · obtain ⟨Z, e1, e2⟩ := bigSep_step1 (codeP c KC mw ms md) (codeP c KC (mw + 1) ms md) q (fun r hr => by
      have : r.val ≠ mw := fun e => hr (Fin.ext (e.trans hq.symm))
      unfold codeP
      by_cases h1 : r.val < mw
      · simp only [h1, show r.val < mw + 1 by omega, show mw ≤ r.val + 4 by omega, show mw + 1 ≤ r.val + 4 by omega]
      · simp only [h1, show ¬ r.val < mw + 1 by omega, show mw ≤ r.val + 4 by omega, show mw + 1 ≤ r.val + 4 by omega])
    have hs : (sk q).val = mw := by show q.val % 4 = mw; omega
    obtain ⟨Y, e3, e4⟩ := bigSep_step1 (fun s : Fin 4 => (if mw ≤ s.val then freeK c s else iprop(emp) : sProp 𝕄)) (fun s : Fin 4 => if mw + 1 ≤ s.val then freeK c s else iprop(emp)) (sk q) (fun r hr => by
      have : r.val ≠ mw := fun e => hr (Fin.ext (e.trans hs.symm))
      by_cases h1 : mw ≤ r.val
      · simp only [h1, show mw + 1 ≤ r.val by omega]
      · simp only [h1, show ¬ mw + 1 ≤ r.val by omega])
    unfold codesP slackK
    rw [e1, e2, e3, e4, if_pos (show mw ≤ (sk q).val by omega), if_neg (show ¬ mw + 1 ≤ (sk q).val by omega)]
    unfold codeP
    simp only [show ¬ q.val < md by omega, show ¬ q.val < ms by omega, show ¬ q.val < mw by omega, show q.val < mw + 1 by omega, if_true, if_false]
    iintro ⟨⟨HA, HZ⟩, HF, HY⟩
    isplitl [HF]; · iexact HF
    iintro ⟨HK, HC⟩
    isplitl [HA HZ HK HC]
    · isplitl [HA HK HC]
      · isplitl [HA]; · iexact HA
        isplitl [HK]; · iexact HK
        iexact HC
      iexact HZ
    isplitr; · iempintro
    iexact HY
  · obtain ⟨q', hq'⟩ : ∃ q' : Fin 512, q'.val + 4 = mw := ⟨⟨mw - 4, by have := q.isLt; omega⟩, by show mw - 4 + 4 = mw; omega⟩
    have hsk : sk q' = sk q := Fin.ext (by show q'.val % 4 = q.val % 4; omega)
    obtain ⟨Z, e1, e2⟩ := bigSep_step2 (codeP c KC mw ms md) (codeP c KC (mw + 1) ms md) q q' (by intro e; subst e; omega) (fun r hr hr' => by
      have : r.val ≠ mw := fun e => hr (Fin.ext (e.trans hq.symm))
      have : r.val ≠ q'.val := fun e => hr' (Fin.ext e)
      unfold codeP
      by_cases h1 : r.val < mw <;> by_cases h2 : mw ≤ r.val + 4
      · simp only [h1, h2, show r.val < mw + 1 by omega, show mw + 1 ≤ r.val + 4 by omega]
      · simp only [h1, h2, show r.val < mw + 1 by omega, show ¬ mw + 1 ≤ r.val + 4 by omega]
      · simp only [h1, h2, show ¬ r.val < mw + 1 by omega, show mw + 1 ≤ r.val + 4 by omega]
      · omega)
    have es : (slackK c mw : sProp 𝕄) = slackK c (mw + 1) := by
      unfold slackK
      exact bigSep_congr (fun s _ => by have := s.isLt; rw [if_neg (show ¬ mw ≤ s.val by omega), if_neg (show ¬ mw + 1 ≤ s.val by omega)])
    unfold codesP
    rw [es, e1, e2]
    unfold codeP
    simp only [show ¬ q.val < md by omega, show ¬ q.val < ms by omega, show ¬ q.val < mw by omega, show q.val < mw + 1 by omega,
      show q'.val < md by omega, show mw ≤ q'.val + 4 by omega, show ¬ mw + 1 ≤ q'.val + 4 by omega, if_true, if_false, hsk]
    iintro ⟨⟨HA, ⟨HB, HF⟩, HZ⟩, HY⟩
    isplitl [HF]; · iexact HF
    iintro ⟨HK, HC⟩
    isplitr [HY]
    · isplitl [HA HK HC]
      · isplitl [HA]; · iexact HA
        isplitl [HK]; · iexact HK
        iexact HC
      isplitl [HB]
      · isplitl [HB]; · iexact HB
        iempintro
      iexact HZ
    iexact HY

end

end Cert.Proof.Sweep

end
-- ==== Proof.Moves.lean ====
/- The blocks of a step that move a tile: what each takes and what it leaves. -/
module

public import proofs.«01_k».proof.Proof.Pieces

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (X : Buf (Elt F) (cM.view.loc (c : Thread nD τ))) (NT : Fin 512 → S1024x256.Idx → Elt F .f32)
  (KC : Fin 512 → S1024x256.Idx → Elt F .fp8e4m3)
  (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

theorem i_lt (i : T2) : i.val < 17 := lt_of_lt_of_eq i.isLt trips2
theorem k_lt (k : T3) : k.val < 32 := lt_of_lt_of_eq k.isLt trips3

abbrev P1 := Prog (TpuEff nD τ sig (Elt F) Λ₀ .tc) Unit
/-- The blocks at the call's own buffers. -/
abbrev B3 (i : T2) (k : T3) (v : BitVec 32) (jp : Unit → P1 (F := F)) : P1 (F := F) :=
  blk3 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i k v jp
abbrev B4 (i : T2) (k : T3) (v : BitVec 32) (jp : Unit → P1 (F := F)) : P1 (F := F) :=
  blk4 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i k v jp
abbrev B6 (i : T2) (k : T3) (v : BitVec 32) (jp : Unit → P1 (F := F)) : P1 (F := F) :=
  blk6 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i k v jp
abbrev B9 (i : T2) (k : T3) (v : BitVec 32) (jp : Unit → P1 (F := F)) : P1 (F := F) :=
  blk9 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i k v jp
abbrev B5 (i : T2) (k : T3)  (jp : Unit → P1 (F := F)) : P1 (F := F) :=
  blk5 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i k  jp
abbrev B7 (i : T2) (k : T3) (v w : BitVec 32) (jp : Unit → P1 (F := F)) : P1 (F := F) :=
  blk7 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i k v w jp
abbrev B1 (i : T2) (v : BitVec 32) (jp : Unit → P1 (F := F)) : P1 (F := F) :=
  blk1 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i v jp
abbrev B2 (i : T2)  (jp : Unit → P1 (F := F)) : P1 (F := F) :=
  blk2 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i  jp

theorem stp_def (i : T2) (k : T3) : stp i k = i.val * 32 + k.val := rfl
/-- How many tiles were asked for before step `t`, and how many codes were written, sent, waited for. -/
abbrev nsf (t : ℕ) : ℕ := min 512 (max 42 (t + 6))

/-- Block 3 waits for a tile to be out. -/
theorem b3_wp (i : T2) (k : T3) (v : BitVec 32) (jp : Unit → P1 (F := F)) (Q : Unit → sProp 𝕄) (ns na nu no : ℕ)
    (hno : stp i k - 36 < no ∨ stp i k < 36) (hns : ns ≤ stp i k + 6 ∨ stp i k < 36) :
    iprop(ringP c X NT ns na nu no (stp i k - 36) ∗ owesP c
      ∗ ((ringP c X NT ns na nu no (stp i k + 1 - 36) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B3 arg0 harg0 arg1 harg1 arg2 harg2 arg7 harg7 arg8 harg8 i k v jp) Q := by
  unfold B3 blk3
  by_cases h : 36 ≤ stp i k
  · have hC : k0_cond3 i k = 1#1 := (c3 i k).2 h
    have ht : stp i k - 36 < 512 := by have := i_lt i; have := k_lt k; have e := stp_def i k; omega
    obtain ⟨Z, e1, e2⟩ := ring_out c X NT ns na nu no (stp i k - 36) (by omega) (by omega) (tl (stp i k - 36)) (Ring.bk_val ht)
    have hs : sq (tl (stp i k - 36)) = sl42 (stp i k - 36) := by
      unfold sq; rw [Ring.bk_val ht]
    dsimp only [fO, freeR] at e1 e2; rw [hs] at e1 e2
    rw [show stp i k + 1 - 36 = stp i k - 36 + 1 by omega, e1, e2]
    iintro ⟨⟨⟨HH, HF, HC⟩, HZ⟩, ⟨%W, HW⟩, Hk⟩
    sl_exec
    iapply Hk
    isplitr [HW]
    · isplitr [HZ]
      · isplitl [HH]; · iexact HH
        isplitl [HF_dst]; · iexact HF_dst
        isplitl [HF_src]; · iexists _; iexact HF_src
        isplitl [HC]; · iexact HC
        iexact HF
      iexact HZ
    iexists _; iexact HW
  · have hC : ¬ k0_cond3 i k = 1#1 := fun e => h ((c3 i k).1 e)
    rw [dif_neg hC, show stp i k + 1 - 36 = stp i k - 36 by omega]
    iintro ⟨HR, HW, Hk⟩
    iapply Hk
    isplitl [HR]; · iexact HR
    iexact HW

/-- Block 4 asks for a tile. -/
theorem b4_wp (i : T2) (k : T3) (v : BitVec 32) (jp : Unit → P1 (F := F)) (Q : Unit → sProp 𝕄) (na nu no : ℕ)
    (h1 : stp i k + 1 - 36 ≤ no) (h2 : no ≤ nu) (h3 : nu ≤ na) (h4 : na ≤ nsf (stp i k)) :
    iprop(ringP c X NT (nsf (stp i k)) na nu no (stp i k + 1 - 36) ∗ owesP c
      ∗ ((ringP c X NT (nsf (stp i k + 1)) na nu no (stp i k + 1 - 36) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B4 arg0 harg0 arg1 harg1 arg2 harg2 arg7 harg7 arg8 harg8 i k v jp) Q := by
  unfold B4 blk4
  by_cases h : 36 ≤ stp i k ∧ stp i k < 506
  · have hC : k0_cond4 i k = 1#1 := (c4 i k).2 h
    have ht : stp i k + 6 < 512 := by omega
    have ht' : stp i k - 36 < 512 := by omega
    have en : nsf (stp i k) = stp i k + 6 := by unfold nsf; omega
    have en' : nsf (stp i k + 1) = stp i k + 6 + 1 := by unfold nsf; omega
    obtain ⟨Z, e1, e2⟩ := ring_ask c X NT (stp i k + 6) na nu no (stp i k + 1 - 36) (by omega) h1 h2 h3 (tl (stp i k + 6)) (tl (stp i k - 36)) (Ring.bk_val ht)
      (by rw [Ring.bk_val ht']; omega) (by rw [Ring.bk_val ht']; omega)
    have hs : sq (tl (stp i k + 6)) = sl42 (stp i k + 6) := by unfold sq; rw [Ring.bk_val ht]
    have hs' : sq (tl (stp i k - 36)) = sl42 (stp i k + 6) := by
      unfold sq; rw [Ring.bk_val ht', show stp i k + 6 = stp i k - 36 + 42 by omega]; exact (Ring.sl_add 42 _).symm
    dsimp only [fI, freeR] at e1 e2; rw [hs'] at e1; rw [hs] at e2
    rw [en, en', e1, e2]
    iintro ⟨⟨⟨HH, HO⟩, ⟨HH', HO', ⟨%f, HS⟩, HC, HC'⟩, HZ⟩, ⟨%W, HW⟩, Hk⟩
    sl_exec
    iapply Hk
    isplitr [HW]
    · isplitl [HC HO HC']
      · isplitl [HC]
        · iapply (Transfers.Flight_mono countersEmb (c : Thread nD τ) (sep_mono (holds_of_copy c (rS (sl42 (stp i k + 6))) f _ _ rfl) .rfl))
          iexact HC
        isplitl [HO]; · iexact HO
        iexact HC'
      isplitr [HZ]
      · isplitl [HH']; · iexact HH'
        isplitl [HO']; · iexact HO'
        iempintro
      iexact HZ
    iexists _; iexact HW
  · have hC : ¬ k0_cond4 i k = 1#1 := fun e => h ((c4 i k).1 e)
    rw [dif_neg hC, show nsf (stp i k + 1) = nsf (stp i k) by unfold nsf; omega]
    iintro ⟨HR, HW, Hk⟩
    iapply Hk
    isplitl [HR]; · iexact HR
    iexact HW

/-- Block 6 sends a tile of codes. -/
theorem b6_wp (i : T2) (k : T3) (v : BitVec 32) (jp : Unit → P1 (F := F)) (Q : Unit → sProp 𝕄) (md : ℕ) (hmd : md ≤ min (stp i k - 1) 512) :
    iprop(codesP c KC (min (stp i k) 512) (min (stp i k - 1) 512) md ∗ owesP c
      ∗ ((codesP c KC (min (stp i k) 512) (min (stp i k + 1 - 1) 512) md ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B6 arg0 harg0 arg1 harg1 arg2 harg2 arg7 harg7 arg8 harg8 i k v jp) Q := by
  unfold B6 blk6
  by_cases h : 1 ≤ stp i k ∧ stp i k ≤ 512
  · have hC : k0_cond6 i k = 1#1 := (c6 i k).2 h
    have ht : stp i k - 1 < 512 := by omega
    obtain ⟨Z, e1, e2⟩ := codes_send c KC (stp i k) (stp i k - 1) md (by omega) (by omega) (tl (stp i k - 1)) (Ring.bk_val ht)
    have hs : sk (tl (stp i k - 1)) = sl4 (stp i k - 1) := by unfold sk; rw [Ring.bk_val ht]
    dsimp only [fK] at e1 e2; rw [hs] at e1 e2
    rw [show min (stp i k) 512 = stp i k by omega, show min (stp i k - 1) 512 = stp i k - 1 by omega, show min (stp i k + 1 - 1) 512 = stp i k - 1 + 1 by omega, e1, e2]
    iintro ⟨⟨⟨⟨⟨%f, HO⟩, HS, HC⟩, HZ⟩, HL⟩, ⟨%W, HW⟩, Hk⟩
    sl_exec
    iapply Hk
    isplitr [HW]
    · isplitr [HL]
      · isplitl [HC]
        · iapply (Transfers.Flight_mono countersEmb (c : Thread nD τ) (sep_mono (holds_of_copy c (ccT (tl (stp i k - 1))) f _ _ (View.read_rep _ _)) .rfl))
          iexact HC
        iexact HZ
      iexact HL
    iexists _; iexact HW
  · have hC : ¬ k0_cond6 i k = 1#1 := fun e => h ((c6 i k).1 e)
    rw [dif_neg hC, show min (stp i k + 1 - 1) 512 = min (stp i k - 1) 512 by omega]
    iintro ⟨HR, HW, Hk⟩
    iapply Hk
    isplitl [HR]; · iexact HR
    iexact HW

/-- Block 9 sends an updated tile out. -/
theorem b9_wp (i : T2) (k : T3) (v : BitVec 32) (jp : Unit → P1 (F := F)) (Q : Unit → sProp 𝕄) (ns na nd : ℕ) (hnd : nd ≤ stp i k - 32) :
    iprop(ringP c X NT ns na (stp i k + 1 - 32) (stp i k - 32) nd ∗ owesP c
      ∗ ((ringP c X NT ns na (stp i k + 1 - 32) (stp i k + 1 - 32) nd ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B9 arg0 harg0 arg1 harg1 arg2 harg2 arg7 harg7 arg8 harg8 i k v jp) Q := by
  unfold B9 blk9
  by_cases h : 0 < i.val
  · have hC : k0_cond9 i = 1#1 := (c9 i).2 h
    have ht : stp i k - 32 < 512 := by have := i_lt i; have := k_lt k; have e := stp_def i k; omega
    obtain ⟨Z, e1, e2⟩ := ring_send c X NT ns na (stp i k - 32 + 1) (stp i k - 32) nd (by omega) (by omega) (tl (stp i k - 32)) (Ring.bk_val ht)
    have hs : sq (tl (stp i k - 32)) = sl42 (stp i k - 32) := by unfold sq; rw [Ring.bk_val ht]
    dsimp only [fO, cells] at e1 e2; rw [hs] at e1 e2
    rw [show stp i k + 1 - 32 = stp i k - 32 + 1 by have := stp_def i k; omega, e1, e2]
    iintro ⟨⟨⟨HH, ⟨%f, HO⟩, HS, HCI, HC⟩, HZ⟩, ⟨%W, HW⟩, Hk⟩
    sl_exec
    iapply Hk
    isplitr [HW]
    · isplitr [HZ]
      · isplitl [HH]; · iexact HH
        isplitl [HC]
        · iapply (Transfers.Flight_mono countersEmb (c : Thread nD τ) (sep_mono (holds_of_copy c (coT (tl (stp i k - 32))) f _ _ (View.read_rep _ _)) .rfl))
          iexact HC
        iexact HCI
      iexact HZ
    iexists _; iexact HW
  · have hC : ¬ k0_cond9 i = 1#1 := fun e => h ((c9 i).1 e)
    rw [dif_neg hC, show stp i k + 1 - 32 = stp i k - 32 by have := stp_def i k; have := k_lt k; omega]
    iintro ⟨HR, HW, Hk⟩
    iapply Hk
    isplitl [HR]; · iexact HR
    iexact HW

end

end Cert.Proof.Sweep

end
-- ==== Proof.Slots.lean ====
/- Slots of a scratch buffer as values: what a load through the buffer reads of a slot, what a store through it leaves. -/
module

public import proofs.«01_k».proof.Proof.Moves
public import Idealize.ShloMosaic.Lib.ValueLayout

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! ## A slot of a three-dimensional buffer -/

section
variable {sg : RefSig} {κ : Kind} {sp : Space} {e : EltTy} {Val : EltTy → Type} {n R C m : ℕ}

/-- Slot `s` of the buffer. -/
abbrev slotOf (M : Memref sg κ sp ⟨3, ![n, R, C]⟩ e) (s : ℕ) (hb : ∀ a, pOff s a + ![1, R, C] a ≤ ![n, R, C] a)
    (hq : (⟨3, ![1, R, C]⟩ : Shape).Squeezes ⟨2, ![R, C]⟩) : Memref sg κ sp ⟨2, ![R, C]⟩ e :=
  (M.slice (Rect.unit (s := ⟨3, ![n, R, C]⟩) (pOff s) ![1, R, C] hb) (fun _ => rfl)).squeeze ⟨2, ![R, C]⟩ hq

theorem slot_at (M : Memref sg κ sp ⟨3, ![n, R, C]⟩ e) (s : ℕ) (hs : s < n) (hb) (hq) (f : M.view.ty.Contents Val) (a : Fin R) (b : Fin C) :
    (slotOf M s hb hq).view.read Val f (ix2 a b) = M.view.read Val f (ix3 ⟨s, hs⟩ a b) := by
  show M.view.read Val f ((Rect.unit (s := ⟨3, ![n, R, C]⟩) (pOff s) ![1, R, C] hb).emb (Shape.reshapeEquiv hq.numel_eq (ix2 a b))) = _
  refine congrArg (M.view.read Val f) ?_
  rw [reshapeEquiv_ix2_1ab]
  funext x
  fin_cases x
  · exact Fin.ext (show s + 1 * 0 = s by omega)
  · exact Fin.ext (show 0 + 1 * a.val = a.val by omega)
  · exact Fin.ext (show 0 + 1 * b.val = b.val by omega)

/-- A load of rows of a slot. -/
theorem slot_load (M : Memref sg κ sp ⟨3, ![n, R, C]⟩ e) (s : ℕ) (hs : s < n) (hb) (hq) (f : M.view.ty.Contents Val) (off : Fin 3 → ℕ) (r0 : ℕ)
    (ho : off = ![s, r0, 0]) (hi : ∀ a, off a + ![1, m, C] a ≤ ![n, R, C] a) (o : Fin 1) (a : Fin m) (b : Fin C) (hr : r0 + a.val < R) :
    M.view.readAt Val (Rect.unit (s := ⟨3, ![n, R, C]⟩) off ![1, m, C] hi).toLoadRect f (ix3 o a b) = (slotOf M s hb hq).view.read Val f (ix2 ⟨r0 + a.val, hr⟩ b) := by
  subst ho
  rw [slot_at M s hs, View.readAt_apply]
  refine congrArg (M.view.read Val f) ?_
  funext x
  fin_cases x
  · exact Fin.ext (show s + 1 * o.val = s by omega)
  · exact Fin.ext (show r0 + 1 * a.val = r0 + a.val by omega)
  · exact Fin.ext (show 0 + 1 * b.val = b.val by omega)

/-- A store of rows of a slot. -/
theorem slot_store (M : Memref sg κ sp ⟨3, ![n, R, C]⟩ e) (s : ℕ) (hs : s < n) (hb) (hq) (f : M.view.ty.Contents Val) (off : Fin 3 → ℕ) (r0 : ℕ)
    (ho : off = ![s, r0, 0]) (hi : ∀ a, off a + ![1, m, C] a ≤ ![n, R, C] a) (w : (Rect.unit (s := ⟨3, ![n, R, C]⟩) off ![1, m, C] hi).shape.Idx → Val e)
    (a : Fin R) (b : Fin C) :
    (slotOf M s hb hq).view.read Val (View.write Val (M.access (Rect.unit (s := ⟨3, ![n, R, C]⟩) off ![1, m, C] hi)) f w Finset.univ) (ix2 a b)
      = if h : r0 ≤ a.val ∧ a.val < r0 + m then w (ix3 (⟨0, Nat.one_pos⟩ : Fin 1) ⟨a.val - r0, by omega⟩ b) else (slotOf M s hb hq).view.read Val f (ix2 a b) := by
  rw [slot_at M s hs, slot_at M s hs]
  have e := congrFun (View.read_writes_cons_put M.view f (off := off) (off' := ![s, r0, 0]) hi w [] ho) (ix3 ⟨s, hs⟩ a b)
  refine Eq.trans e ?_
  unfold VecWindow.put
  by_cases h : r0 ≤ a.val ∧ a.val < r0 + m
  · have hh : ∀ x : Fin 3, (![s, r0, 0] : Fin 3 → ℕ) x ≤ ((ix3 (⟨s, hs⟩ : Fin n) a b : (⟨3, ![n, R, C]⟩ : Shape).Idx) x).val
        ∧ ((ix3 (⟨s, hs⟩ : Fin n) a b : (⟨3, ![n, R, C]⟩ : Shape).Idx) x).val < (![s, r0, 0] : Fin 3 → ℕ) x + (![1, m, C] : Fin 3 → ℕ) x := by
      intro x; fin_cases x
      · exact (show s ≤ s ∧ s < s + 1 by omega)
      · exact (show r0 ≤ a.val ∧ a.val < r0 + m from h)
      · exact (show 0 ≤ b.val ∧ b.val < 0 + C by have := b.isLt; omega)
    rw [dif_pos h]
    refine (dif_pos hh).trans (congrArg w ?_)
    funext x
    fin_cases x
    · exact Fin.ext (show s - s = 0 by omega)
    · exact Fin.ext rfl
    · exact Fin.ext (show b.val - 0 = b.val by omega)
  · rw [dif_neg h]
    refine dif_neg (fun hh => h ?_)
    have := hh 1
    exact this

end

end Cert.Proof.Sweep

end
-- ==== Proof.Tiles.lean ====
/- What a step of the sweep computes of a tile: its codes, its scales, its share of the product, its update. -/
module

public import proofs.«01_k».proof.Proof.Slots

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-- Rows `128 b` to `128 b + 127` of a tile. -/
def blkOf (x : S1024x256.Idx → Elt F .f32) (b : Fin 8) : S1x128x256.Idx → Elt F .f32 :=
  fun y => x (ix2 (⟨b.val * 128 + (y 1).val, by have : (y 1).val < 128 := (y 1).isLt; have := b.isLt; omega⟩ : Fin 1024) (y 2 : Fin 256))
/-- A block's codes, scales and decoded values. -/
def cB (v : S1x128x256.Idx → Elt F .f32) : S128x256.Idx → Elt F .fp8e4m3 := k0_pay11 (k0_pay6 v) (k0_pay7 v)
def sB (v : S1x128x256.Idx → Elt F .f32) : S1x256.Idx → Elt F .f32 := k0_pay10 (k0_pay7 v)
def dB (v : S1x128x256.Idx → Elt F .f32) : S128x256.Idx → Elt F .bf16 := k0_pay12 (k0_pay6 v) (k0_pay7 v)
/-- A tile's codes. -/
def kcT (x : S1024x256.Idx → Elt F .f32) : S1024x256.Idx → Elt F .fp8e4m3 :=
  fun z => cB (blkOf x ⟨(z 0).val / 128, by have : (z 0).val < 1024 := (z 0).isLt; omega⟩)
    (ix2 (⟨(z 0).val % 128, Nat.mod_lt _ (by omega)⟩ : Fin 128) (z 1 : Fin 256))
/-- A tile's scales, a row of them for each block. -/
def scT (x : S1024x256.Idx → Elt F .f32) : S8x256.Idx → Elt F .f32 :=
  concatenate S8x256 0 [⟨S1x256, sB (blkOf x 0)⟩, ⟨S1x256, sB (blkOf x 1)⟩, ⟨S1x256, sB (blkOf x 2)⟩, ⟨S1x256, sB (blkOf x 3)⟩, ⟨S1x256, sB (blkOf x 4)⟩, ⟨S1x256, sB (blkOf x 5)⟩, ⟨S1x256, sB (blkOf x 6)⟩, ⟨S1x256, sB (blkOf x 7)⟩] concatenates_S1x256_S1x256_S1x256_S1x256_S1x256_S1x256_S1x256_S1x256_S8x256_d0
/-- The product's rows with a tile's share added. -/
def upW (x : S1024x256.Idx → Elt F .f32) (w : S112x256.Idx → Elt F .f32) (v : S112x1024.Idx → Elt F .bf16) : S112x256.Idx → Elt F .f32 :=
  k0_pay85 (dB (blkOf x 0)) (dB (blkOf x 1)) (dB (blkOf x 2)) (dB (blkOf x 3)) (dB (blkOf x 4)) (dB (blkOf x 5)) (dB (blkOf x 6)) (dB (blkOf x 7)) w v
theorem vt_inb (k : T3) : ∀ a, (![0, k.val * 1024] : Fin 2 → ℕ) a + S112x1024.size a ≤ S112x32768.size a := by
  have := k_lt k; intro a; fin_cases a
  · show 0 + 112 ≤ 112; omega
  · show k.val * 1024 + 1024 ≤ 32768; omega
theorem vw_inb (k : T3) : ∀ a, (![k.val * 1024, 0] : Fin 2 → ℕ) a + S1024x128.size a ≤ S32768x128.size a := by
  have := k_lt k; intro a; fin_cases a
  · show k.val * 1024 + 1024 ≤ 32768; omega
  · show 0 + 128 ≤ 128; omega
/-- The product's buffer after step `k` of a sweep. -/
def wStep (vt : S112x32768.Idx → Elt F .bf16) (k : T3) (x : S1024x256.Idx → Elt F .f32) (y : S128x256.Idx → Elt F .f32) : S128x256.Idx → Elt F .f32 :=
  VecWindow.put y ![0, 0] S112x256.size (upW x (VecWindow.window y ![0, 0] S112x256.size inb_S128x256_S112x256_0_0) (VecWindow.window vt ![0, k.val * 1024] S112x1024.size (vt_inb k)))
/-- A tile less its rows' product with the sweep's coefficients. -/
def ntT (vw : S32768x128.Idx → Elt F .bf16) (k : T3) (x : S1024x256.Idx → Elt F .f32) (y : S128x256.Idx → Elt F .bf16) : S1024x256.Idx → Elt F .f32 :=
  fun z => k0_pay83 (fun u : S1x1024x256.Idx => x (ix2 (u 1 : Fin 1024) (u 2 : Fin 256))) (VecWindow.window vw ![k.val * 1024, 0] S1024x128.size (vw_inb k)) y
    (ix3 (0 : Fin 1) (z 0 : Fin 1024) (z 1 : Fin 256))

theorem pay13_at (v : S128x256.Idx → Elt F .fp8e4m3) (o : Fin 1) (a : Fin 128) (b : Fin 256) : k0_pay13 v (ix3 o a b) = v (ix2 a b) :=
  shapeCast_ab_1ab_apply _ shapeCasts_S128x256_S1x128x256 _ _ _
theorem pay84_at (v : S8x256.Idx → Elt F .f32) (o : Fin 1) (a : Fin 8) (b : Fin 256) : k0_pay84 v (ix3 o a b) = v (ix2 a b) :=
  shapeCast_ab_1ab_apply _ shapeCasts_S8x256_S1x8x256 _ _ _

section
/-- A load of block `b` of a slot of the ring. -/
theorem ring_load (s : Fin 42) (x : S1024x256.Idx → Elt F .f32) (off : Fin 3 → ℕ) (b : Fin 8) (ho : off = bOff s.val b.val)
    (hi : ∀ a, off a + S1x128x256.size a ≤ S42x1024x256.size a) :
    View.readAt (Elt F) ringM.view (Rect.unit (s := S42x1024x256) off S1x128x256.size hi).toLoadRect ((rS s).view.rep x) = blkOf x b := by
  funext z
  have h1 : (z 1).val < 128 := (z 1).isLt
  have := b.isLt
  rw [eq_ix3 (n0 := 1) (n1 := 128) (n2 := 256) z]
  refine (slot_load (R := 1024) (C := 256) (m := 128) ringM s.val s.isLt (ringOff_inb s) squeezes_S1x1024x256_S1024x256 _ off (b.val * 128) ho hi _ _ _ (by omega)).trans ?_
  exact congrFun (View.read_rep (rS s).view x) _
/-- A load of a whole slot of the ring. -/
theorem ring_load_all (s : Fin 42) (x : S1024x256.Idx → Elt F .f32) (off : Fin 3 → ℕ) (ho : off = pOff s.val)
    (hi : ∀ a, off a + S1x1024x256.size a ≤ S42x1024x256.size a) :
    View.readAt (Elt F) ringM.view (Rect.unit (s := S42x1024x256) off S1x1024x256.size hi).toLoadRect ((rS s).view.rep x)
      = fun u : S1x1024x256.Idx => x (ix2 (u 1 : Fin 1024) (u 2 : Fin 256)) := by
  funext z
  have h1 : (z 1).val < 1024 := (z 1).isLt
  rw [eq_ix3 (n0 := 1) (n1 := 1024) (n2 := 256) z]
  refine (slot_load (R := 1024) (C := 256) (m := 1024) ringM s.val s.isLt (ringOff_inb s) squeezes_S1x1024x256_S1024x256 _ off 0 ho hi _ _ _ (by omega)).trans ?_
  refine (congrFun (View.read_rep (rS s).view x) _).trans (congrArg x ?_)
  funext a; fin_cases a
  · exact Fin.ext (show 0 + (z 1).val = (z 1).val by omega)
  · rfl
/-- A store over a whole slot of the ring. -/
theorem ring_store_all (s : Fin 42) (f : ringM.view.ty.Contents (Elt F)) (off : Fin 3 → ℕ) (ho : off = pOff s.val)
    (hi : ∀ a, off a + S1x1024x256.size a ≤ S42x1024x256.size a) (w : S1x1024x256.Idx → Elt F .f32) :
    (rS s).view.read (Elt F) (View.write (Elt F) (ringM.access (Rect.unit (s := S42x1024x256) off S1x1024x256.size hi)) f w Finset.univ)
      = fun z => w (ix3 (0 : Fin 1) (z 0 : Fin 1024) (z 1 : Fin 256)) := by
  funext z
  have h0 : (z 0).val < 1024 := (z 0).isLt
  rw [eq_ix2 (n0 := 1024) (n1 := 256) z]
  refine (slot_store (R := 1024) (C := 256) (m := 1024) ringM s.val s.isLt (ringOff_inb s) squeezes_S1x1024x256_S1024x256 f off 0 ho hi w _ _).trans ?_
  rw [dif_pos ⟨Nat.zero_le _, by omega⟩]
  rfl
/-- A store of block `b` of the codes of `x` into a slot of the codes ring. -/
theorem code_store (s : Fin 4) (x : S1024x256.Idx → Elt F .f32) (f : cstM.view.ty.Contents (Elt F)) (off : Fin 3 → ℕ) (b : ℕ) (hb : b < 8) (ho : off = bOff s.val b)
    (hi : ∀ a, off a + S1x128x256.size a ≤ S4x1024x256.size a) (w : S1x128x256.Idx → Elt F .fp8e4m3) (hw : w = k0_pay13 (cB (blkOf x ⟨b, hb⟩))) (z : S1024x256.Idx) :
    (kS s).view.read (Elt F) (View.write (Elt F) (cstM.access (Rect.unit (s := S4x1024x256) off S1x128x256.size hi)) f w Finset.univ) z
      = if (z 0).val / 128 = b then kcT x z else (kS s).view.read (Elt F) f z := by
  have h0 : (z 0).val < 1024 := (z 0).isLt
  subst hw
  obtain ⟨a, d, rfl⟩ : ∃ (a : Fin 1024) (d : Fin 256), z = ix2 a d := ⟨_, _, eq_ix2 (n0 := 1024) (n1 := 256) z⟩
  refine (slot_store (R := 1024) (C := 256) (m := 128) cstM s.val s.isLt (cstOff_inb s) squeezes_S1x1024x256_S1024x256 f off (b * 128) ho hi _ a d).trans ?_
  by_cases h : a.val / 128 = b
  · rw [dif_pos ⟨by omega, by omega⟩, if_pos h]
    refine (pay13_at _ _ _ _).trans ?_
    unfold kcT
    have e1 : (⟨b, hb⟩ : Fin 8) = ⟨((ix2 a d : S1024x256.Idx) 0).val / 128, by have : ((ix2 a d : S1024x256.Idx) 0).val < 1024 := a.isLt; omega⟩ := Fin.ext h.symm
    rw [e1]
    refine congrArg (cB _) ?_
    funext q; fin_cases q
    · exact Fin.ext (show a.val - b * 128 = a.val % 128 by omega)
    · rfl
  · rw [dif_neg (by omega), if_neg h]
    rfl
end

section
variable (c : Dev nD) (X : Buf (Elt F) (cM.view.loc (c : Thread nD τ)))

/-- The scales of panel `i`. -/
def csRow (i : ℕ) : S256x256.Idx → Elt F .f32 :=
  fun z => scT (xt c X (tl (i * 32 + (z 0).val / 8))) (ix2 (⟨(z 0).val % 8, Nat.mod_lt _ (by omega)⟩ : Fin 8) (z 1 : Fin 256))
/-- The scales' slot of panel `i` after `k` steps: the first `8 k` rows are there. -/
def slotP (i k : ℕ) : sProp 𝕄 :=
  iprop(∃ g : Buf (Elt F) ((sS (sl2 i)).view.loc (c : Thread nD τ)), ((sS (sl2 i)).view.loc (c : Thread nD τ) ↦[(sS (sl2 i)).view.set]{fullShare} g)
    ∗ ⌜∀ z : S256x256.Idx, (z 0).val < 8 * k → (sS (sl2 i)).view.read (Elt F) g z = csRow c X i z⌝)

theorem scale_store (i : T2) (k : T3) (g : csstM.view.ty.Contents (Elt F)) (h : i.val < 16)
    (hg : ∀ z : S256x256.Idx, (z 0).val < 8 * k.val → (sS (sl2 i.val)).view.read (Elt F) g z = csRow c X i.val z)
    (hi : ∀ a, k0_off45 i k a + S1x8x256.size a ≤ S2x256x256.size a) (w : S1x8x256.Idx → Elt F .f32) (hw : w = k0_pay84 (scT (xt c X (tl (stp i k))))) (z : S256x256.Idx)
    (hz : (z 0).val < 8 * (k.val + 1)) :
    (sS (sl2 i.val)).view.read (Elt F) (View.write (Elt F) (csstM.access (Rect.unit (s := S2x256x256) (k0_off45 i k) S1x8x256.size hi)) g w Finset.univ) z = csRow c X i.val z := by
  subst hw
  obtain ⟨a, d, rfl⟩ : ∃ (a : Fin 256) (d : Fin 256), z = ix2 a d := ⟨_, _, eq_ix2 (n0 := 256) (n1 := 256) z⟩
  have hz' : a.val < 8 * (k.val + 1) := hz
  refine (slot_store (R := 256) (C := 256) (m := 8) csstM (sl2 i.val).val (sl2 i.val).isLt (csstOff_inb _) squeezes_S1x256x256_S256x256 g (k0_off45 i k) (k.val * 8) (off45 i k h) hi _ a d).trans ?_
  by_cases hc : 8 * k.val ≤ a.val
  · rw [dif_pos ⟨by omega, by omega⟩]
    refine (pay84_at _ _ _ _).trans ?_
    show _ = scT (xt c X (tl (i.val * 32 + a.val / 8))) (ix2 (⟨a.val % 8, _⟩ : Fin 8) d)
    have e : i.val * 32 + a.val / 8 = stp i k := by have := stp_def i k; omega
    rw [e]
    refine congrArg (scT _) ?_
    funext q; fin_cases q
    · exact Fin.ext (show a.val - k.val * 8 = a.val % 8 by omega)
    · rfl
  · rw [dif_neg (by omega)]
    exact hg (ix2 a d) (show a.val < 8 * k.val by omega)

end

end Cert.Proof.Sweep

end
-- ==== Proof.Quant.lean ====
/- The block of a step that quantises a tile, and the block that updates one. -/
module

public import proofs.«01_k».proof.Proof.Tiles

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD) (X : Buf (Elt F) (cM.view.loc (c : Thread nD τ))) (NT : Fin 512 → S1024x256.Idx → Elt F .f32)
  (KC : Fin 512 → S1024x256.Idx → Elt F .fp8e4m3)
  (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

/-- Tile `md` of the codes comes out and the tile four later takes its slot. -/
theorem codes_turn (mw md : ℕ) (h : mw = md + 4) (q q' : Fin 512) (hq : q.val = mw) (hq' : q'.val = md) :
    ∃ Z : sProp 𝕄, codesP c KC mw mw md = iprop((any c (ccT q) ∗ fK c KC q' ∗ Z) ∗ slackK c mw)
      ∧ codesP c KC (mw + 1) mw (md + 1) = iprop(((any c (ccT q) ∗ holds c (kS (sk q)) (KC q) ∗ cellP c (mC (sk q))) ∗ (holds c (ccT q') (KC q') ∗ emp) ∗ Z) ∗ slackK c mw) := by
  obtain ⟨Z, e1, e2⟩ := bigSep_step2 (codeP c KC mw mw md) (codeP c KC (mw + 1) mw (md + 1)) q q' (by intro e; subst e; omega) (fun r hr hr' => by
    have : r.val ≠ mw := fun e => hr (Fin.ext (e.trans hq.symm))
    have : r.val ≠ md := fun e => hr' (Fin.ext (e.trans hq'.symm))
    unfold codeP
    by_cases h1 : r.val < md
    · simp only [h1, show r.val < md + 1 by omega, show ¬ mw ≤ r.val + 4 by omega, show ¬ mw + 1 ≤ r.val + 4 by omega, if_true, if_false]
    · by_cases h2 : r.val < mw
      · simp only [h1, h2, show ¬ r.val < md + 1 by omega, if_true, if_false]
      · simp only [h1, h2, show ¬ r.val < md + 1 by omega, show ¬ r.val < mw + 1 by omega, if_true, if_false])
  have es : (slackK c (mw + 1) : sProp 𝕄) = slackK c mw := by
    unfold slackK
    exact bigSep_congr (fun s _ => by have := s.isLt; rw [if_neg (show ¬ mw ≤ s.val by omega), if_neg (show ¬ mw + 1 ≤ s.val by omega)])
  refine ⟨Z, ?_, ?_⟩
  · unfold codesP; rw [e1]; unfold codeP
    simp only [show ¬ q.val < md by omega, show ¬ q.val < mw by omega, show ¬ q'.val < md by omega, show q'.val < mw by omega, if_true, if_false]
  · unfold codesP; rw [e2, es]; unfold codeP
    simp only [show ¬ q.val < md + 1 by omega, show ¬ q.val < mw by omega, show q.val < mw + 1 by omega, show q'.val < md + 1 by omega, show ¬ mw + 1 ≤ q'.val + 4 by omega, if_true, if_false]

theorem csst_inb (i : T2) (k : T3) (h : i.val < 16) : ∀ a, k0_off45 i k a + S1x8x256.size a ≤ S2x256x256.size a := by
  rw [off45 i k h]; have := k_lt k; have := (sl2 i.val).isLt; intro a; fin_cases a
  · show (sl2 i.val).val + 1 ≤ 2; omega
  · show k.val * 8 + 8 ≤ 256; omega
  · show 0 + 256 ≤ 256; omega
theorem csst_in (i : T2) (k : T3) (h : i.val < 16) (hb : ∀ a, k0_off45 i k a + S1x8x256.size a ≤ S2x256x256.size a) :
    csstM.view.setOn (Rect.unit (s := S2x256x256) (k0_off45 i k) S1x8x256.size hb).toLoadRect.set ⊆ (sS (sl2 i.val)).view.set := by
  have := k_lt k
  rw [show (sS (sl2 i.val)).view.set = (csstM.slice (Rect.unit (s := S2x256x256) (pOff (sl2 i.val).val) S1x256x256.size (csstOff_inb _)) (fun _ => rfl)).view.set from View.set_reshape _ _]
  refine Memref.setOn_subset_slice_of_within _ _ _ _ ?_
  refine LoadRect.within_of_withinP ?_
  refine LoadRect.withinP_of_forms (pOff (sl2 i.val).val) S1x256x256.size (fun _ => 1) ![(sl2 i.val).val, k.val * 8, 0] S1x8x256.size (fun _ => 1) rfl rfl rfl (off45 i k h) rfl rfl ?_
  intro a; fin_cases a
  · show (sl2 i.val).val ≤ (sl2 i.val).val ∧ (sl2 i.val).val + 1 * 0 < (sl2 i.val).val + 1 * 1 ∧ _; omega
  · show 0 ≤ k.val * 8 ∧ k.val * 8 + 1 * 7 < 0 + 1 * 256 ∧ _; omega
  · show 0 ≤ 0 ∧ 0 + 1 * 255 < 0 + 1 * 256 ∧ _; omega

theorem csst_in2 (i : T2) (k : T3) (h : i.val < 16) (hb : ∀ a, k0_off45 i k a + S1x8x256.size a ≤ S2x256x256.size a) :
    (csstM.access (Rect.unit (s := S2x256x256) (k0_off45 i k) S1x8x256.size hb)).setOn Finset.univ ⊆ (sS (sl2 i.val)).view.set := by
  have := k_lt k
  rw [show (sS (sl2 i.val)).view.set = (csstM.slice (Rect.unit (s := S2x256x256) (pOff (sl2 i.val).val) S1x256x256.size (csstOff_inb _)) (fun _ => rfl)).view.set from View.set_reshape _ _]
  refine Memref.setOn_access_subset_slice_of_within _ _ _ _ _ ?_
  refine LoadRect.within_of_withinP ?_
  refine LoadRect.withinP_of_forms (pOff (sl2 i.val).val) S1x256x256.size (fun _ => 1) ![(sl2 i.val).val, k.val * 8, 0] S1x8x256.size (fun _ => 1) rfl rfl rfl (off45 i k h) rfl rfl ?_
  intro a; fin_cases a
  · show (sl2 i.val).val ≤ (sl2 i.val).val ∧ (sl2 i.val).val + 1 * 0 < (sl2 i.val).val + 1 * 1 ∧ _; omega
  · show 0 ≤ k.val * 8 ∧ k.val * 8 + 1 * 7 < 0 + 1 * 256 ∧ _; omega
  · show 0 ≤ 0 ∧ 0 + 1 * 255 < 0 + 1 * 256 ∧ _; omega

/-- Eight stores of a tile's code blocks leave the tile's codes. -/
theorem codes_eight (s : Fin 4) (x : S1024x256.Idx → Elt F .f32) (f : cstM.view.ty.Contents (Elt F)) (off : Fin 8 → Fin 3 → ℕ) (ho : ∀ b, off b = bOff s.val b.val)
    (hi : ∀ b, ∀ a, off b a + S1x128x256.size a ≤ S4x1024x256.size a) (w : Fin 8 → S1x128x256.Idx → Elt F .fp8e4m3) (hw : ∀ b, w b = k0_pay13 (cB (blkOf x b))) :
    (kS s).view.read (Elt F) (View.write (Elt F) (cstM.access (Rect.unit (s := S4x1024x256) (off 7) S1x128x256.size (hi 7))) (View.write (Elt F) (cstM.access (Rect.unit (s := S4x1024x256) (off 6) S1x128x256.size (hi 6))) (View.write (Elt F) (cstM.access (Rect.unit (s := S4x1024x256) (off 5) S1x128x256.size (hi 5))) (View.write (Elt F) (cstM.access (Rect.unit (s := S4x1024x256) (off 4) S1x128x256.size (hi 4))) (View.write (Elt F) (cstM.access (Rect.unit (s := S4x1024x256) (off 3) S1x128x256.size (hi 3))) (View.write (Elt F) (cstM.access (Rect.unit (s := S4x1024x256) (off 2) S1x128x256.size (hi 2))) (View.write (Elt F) (cstM.access (Rect.unit (s := S4x1024x256) (off 1) S1x128x256.size (hi 1))) (View.write (Elt F) (cstM.access (Rect.unit (s := S4x1024x256) (off 0) S1x128x256.size (hi 0))) (f) (w 0) Finset.univ) (w 1) Finset.univ) (w 2) Finset.univ) (w 3) Finset.univ) (w 4) Finset.univ) (w 5) Finset.univ) (w 6) Finset.univ) (w 7) Finset.univ) = kcT x := by
  have st : ∀ (g : cstM.view.ty.Contents (Elt F)) (b : Fin 8) (z : S1024x256.Idx),
      (kS s).view.read (Elt F) (View.write (Elt F) (cstM.access (Rect.unit (s := S4x1024x256) (off b) S1x128x256.size (hi b))) g (w b) Finset.univ) z
        = if (z 0).val / 128 = b.val then kcT x z else (kS s).view.read (Elt F) g z :=
    fun g b z => code_store s x g (off b) b.val b.isLt (ho b) (hi b) (w b) (hw b) z
  funext z
  have h0 : (z 0).val < 1024 := (z 0).isLt
  refine (st _ 7 z).trans ?_
  split; · rfl
  refine (st _ 6 z).trans ?_
  split; · rfl
  refine (st _ 5 z).trans ?_
  split; · rfl
  refine (st _ 4 z).trans ?_
  split; · rfl
  refine (st _ 3 z).trans ?_
  split; · rfl
  refine (st _ 2 z).trans ?_
  split; · rfl
  refine (st _ 1 z).trans ?_
  split; · rfl
  refine (st _ 0 z).trans ?_
  exact if_pos (show (z 0).val / 128 = 0 by
    have a7 : ¬ (z 0).val / 128 = 7 := by assumption
    have a6 : ¬ (z 0).val / 128 = 6 := by assumption
    have a5 : ¬ (z 0).val / 128 = 5 := by assumption
    have a4 : ¬ (z 0).val / 128 = 4 := by assumption
    have a3 : ¬ (z 0).val / 128 = 3 := by assumption
    have a2 : ¬ (z 0).val / 128 = 2 := by assumption
    have a1 : ¬ (z 0).val / 128 = 1 := by assumption
    omega)
/-- The product's rows, from a tile's decoded blocks. -/
theorem up_eq (x : S1024x256.Idx → Elt F .f32) (d : Fin 8 → S128x256.Idx → Elt F .bf16) (h : ∀ b, d b = dB (blkOf x b)) (w w' : S112x256.Idx → Elt F .f32) (hw : w = w')
    (v v' : S112x1024.Idx → Elt F .bf16) (hv : v = v') : k0_pay85 (d 0) (d 1) (d 2) (d 3) (d 4) (d 5) (d 6) (d 7) w v = upW x w' v' := by
  subst hw hv
  simp only [h]; rfl
/-- A tile's scales, from its blocks' scales. -/
theorem sc_eq (x : S1024x256.Idx → Elt F .f32) (d : Fin 8 → S1x256.Idx → Elt F .f32) (h : ∀ b, d b = sB (blkOf x b)) :
    concatenate S8x256 0 [⟨S1x256, d 0⟩, ⟨S1x256, d 1⟩, ⟨S1x256, d 2⟩, ⟨S1x256, d 3⟩, ⟨S1x256, d 4⟩, ⟨S1x256, d 5⟩, ⟨S1x256, d 6⟩, ⟨S1x256, d 7⟩] concatenates_S1x256_S1x256_S1x256_S1x256_S1x256_S1x256_S1x256_S1x256_S8x256_d0 = scT x := by
  obtain rfl : d = fun b => sB (blkOf x b) := funext h
  rfl
/-- The product's buffer after its store. -/
theorem w_store (vt : S112x32768.Idx → Elt F .bf16) (k : T3) (x : S1024x256.Idx → Elt F .f32) (y : S128x256.Idx → Elt F .f32) (w : S112x256.Idx → Elt F .f32)
    (hw : w = upW x (VecWindow.window y ![0, 0] S112x256.size inb_S128x256_S112x256_0_0) (VecWindow.window vt ![0, k.val * 1024] S112x1024.size (vt_inb k))) :
    wM.view.read (Elt F) (wM.view.writes (Elt F) (wM.view.rep y) [⟨Rect.unit (s := S128x256) ![0, 0] S112x256.size inb_S128x256_S112x256_0_0, w⟩]) = wStep vt k x y := by
  subst hw
  exact View.read_writes_rep_unit wM.view y _ _ rfl

/-- Where block `b` of the step's tile is read, and where its codes go. -/
def rOff (i : T2) (k : T3) : Fin 8 → Fin 3 → ℕ := ![k0_off29 i k, k0_off31 i k, k0_off33 i k, k0_off35 i k, k0_off37 i k, k0_off39 i k, k0_off41 i k, k0_off43 i k]
def cOff (i : T2) (k : T3) : Fin 8 → Fin 3 → ℕ := ![k0_off30 i k, k0_off32 i k, k0_off34 i k, k0_off36 i k, k0_off38 i k, k0_off40 i k, k0_off42 i k, k0_off44 i k]
theorem rOff_eq (i : T2) (k : T3) (h : i.val < 16) (b : Fin 8) : rOff i k b = bOff (sl42 (stp i k)).val b.val := by
  fin_cases b
  · exact off29 i k h
  · exact off31 i k h
  · exact off33 i k h
  · exact off35 i k h
  · exact off37 i k h
  · exact off39 i k h
  · exact off41 i k h
  · exact off43 i k h
theorem cOff_eq (i : T2) (k : T3) (h : i.val < 16) (b : Fin 8) : cOff i k b = bOff (sl4 (stp i k)).val b.val := by
  fin_cases b
  · exact off30 i k h
  · exact off32 i k h
  · exact off34 i k h
  · exact off36 i k h
  · exact off38 i k h
  · exact off40 i k h
  · exact off42 i k h
  · exact off44 i k h
theorem rOff_inb (i : T2) (k : T3) (h : i.val < 16) (b : Fin 8) : ∀ a, rOff i k b a + S1x128x256.size a ≤ S42x1024x256.size a := by
  rw [rOff_eq i k h]; have := (sl42 (stp i k)).isLt; have := b.isLt; intro a; fin_cases a
  · show (sl42 (stp i k)).val + 1 ≤ 42; omega
  · show b.val * 128 + 128 ≤ 1024; omega
  · show 0 + 256 ≤ 256; omega
theorem cOff_inb (i : T2) (k : T3) (h : i.val < 16) (b : Fin 8) : ∀ a, cOff i k b a + S1x128x256.size a ≤ S4x1024x256.size a := by
  rw [cOff_eq i k h]; have := (sl4 (stp i k)).isLt; have := b.isLt; intro a; fin_cases a
  · show (sl4 (stp i k)).val + 1 ≤ 4; omega
  · show b.val * 128 + 128 ≤ 1024; omega
  · show 0 + 256 ≤ 256; omega
/-- What a step loads of block `b`. -/
def ldB (i : T2) (k : T3) (h : i.val < 16) (x : S1024x256.Idx → Elt F .f32) (b : Fin 8) : S1x128x256.Idx → Elt F .f32 :=
  View.readAt (Elt F) ringM.view (Rect.unit (s := S42x1024x256) (rOff i k b) S1x128x256.size (rOff_inb i k h b)).toLoadRect ((rS (sl42 (stp i k))).view.rep x)
theorem ldB_eq (i : T2) (k : T3) (h : i.val < 16) (x : S1024x256.Idx → Elt F .f32) (b : Fin 8) : ldB i k h x b = blkOf x b :=
  ring_load (sl42 (stp i k)) x (rOff i k b) b (rOff_eq i k h b) _

/-- Block 7 leaves later sweeps alone. -/
theorem b7_skip (i : T2) (k : T3) (v w : BitVec 32) (jp : Unit → P1 (F := F)) (h : ¬ i.val < 16) :
    B7 arg0 harg0 arg1 harg1 arg2 harg2 arg7 harg7 arg8 harg8 i k v w jp = jp ⟨⟩ := by
  unfold B7 blk7
  exact dif_neg (fun e => h ((c7 i).1 e))

theorem b7_big (i : T2) (k : T3) (v w : BitVec 32) (jp : Unit → P1 (F := F)) (Q : Unit → sProp 𝕄) (h : i.val < 16) (h8 : 4 ≤ stp i k) (vt : S112x32768.Idx → Elt F .bf16)
    (y : S128x256.Idx → Elt F .f32) (hKC : ∀ q, KC q = kcT (xt c X q)) (ns nu no nd : ℕ) (hns : stp i k < ns) (h1 : nd ≤ no) (h2 : no ≤ nu) (h3 : nu ≤ stp i k) :
    iprop(ringP c X NT ns (stp i k) nu no nd ∗ codesP c KC (stp i k) (stp i k) (stp i k - 4) ∗ holds c arg1 vt ∗ holds c wM y ∗ slotP c X i.val k.val ∗ owesP c
      ∗ ((ringP c X NT ns (stp i k + 1) nu no nd ∗ codesP c KC (stp i k + 1) (stp i k) (stp i k + 1 - 4) ∗ holds c arg1 vt ∗ holds c wM (wStep vt k (xt c X (tl (stp i k))) y)
          ∗ slotP c X i.val (k.val + 1) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B7 arg0 harg0 arg1 harg1 arg2 harg2 arg7 harg7 arg8 harg8 i k v w jp) Q := by
  unfold B7 blk7
  have hC : k0_cond7 i = 1#1 := (c7 i).2 h
  have hC8 : k0_cond8 i k = 1#1 := (c8 i k).2 h8
  have hD : i.val < 16 ∧ 4 ≤ stp i k := ⟨h, h8⟩
  have ht : stp i k < 512 := by have := k_lt k; have e := stp_def i k; omega
  have hs : sq (tl (stp i k)) = sl42 (stp i k) := by unfold sq; rw [Ring.bk_val ht]
  have hsk : sk (tl (stp i k)) = sl4 (stp i k) := by unfold sk; rw [Ring.bk_val ht]
  have hsk' : sk (tl (stp i k - 4)) = sl4 (stp i k - 4) := by unfold sk; rw [Ring.bk_val (by omega)]
  have hs4 : sl4 (stp i k - 4) = sl4 (stp i k) := by
    conv_rhs => rw [show stp i k = stp i k - 4 + 4 by omega]
    exact (Ring.sl_add 4 _).symm
  obtain ⟨Z, e1, e2⟩ := ring_in c X NT ns (stp i k) nu no nd hns h1 h2 h3 (tl (stp i k)) (Ring.bk_val ht)
  dsimp only [fI] at e1; dsimp only [cells] at e2; rw [hs] at e1 e2
  rw [e1, e2]
  obtain ⟨Y, d1, d2⟩ := codes_turn c KC (stp i k) (stp i k - 4) (by omega) (tl (stp i k)) (tl (stp i k - 4)) (Ring.bk_val ht) (Ring.bk_val (by omega))
  dsimp only [fK] at d1; rw [hsk'] at d1; rw [hsk] at d2
  rw [show stp i k + 1 - 4 = stp i k - 4 + 1 by omega, d1, d2]
  letI : ClosedOff (k0_off29 i k) := ⟨_, off29 i k h⟩
  letI : ClosedOff (k0_off30 i k) := ⟨_, off30 i k h⟩
  letI : ClosedOff (k0_off31 i k) := ⟨_, off31 i k h⟩
  letI : ClosedOff (k0_off32 i k) := ⟨_, off32 i k h⟩
  letI : ClosedOff (k0_off33 i k) := ⟨_, off33 i k h⟩
  letI : ClosedOff (k0_off34 i k) := ⟨_, off34 i k h⟩
  letI : ClosedOff (k0_off35 i k) := ⟨_, off35 i k h⟩
  letI : ClosedOff (k0_off36 i k) := ⟨_, off36 i k h⟩
  letI : ClosedOff (k0_off37 i k) := ⟨_, off37 i k h⟩
  letI : ClosedOff (k0_off38 i k) := ⟨_, off38 i k h⟩
  letI : ClosedOff (k0_off39 i k) := ⟨_, off39 i k h⟩
  letI : ClosedOff (k0_off40 i k) := ⟨_, off40 i k h⟩
  letI : ClosedOff (k0_off41 i k) := ⟨_, off41 i k h⟩
  letI : ClosedOff (k0_off42 i k) := ⟨_, off42 i k h⟩
  letI : ClosedOff (k0_off43 i k) := ⟨_, off43 i k h⟩
  letI : ClosedOff (k0_off44 i k) := ⟨_, off44 i k h⟩
  letI : ClosedOff (k0_off45 i k) := ⟨_, off45 i k h⟩
  letI : ClosedOff (k0_off46 k) := ⟨_, off46 k⟩
  have hin := csst_in i k h (csst_inb i k h)
  have hin2 := csst_in2 i k h (csst_inb i k h)
  unfold slotP
  iintro ⟨⟨⟨HI, HO, HM⟩, HZ⟩, ⟨⟨HA, HK, HY⟩, HL⟩, HV, HWM, ⟨%g, HC, %hg⟩, ⟨%W, HW⟩, Hk⟩
  sl_exec
  have hcode : (kS (sl4 (stp i k))).view.read (Elt F) (b7_big.sl.HK_src_w8 c X KC i k hC) = kcT (xt c X (tl (stp i k))) :=
    codes_eight (sl4 (stp i k)) (xt c X (tl (stp i k))) _ (cOff i k) (cOff_eq i k h) (cOff_inb i k h) (fun b => k0_pay13 (cB (ldB i k h (xt c X (tl (stp i k))) b))) (fun b => by rw [ldB_eq])
  have hscale : b7_big.sl.r_43 c X i k hC = scT (xt c X (tl (stp i k))) :=
    sc_eq (xt c X (tl (stp i k))) (fun b => sB (ldB i k h (xt c X (tl (stp i k))) b)) (fun b => by rw [ldB_eq])
  have hup := up_eq (xt c X (tl (stp i k))) (fun b => dB (ldB i k h (xt c X (tl (stp i k))) b)) (fun b => by rw [ldB_eq])
    (View.readAt (Elt F) wM.view (Rect.unit (s := S128x256) ![0, 0] S112x256.size inb_S128x256_S112x256_0_0).toLoadRect (wM.view.rep y)) _
    (View.readAt_rep_unit wM.view y inb_S128x256_S112x256_0_0 rfl inb_S128x256_S112x256_0_0) _ _
    (View.readAt_rep_unit arg1.view vt (by rw [off46 k]; exact vt_inb k) (off46 k) (vt_inb k))
  have hw := w_store vt k (xt c X (tl (stp i k))) y _ hup
  iapply Hk
  isplitl [HI_src HO HI_dst HI HM HZ]
  · isplitr [HZ]
    · isplitl [HI_src]; · iexact HI_src
      isplitl [HO]; · iexact HO
      isplitl [HI_dst]; · iexact HI_dst
      isplitl [HI]; · iexact HI
      iexact HM
    iexact HZ
  isplitl [HA HK_src HK HK_dst HY HL]
  · rw [hs4]
    isplitr [HL]
    · isplitl [HA HK_src HK]
      · isplitl [HA]; · iexact HA
        isplitl [HK_src]
        · iapply (pointsTo_rep_of_read (c : Thread nD τ) (kS (sl4 (stp i k))) _ _ _ (hcode.trans (hKC _).symm))
          iexact HK_src
        iexact HK
      isplitl [HK_dst]
      · isplitl [HK_dst]; · iexact HK_dst
        iempintro
      iexact HY
    iexact HL
  isplitl [HV]; · iexact HV
  isplitl [HWM]
  · iapply (pointsTo_rep_of_read (c : Thread nD τ) wM _ _ _ hw)
    iexact HWM
  isplitl [HC]
  · iexists _
    isplitl [HC]; · iexact HC
    ipureintro
    exact fun z hz => scale_store c X i k g h hg _ _ (congrArg k0_pay84 hscale) z hz
  iexists _; iexact HW

theorem b7_small (i : T2) (k : T3) (v w : BitVec 32) (jp : Unit → P1 (F := F)) (Q : Unit → sProp 𝕄) (h : i.val < 16) (h8 : ¬ 4 ≤ stp i k) (vt : S112x32768.Idx → Elt F .bf16)
    (y : S128x256.Idx → Elt F .f32) (hKC : ∀ q, KC q = kcT (xt c X q)) (ns nu no nd : ℕ) (hns : stp i k < ns) (h1 : nd ≤ no) (h2 : no ≤ nu) (h3 : nu ≤ stp i k) :
    iprop(ringP c X NT ns (stp i k) nu no nd ∗ codesP c KC (stp i k) (stp i k) (stp i k - 4) ∗ holds c arg1 vt ∗ holds c wM y ∗ slotP c X i.val k.val ∗ owesP c
      ∗ ((ringP c X NT ns (stp i k + 1) nu no nd ∗ codesP c KC (stp i k + 1) (stp i k) (stp i k + 1 - 4) ∗ holds c arg1 vt ∗ holds c wM (wStep vt k (xt c X (tl (stp i k))) y)
          ∗ slotP c X i.val (k.val + 1) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B7 arg0 harg0 arg1 harg1 arg2 harg2 arg7 harg7 arg8 harg8 i k v w jp) Q := by
  unfold B7 blk7
  have hC : k0_cond7 i = 1#1 := (c7 i).2 h
  have hC8 : ¬ k0_cond8 i k = 1#1 := fun e => h8 ((c8 i k).1 e)
  have ht : stp i k < 512 := by have := k_lt k; have e := stp_def i k; omega
  have hs : sq (tl (stp i k)) = sl42 (stp i k) := by unfold sq; rw [Ring.bk_val ht]
  have hsk : sk (tl (stp i k)) = sl4 (stp i k) := by unfold sk; rw [Ring.bk_val ht]
  obtain ⟨Z, e1, e2⟩ := ring_in c X NT ns (stp i k) nu no nd hns h1 h2 h3 (tl (stp i k)) (Ring.bk_val ht)
  dsimp only [fI] at e1; dsimp only [cells] at e2; rw [hs] at e1 e2
  rw [e1, e2]
  have cw := codes_write c KC (stp i k) (stp i k) (stp i k - 4) (by omega) le_rfl (by omega) (tl (stp i k)) (Ring.bk_val ht)
  rw [hsk] at cw
  letI : ClosedOff (k0_off29 i k) := ⟨_, off29 i k h⟩
  letI : ClosedOff (k0_off30 i k) := ⟨_, off30 i k h⟩
  letI : ClosedOff (k0_off31 i k) := ⟨_, off31 i k h⟩
  letI : ClosedOff (k0_off32 i k) := ⟨_, off32 i k h⟩
  letI : ClosedOff (k0_off33 i k) := ⟨_, off33 i k h⟩
  letI : ClosedOff (k0_off34 i k) := ⟨_, off34 i k h⟩
  letI : ClosedOff (k0_off35 i k) := ⟨_, off35 i k h⟩
  letI : ClosedOff (k0_off36 i k) := ⟨_, off36 i k h⟩
  letI : ClosedOff (k0_off37 i k) := ⟨_, off37 i k h⟩
  letI : ClosedOff (k0_off38 i k) := ⟨_, off38 i k h⟩
  letI : ClosedOff (k0_off39 i k) := ⟨_, off39 i k h⟩
  letI : ClosedOff (k0_off40 i k) := ⟨_, off40 i k h⟩
  letI : ClosedOff (k0_off41 i k) := ⟨_, off41 i k h⟩
  letI : ClosedOff (k0_off42 i k) := ⟨_, off42 i k h⟩
  letI : ClosedOff (k0_off43 i k) := ⟨_, off43 i k h⟩
  letI : ClosedOff (k0_off44 i k) := ⟨_, off44 i k h⟩
  letI : ClosedOff (k0_off45 i k) := ⟨_, off45 i k h⟩
  letI : ClosedOff (k0_off46 k) := ⟨_, off46 k⟩
  have hin := csst_in i k h (csst_inb i k h)
  have hin2 := csst_in2 i k h (csst_inb i k h)
  unfold slotP
  iintro ⟨⟨⟨HI, HO, HM⟩, HZ⟩, HCP, HV, HWM, ⟨%g, HC, %hg⟩, ⟨%W, HW⟩, Hk⟩
  icases cw $$ HCP with ⟨⟨⟨%f, HKS⟩, HKC⟩, HCB⟩
  sl_exec
  have hcode : (kS (sl4 (stp i k))).view.read (Elt F) (b7_small.sl.HKS_w8 c X i k hC f) = kcT (xt c X (tl (stp i k))) :=
    codes_eight (sl4 (stp i k)) (xt c X (tl (stp i k))) _ (cOff i k) (cOff_eq i k h) (cOff_inb i k h) (fun b => k0_pay13 (cB (ldB i k h (xt c X (tl (stp i k))) b))) (fun b => by rw [ldB_eq])
  have hscale : b7_small.sl.r_43 c X i k hC = scT (xt c X (tl (stp i k))) :=
    sc_eq (xt c X (tl (stp i k))) (fun b => sB (ldB i k h (xt c X (tl (stp i k))) b)) (fun b => by rw [ldB_eq])
  have hup := up_eq (xt c X (tl (stp i k))) (fun b => dB (ldB i k h (xt c X (tl (stp i k))) b)) (fun b => by rw [ldB_eq])
    (View.readAt (Elt F) wM.view (Rect.unit (s := S128x256) ![0, 0] S112x256.size inb_S128x256_S112x256_0_0).toLoadRect (wM.view.rep y)) _
    (View.readAt_rep_unit wM.view y inb_S128x256_S112x256_0_0 rfl inb_S128x256_S112x256_0_0) _ _
    (View.readAt_rep_unit arg1.view vt (by rw [off46 k]; exact vt_inb k) (off46 k) (vt_inb k))
  have hw := w_store vt k (xt c X (tl (stp i k))) y _ hup
  iapply Hk
  isplitl [HI_src HO HI_dst HI HM HZ]
  · isplitr [HZ]
    · isplitl [HI_src]; · iexact HI_src
      isplitl [HO]; · iexact HO
      isplitl [HI_dst]; · iexact HI_dst
      isplitl [HI]; · iexact HI
      iexact HM
    iexact HZ
  isplitl [HKS HKC HCB]
  · rw [show stp i k + 1 - 4 = stp i k - 4 by omega]
    iapply HCB
    isplitr [HKC]
    · iapply (pointsTo_rep_of_read (c : Thread nD τ) (kS (sl4 (stp i k))) _ _ _ (hcode.trans (hKC _).symm))
      iexact HKS
    iexact HKC
  isplitl [HV]; · iexact HV
  isplitl [HWM]
  · iapply (pointsTo_rep_of_read (c : Thread nD τ) wM _ _ _ hw)
    iexact HWM
  isplitl [HC]
  · iexists _
    isplitl [HC]; · iexact HC
    ipureintro
    exact fun z hz => scale_store c X i k g h hg _ _ (congrArg k0_pay84 hscale) z hz
  iexists _; iexact HW

end

end Cert.Proof.Sweep

end
-- ==== Proof.Update.lean ====
/- The block of a step that updates a tile. -/
module

public import proofs.«01_k».proof.Proof.Quant

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD) (X : Buf (Elt F) (cM.view.loc (c : Thread nD τ))) (NT : Fin 512 → S1024x256.Idx → Elt F .f32)
  (KC : Fin 512 → S1024x256.Idx → Elt F .fp8e4m3)
  (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

/-- Block 5 takes the sweep's product off a tile. -/
theorem b5_wp (i : T2) (k : T3) (jp : Unit → P1 (F := F)) (Q : Unit → sProp 𝕄) (vw : S32768x128.Idx → Elt F .bf16) (y : S128x256.Idx → Elt F .bf16)
    (hNT : 0 < i.val → NT (tl (stp i k - 32)) = ntT vw k (xt c X (tl (stp i k - 32))) y) (ns na nd : ℕ) (hna : 0 < i.val → stp i k - 32 < na) (hnd : nd ≤ stp i k - 32) :
    iprop(ringP c X NT ns na (stp i k - 32) (stp i k - 32) nd ∗ holds c arg0 vw ∗ holds c ywM y
      ∗ ((ringP c X NT ns na (stp i k + 1 - 32) (stp i k - 32) nd ∗ holds c arg0 vw ∗ holds c ywM y) -∗ wp frame (wpE (defs₀ (F := F)) 𝒱₀ (c : Thread nD τ) none) Set.univ (jp ⟨⟩) Q))
    ⊢ wp frame (wpE (defs₀ (F := F)) 𝒱₀ (c : Thread nD τ) none) Set.univ (B5 arg0 harg0 arg1 harg1 arg2 harg2 arg7 harg7 arg8 harg8 i k jp) Q := by
  unfold B5 blk5
  by_cases h : 0 < i.val
  · have hC : k0_cond5 i = 1#1 := (c5 i).2 h
    have ht : stp i k - 32 < 512 := by have := i_lt i; have := k_lt k; have e := stp_def i k; omega
    obtain ⟨Z, e1, e2⟩ := ring_update c X NT ns na (stp i k - 32) (stp i k - 32) nd (hna h) hnd le_rfl (tl (stp i k - 32)) (Ring.bk_val ht)
    have hs : sq (tl (stp i k - 32)) = sl42 (stp i k - 32) := by unfold sq; rw [Ring.bk_val ht]
    dsimp only [cells] at e1 e2; rw [hs] at e1 e2
    rw [show stp i k + 1 - 32 = stp i k - 32 + 1 by have := stp_def i k; omega, e1, e2]
    letI : ClosedOff (k0_off18 i k) := ⟨_, off18 i k h⟩
    letI : ClosedOff (k0_off19 k) := ⟨_, off19 k⟩
    iintro ⟨⟨⟨HH, HO, HS, HC⟩, HZ⟩, HV, HY, Hk⟩
    sl_exec
    have hrd : (rS (sl42 (stp i k - 32))).view.read (Elt F) (b5_wp.sl.HS_w1 c X arg0 i k vw y hC) = NT (tl (stp i k - 32)) := by
      rw [hNT h]
      refine (ring_store_all (sl42 (stp i k - 32)) _ (k0_off18 i k) (off18 i k h) _ _).trans ?_
      unfold ntT
      funext z
      refine congrFun ?_ _
      exact congr (congr (congrArg k0_pay83 (ring_load_all _ _ _ (off18 i k h) _)) (View.readAt_rep_unit arg0.view vw _ (off19 k) (vw_inb k))) (View.readAt_rep_full ywM.view y _)
    iapply Hk
    isplitr [HV HY]
    · isplitr [HZ]
      · isplitl [HH]; · iexact HH
        isplitl [HO]; · iexact HO
        isplitl [HS]
        · iapply (pointsTo_rep_of_read (c : Thread nD τ) (rS (sl42 (stp i k - 32))) _ _ _ hrd)
          iexact HS
        iexact HC
      iexact HZ
    isplitl [HV]; · iexact HV
    iexact HY
  · have hC : ¬ k0_cond5 i = 1#1 := fun e => h ((c5 i).1 e)
    rw [dif_neg hC, show stp i k + 1 - 32 = stp i k - 32 by have := stp_def i k; have := k_lt k; omega]
    iintro ⟨HR, HV, HY, Hk⟩
    iapply Hk
    isplitl [HR]; · iexact HR
    isplitl [HV]; · iexact HV
    iexact HY

end

end Cert.Proof.Sweep

end
-- ==== Proof.Sweep.lean ====
/- The step and the loop of a sweep. -/
module

public import proofs.«01_k».proof.Proof.Update

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD) (X : Buf (Elt F) (cM.view.loc (c : Thread nD τ)))
  (vw : S32768x128.Idx → Elt F .bf16) (vt : S112x32768.Idx → Elt F .bf16) (tt : S128x128.Idx → Elt F .f32)

/-- The product's buffer before step `k` of sweep `i`. -/
def Wv (i : ℕ) : ℕ → S128x256.Idx → Elt F .f32
  | 0 => k0_pay82 (F := F)
  | k + 1 => if h : i < 16 ∧ k < 32 then wStep vt ⟨k, lt_of_lt_of_eq h.2 trips3.symm⟩ (xt c X (tl (i * 32 + k))) (Wv i k) else Wv i k
/-- The scales and the clipped codes of the coefficients of panel `i`. -/
def yS (i : ℕ) : S1x256.Idx → Elt F .f32 := k0_pay4 (k0_pay1 tt (Wv c X vt i 32))
def yC (i : ℕ) : S112x256.Idx → Elt F .f32 := k0_pay5 (k0_pay1 tt (Wv c X vt i 32))
/-- The decoded coefficients that sweep `i` subtracts with. -/
def yv : ℕ → S128x256.Idx → Elt F .bf16
  | 0 => k0_pay79 (F := F)
  | i + 1 => VecWindow.put (yv i) ![0, 0] S112x256.size (k0_pay81 (yS c X vt tt i) (yC c X vt tt i))
/-- Tile `q` of the updated matrix, and of the codes. -/
def NTv (q : Fin 512) : S1024x256.Idx → Elt F .f32 :=
  ntT vw ⟨q.val % 32, lt_of_lt_of_eq (Nat.mod_lt _ (by omega)) trips3.symm⟩ (xt c X q) (yv c X vt tt (q.val / 32 + 1))
def KCv (q : Fin 512) : S1024x256.Idx → Elt F .fp8e4m3 := kcT (xt c X q)

/-- The slot sweep `i` writes its scales to; the last sweep writes none. -/
def slotQ (i k : ℕ) : sProp 𝕄 := if i < 16 then slotP c X i k else iprop(emp)

variable (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

/-- What a step of the sweeps finds. -/
def inv3 (i k : ℕ) : sProp 𝕄 :=
  iprop(ringP c X (NTv c X vw vt tt) (nsf (i * 32 + k)) (min (i * 32 + k) 512) (i * 32 + k - 32) (i * 32 + k - 32) (i * 32 + k - 36)
    ∗ codesP c (KCv c X) (min (i * 32 + k) 512) (min (i * 32 + k - 1) 512) (min (i * 32 + k - 4) 508)
    ∗ holds c wM (Wv c X vt i k) ∗ slotQ c X i k ∗ holds c ywM (yv c X vt tt i) ∗ holds c arg0 vw ∗ holds c arg1 vt ∗ owesP c)

/-- Block 7, in whichever sweep. -/
theorem b7_wp (i : T2) (k : T3) (v w : BitVec 32) (jp : Unit → P1 (F := F)) (Q : Unit → sProp 𝕄) :
    iprop(ringP c X (NTv c X vw vt tt) (nsf (stp i k + 1)) (min (stp i k) 512) (stp i k + 1 - 32) (stp i k - 32) (stp i k + 1 - 36)
      ∗ codesP c (KCv c X) (min (stp i k) 512) (min (stp i k + 1 - 1) 512) (min (stp i k - 4) 508) ∗ holds c arg1 vt ∗ holds c wM (Wv c X vt i.val k.val) ∗ slotQ c X i.val k.val ∗ owesP c
      ∗ ((ringP c X (NTv c X vw vt tt) (nsf (stp i k + 1)) (min (stp i k + 1) 512) (stp i k + 1 - 32) (stp i k - 32) (stp i k + 1 - 36)
          ∗ codesP c (KCv c X) (min (stp i k + 1) 512) (min (stp i k + 1 - 1) 512) (min (stp i k + 1 - 4) 508) ∗ holds c arg1 vt ∗ holds c wM (Wv c X vt i.val (k.val + 1))
          ∗ slotQ c X i.val (k.val + 1) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B7 arg0 harg0 arg1 harg1 arg2 harg2 arg7 harg7 arg8 harg8 i k v w jp) Q := by
  have hi := i_lt i
  have hk := k_lt k
  have hst := stp_def i k
  have hn : stp i k + 1 ≤ nsf (stp i k + 1) ∨ 512 ≤ stp i k := by simp only [nsf]; omega
  by_cases h : i.val < 16
  · rw [show min (stp i k) 512 = stp i k by omega, show min (stp i k + 1 - 1) 512 = stp i k by omega, show min (stp i k + 1) 512 = stp i k + 1 by omega,
      show min (stp i k - 4) 508 = stp i k - 4 by omega, show min (stp i k + 1 - 4) 508 = stp i k + 1 - 4 by omega]
    have hW : Wv c X vt i.val (k.val + 1) = wStep vt k (xt c X (tl (stp i k))) (Wv c X vt i.val k.val) := by
      show (if h : i.val < 16 ∧ k.val < 32 then _ else _) = _
      rw [dif_pos ⟨h, hk⟩]
    unfold slotQ
    rw [if_pos h, if_pos h, hW]
    by_cases h8 : 4 ≤ stp i k
    · exact b7_big c X (NTv c X vw vt tt) (KCv c X) arg0 harg0 arg1 harg1 arg2 harg2 arg7 harg7 arg8 harg8 i k v w jp Q h h8 vt _ (fun _ => rfl) _ _ _ _ (by omega) (by omega) (by omega) (by omega)
    · exact b7_small c X (NTv c X vw vt tt) (KCv c X) arg0 harg0 arg1 harg1 arg2 harg2 arg7 harg7 arg8 harg8 i k v w jp Q h h8 vt _ (fun _ => rfl) _ _ _ _ (by omega) (by omega) (by omega) (by omega)
  · have hW : Wv c X vt i.val (k.val + 1) = Wv c X vt i.val k.val := by
      show (if h : i.val < 16 ∧ k.val < 32 then _ else _) = _
      rw [dif_neg (fun e => h e.1)]
    unfold slotQ
    rw [if_neg h, if_neg h, hW, show min (stp i k + 1) 512 = min (stp i k) 512 by omega, show min (stp i k + 1 - 4) 508 = min (stp i k - 4) 508 by omega,
      b7_skip arg0 harg0 arg1 harg1 arg2 harg2 arg7 harg7 arg8 harg8 i k v w jp h]
    iintro ⟨HR, HK, H1, HW, HS, HO, Hk⟩
    iapply Hk
    isplitl [HR]; · iexact HR
    isplitl [HK]; · iexact HK
    isplitl [H1]; · iexact H1
    isplitl [HW]; · iexact HW
    isplitl [HS]; · iexact HS
    iexact HO

/-- A step of the sweeps. -/
theorem t3_step (i : T2) (k : T3) (v : BitVec 32) :
    inv3 c X vw vt tt arg0 arg1 i.val k.val
    ⊢ wp frame (wpE (defs₀ (F := F)) 𝒱₀ (c : Thread nD τ) none) Set.univ
        (k0_t3_body arg0 harg0 arg1 harg1 arg2 harg2 cM (Memref.isWhole_whole _) coM (Memref.isWhole_whole _) ccM (Memref.isWhole_whole _) csM (Memref.isWhole_whole _)
          arg7 harg7 arg8 harg8 ringM (Memref.isWhole_whole _) cstM (Memref.isWhole_whole _) csstM (Memref.isWhole_whole _) wM (Memref.isWhole_whole _) ywM (Memref.isWhole_whole _)
          cc0_scratch5 cc0_scratch6 cc0_scratch7 cc0_scratch8 i v k ())
        (fun _ => inv3 c X vw vt tt arg0 arg1 i.val (k.val + 1)) := by
  have hi := i_lt i
  have hk := k_lt k
  have hst := stp_def i k
  rw [t3_eq]
  unfold inv3
  rw [← hst, show i.val * 32 + (k.val + 1) = stp i k + 1 by omega]
  iintro ⟨HR, HK, HW, HS, HY, H0, H1, HO⟩
  iapply (b3_wp c X (NTv c X vw vt tt) arg0 harg0 arg1 harg1 arg2 harg2 arg7 harg7 arg8 harg8 i k _ _ _ (nsf (stp i k)) (min (stp i k) 512) (stp i k - 32) (stp i k - 32) (by omega) (by simp only [nsf]; omega))
  isplitl [HR]; · iexact HR
  isplitl [HO]; · iexact HO
  iintro ⟨HR, HO⟩
  iapply (b4_wp c X (NTv c X vw vt tt) arg0 harg0 arg1 harg1 arg2 harg2 arg7 harg7 arg8 harg8 i k _ _ _ (min (stp i k) 512) (stp i k - 32) (stp i k - 32) (by omega) le_rfl (by omega) (by simp only [nsf]; omega))
  isplitl [HR]; · iexact HR
  isplitl [HO]; · iexact HO
  iintro ⟨HR, HO⟩
  iapply (b5_wp c X (NTv c X vw vt tt) arg0 harg0 arg1 harg1 arg2 harg2 arg7 harg7 arg8 harg8 i k _ _ vw (yv c X vt tt i.val) ?_ (nsf (stp i k + 1)) (min (stp i k) 512) (stp i k + 1 - 36) (by omega) (by omega))
  · intro h0
    have hv : (tl (stp i k - 32)).val = stp i k - 32 := Ring.bk_val (by omega)
    unfold NTv
    have e1 : (tl (stp i k - 32)).val % 32 = k.val := by rw [hv]; omega
    have e2 : (tl (stp i k - 32)).val / 32 + 1 = i.val := by rw [hv]; omega
    rw [e2]
    congr 1
    exact Fin.ext e1
  isplitl [HR]; · iexact HR
  isplitl [H0]; · iexact H0
  isplitl [HY]; · iexact HY
  iintro ⟨HR, H0, HY⟩
  iapply (b6_wp c (KCv c X) arg0 harg0 arg1 harg1 arg2 harg2 arg7 harg7 arg8 harg8 i k _ _ _ (min (stp i k - 4) 508) (by omega))
  isplitl [HK]; · iexact HK
  isplitl [HO]; · iexact HO
  iintro ⟨HK, HO⟩
  iapply (b7_wp c X vw vt tt arg0 harg0 arg1 harg1 arg2 harg2 arg7 harg7 arg8 harg8 i k _ _ _ _)
  isplitl [HR]; · iexact HR
  isplitl [HK]; · iexact HK
  isplitl [H1]; · iexact H1
  isplitl [HW]; · iexact HW
  isplitl [HS]; · iexact HS
  isplitl [HO]; · iexact HO
  iintro ⟨HR, HK, H1, HW, HS, HO⟩
  iapply (b9_wp c X (NTv c X vw vt tt) arg0 harg0 arg1 harg1 arg2 harg2 arg7 harg7 arg8 harg8 i k _ _ _ (nsf (stp i k + 1)) (min (stp i k + 1) 512) (stp i k + 1 - 36) (by omega))
  isplitl [HR]; · iexact HR
  isplitl [HO]; · iexact HO
  iintro ⟨HR, HO⟩
  rw [wp_pure]
  imodintro
  isplitl [HR]; · iexact HR
  isplitl [HK]; · iexact HK
  isplitl [HW]; · iexact HW
  isplitl [HS]; · iexact HS
  isplitl [HY]; · iexact HY
  isplitl [H0]; · iexact H0
  isplitl [H1]; · iexact H1
  iexact HO

end

end Cert.Proof.Sweep

end
-- ==== Proof.Panels.lean ====
/- The scales of the panels, and the blocks at the head of a sweep. -/
module

public import proofs.«01_k».proof.Proof.Sweep

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD) (SC : Fin 16 → S256x256.Idx → Elt F .f32)

abbrev ss (p : Fin 16) : Fin 2 := sl2 p.val
/-- Panel `p` of the scales on its way out. -/
abbrev fS (p : Fin 16) : sProp 𝕄 :=
  Transfers.Flight countersEmb (c : Thread nD τ) (SemLoc.dma (mS (ss p)).sem) () 8192 iprop(holds c (csT p) (SC p) ∗ holds c (sS (ss p)) (SC p))
abbrev freeS (s : Fin 2) : sProp 𝕄 := iprop(any c (sS s) ∗ cellP c (mS s))
/-- What panel `p` of the scales owns when `mw` were written, `ms` sent out and `md` are out. -/
def panelP (mw ms md : ℕ) (p : Fin 16) : sProp 𝕄 :=
  if p.val < md then iprop(holds c (csT p) (SC p) ∗ (if mw ≤ p.val + 2 then freeS c (ss p) else iprop(emp)))
  else if p.val < ms then fS c SC p
  else if p.val < mw then iprop(any c (csT p) ∗ holds c (sS (ss p)) (SC p) ∗ cellP c (mS (ss p)))
  else any c (csT p)
/-- The scales' slots not yet used when `mw` panels were written. -/
def slackS (mw : ℕ) : sProp 𝕄 := bigSep Finset.univ (fun s : Fin 2 => if mw ≤ s.val then freeS c s else iprop(emp))
/-- The ring of scales: every panel's share, and the slots not yet used. -/
def scalesP (mw ms md : ℕ) : sProp 𝕄 := iprop(bigSep Finset.univ (panelP c SC mw ms md) ∗ slackS c mw)

/-- Panel `ms` of the scales is sent out. -/
theorem scales_send (mw ms md : ℕ) (h : ms < mw) (h2 : md ≤ ms) (q : Fin 16) (hq : q.val = ms) :
    ∃ Z : sProp 𝕄, scalesP c SC mw ms md = iprop(((any c (csT q) ∗ holds c (sS (ss q)) (SC q) ∗ cellP c (mS (ss q))) ∗ Z) ∗ slackS c mw)
      ∧ scalesP c SC mw (ms + 1) md = iprop((fS c SC q ∗ Z) ∗ slackS c mw) := by
  obtain ⟨Z, h1, h2⟩ := bigSep_step1 (panelP c SC mw ms md) (panelP c SC mw (ms + 1) md) q (fun r hr => by
    have : r.val ≠ ms := fun e => hr (Fin.ext (e.trans hq.symm))
    unfold panelP
    by_cases h1 : r.val < ms
    · simp only [h1, show r.val < ms + 1 by omega]
    · simp only [h1, show ¬ r.val < ms + 1 by omega])
  refine ⟨Z, ?_, ?_⟩
  · unfold scalesP; rw [h1]; unfold panelP; rw [if_neg (show ¬ q.val < md by omega), if_neg (show ¬ q.val < ms by omega), if_pos (show q.val < mw by omega)]
  · unfold scalesP; rw [h2]; unfold panelP; rw [if_neg (show ¬ q.val < md by omega), if_pos (show q.val < ms + 1 by omega)]
/-- Panel `md` of the scales is out. -/
theorem scales_out (mw ms md : ℕ) (h : md < ms) (h2 : mw ≤ md + 2) (q : Fin 16) (hq : q.val = md) :
    ∃ Z : sProp 𝕄, scalesP c SC mw ms md = iprop((fS c SC q ∗ Z) ∗ slackS c mw)
      ∧ scalesP c SC mw ms (md + 1) = iprop(((holds c (csT q) (SC q) ∗ freeS c (ss q)) ∗ Z) ∗ slackS c mw) := by
  obtain ⟨Z, h1, h2⟩ := bigSep_step1 (panelP c SC mw ms md) (panelP c SC mw ms (md + 1)) q (fun r hr => by
    have : r.val ≠ md := fun e => hr (Fin.ext (e.trans hq.symm))
    unfold panelP
    by_cases h1 : r.val < md
    · simp only [h1, show r.val < md + 1 by omega]
    · simp only [h1, show ¬ r.val < md + 1 by omega])
  refine ⟨Z, ?_, ?_⟩
  · unfold scalesP; rw [h1]; unfold panelP; rw [if_neg (show ¬ q.val < md by omega), if_pos (show q.val < ms by omega)]
  · unfold scalesP; rw [h2]; unfold panelP; rw [if_pos (show q.val < md + 1 by omega), if_pos (show mw ≤ q.val + 2 by omega)]
/-- Panel `mw` of the scales is written, into a slot that is free. -/
theorem scales_write (mw ms md : ℕ) (h : md ≤ ms) (h2 : ms ≤ mw) (h4 : mw < 2 ∨ mw < md + 2) (q : Fin 16) (hq : q.val = mw) :
    (scalesP c SC mw ms md : sProp 𝕄) ⊢ iprop(freeS c (ss q) ∗ ((holds c (sS (ss q)) (SC q) ∗ cellP c (mS (ss q))) -∗ scalesP c SC (mw + 1) ms md)) := by
  by_cases hlt : mw < 2
  · obtain ⟨Z, e1, e2⟩ := bigSep_step1 (panelP c SC mw ms md) (panelP c SC (mw + 1) ms md) q (fun r hr => by
      have : r.val ≠ mw := fun e => hr (Fin.ext (e.trans hq.symm))
      unfold panelP
      by_cases h1 : r.val < mw
      · simp only [h1, show r.val < mw + 1 by omega, show mw ≤ r.val + 2 by omega, show mw + 1 ≤ r.val + 2 by omega]
      · simp only [h1, show ¬ r.val < mw + 1 by omega, show mw ≤ r.val + 2 by omega, show mw + 1 ≤ r.val + 2 by omega])
    have hs : (ss q).val = mw := by show q.val % 2 = mw; omega
    obtain ⟨Y, e3, e4⟩ := bigSep_step1 (fun s : Fin 2 => (if mw ≤ s.val then freeS c s else iprop(emp) : sProp 𝕄)) (fun s : Fin 2 => if mw + 1 ≤ s.val then freeS c s else iprop(emp)) (ss q) (fun r hr => by
      have : r.val ≠ mw := fun e => hr (Fin.ext (e.trans hs.symm))
      by_cases h1 : mw ≤ r.val
      · simp only [h1, show mw + 1 ≤ r.val by omega]
      · simp only [h1, show ¬ mw + 1 ≤ r.val by omega])
    unfold scalesP slackS
    rw [e1, e2, e3, e4, if_pos (show mw ≤ (ss q).val by omega), if_neg (show ¬ mw + 1 ≤ (ss q).val by omega)]
    unfold panelP
    simp only [show ¬ q.val < md by omega, show ¬ q.val < ms by omega, show ¬ q.val < mw by omega, show q.val < mw + 1 by omega, if_true, if_false]
    iintro ⟨⟨HA, HZ⟩, HF, HY⟩
    isplitl [HF]; · iexact HF
    iintro ⟨HK, HC⟩
    isplitl [HA HZ HK HC]
    · isplitl [HA HK HC]
      · isplitl [HA]; · iexact HA
        isplitl [HK]; · iexact HK
        iexact HC
      iexact HZ
    isplitr; · iempintro
    iexact HY
  · obtain ⟨q', hq'⟩ : ∃ q' : Fin 16, q'.val + 2 = mw := ⟨⟨mw - 2, by have := q.isLt; omega⟩, by show mw - 2 + 2 = mw; omega⟩
    have hsk : ss q' = ss q := Fin.ext (by show q'.val % 2 = q.val % 2; omega)
    obtain ⟨Z, e1, e2⟩ := bigSep_step2 (panelP c SC mw ms md) (panelP c SC (mw + 1) ms md) q q' (by intro e; subst e; omega) (fun r hr hr' => by
      have : r.val ≠ mw := fun e => hr (Fin.ext (e.trans hq.symm))
      have : r.val ≠ q'.val := fun e => hr' (Fin.ext e)
      unfold panelP
      by_cases h1 : r.val < mw <;> by_cases h2 : mw ≤ r.val + 2
      · simp only [h1, h2, show r.val < mw + 1 by omega, show mw + 1 ≤ r.val + 2 by omega]
      · simp only [h1, h2, show r.val < mw + 1 by omega, show ¬ mw + 1 ≤ r.val + 2 by omega]
      · simp only [h1, h2, show ¬ r.val < mw + 1 by omega, show mw + 1 ≤ r.val + 2 by omega]
      · omega)
    have es : (slackS c mw : sProp 𝕄) = slackS c (mw + 1) := by
      unfold slackS
      exact bigSep_congr (fun s _ => by have := s.isLt; rw [if_neg (show ¬ mw ≤ s.val by omega), if_neg (show ¬ mw + 1 ≤ s.val by omega)])
    unfold scalesP
    rw [es, e1, e2]
    unfold panelP
    simp only [show ¬ q.val < md by omega, show ¬ q.val < ms by omega, show ¬ q.val < mw by omega, show q.val < mw + 1 by omega,
      show q'.val < md by omega, show mw ≤ q'.val + 2 by omega, show ¬ mw + 1 ≤ q'.val + 2 by omega, if_true, if_false, hsk]
    iintro ⟨⟨HA, ⟨HB, HF⟩, HZ⟩, HY⟩
    isplitl [HF]; · iexact HF
    iintro ⟨HK, HC⟩
    isplitr [HY]
    · isplitl [HA HK HC]
      · isplitl [HA]; · iexact HA
        isplitl [HK]; · iexact HK
        iexact HC
      isplitl [HB]
      · isplitl [HB]; · iexact HB
        iempintro
      iexact HZ
    iexact HY

variable (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

/-- Block 2 waits for a panel of scales to be out. -/
theorem b2_wp (i : T2) (jp : Unit → P1 (F := F)) (Q : Unit → sProp 𝕄) :
    iprop(scalesP c SC (min i.val 16) i.val (i.val - 2) ∗ owesP c
      ∗ ((scalesP c SC (min i.val 16) i.val (i.val + 1 - 2) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B2 arg0 harg0 arg1 harg1 arg2 harg2 arg7 harg7 arg8 harg8 i jp) Q := by
  unfold B2 blk2
  have hi := i_lt i
  by_cases h : 1 < i.val
  · have hC : k0_cond2 i = 1#1 := (c2 i).2 h
    have ht : i.val - 2 < 16 := by omega
    obtain ⟨Z, e1, e2⟩ := scales_out c SC (min i.val 16) i.val (i.val - 2) (by omega) (by omega) (pn (i.val - 2)) (Ring.bk_val ht)
    have hs : ss (pn (i.val - 2)) = sl2 (i.val - 2) := by unfold ss; rw [Ring.bk_val ht]
    dsimp only [fS, freeS] at e1 e2; rw [hs] at e1 e2
    rw [show i.val + 1 - 2 = i.val - 2 + 1 by omega, e1, e2]
    iintro ⟨⟨⟨HF, HZ⟩, HL⟩, ⟨%W, HW⟩, Hk⟩
    sl_exec
    iapply Hk
    isplitr [HW]
    · isplitr [HL]
      · isplitr [HZ]
        · isplitl [HF_dst]; · iexact HF_dst
          isplitl [HF_src]; · iexists _; iexact HF_src
          iexact HF
        iexact HZ
      iexact HL
    iexists _; iexact HW
  · have hC : ¬ k0_cond2 i = 1#1 := fun e => h ((c2 i).1 e)
    rw [dif_neg hC, show i.val + 1 - 2 = i.val - 2 by omega]
    iintro ⟨HR, HW, Hk⟩
    iapply Hk
    isplitl [HR]; · iexact HR
    iexact HW

/-- Block 1 sends a panel's scales out and computes its coefficients. -/
theorem b1_wp (i : T2) (h : 0 < i.val) (v : BitVec 32) (jp : Unit → P1 (F := F)) (Q : Unit → sProp 𝕄) (tt : S128x128.Idx → Elt F .f32) (w : S128x256.Idx → Elt F .f32)
    (y : S128x256.Idx → Elt F .bf16) (a : S112x4096.Idx → Elt F .fp8e4m3) (b : S1x4096.Idx → Elt F .f32) :
    iprop(scalesP c SC i.val (i.val - 1) (i.val - 2) ∗ holds c arg2 tt ∗ holds c wM w ∗ holds c ywM y ∗ holds c arg7 a ∗ holds c arg8 b ∗ owesP c
      ∗ ((scalesP c SC i.val i.val (i.val - 2) ∗ holds c arg2 tt ∗ holds c wM w ∗ holds c ywM (VecWindow.put y ![0, 0] S112x256.size (k0_pay81 (k0_pay4 (k0_pay1 tt w)) (k0_pay5 (k0_pay1 tt w))))
          ∗ holds c arg7 (VecWindow.put a (sOff (i.val - 1)) S112x256.size (k0_pay80 (k0_pay5 (k0_pay1 tt w))))
          ∗ holds c arg8 (VecWindow.put b (sOff (i.val - 1)) S1x256.size (k0_pay4 (k0_pay1 tt w))) ∗ owesP c) -∗ wp frame (wpE (defs₀ (F := F)) 𝒱₀ (c : Thread nD τ) none) Set.univ (jp ⟨⟩) Q))
    ⊢ wp frame (wpE (defs₀ (F := F)) 𝒱₀ (c : Thread nD τ) none) Set.univ (B1 arg0 harg0 arg1 harg1 arg2 harg2 arg7 harg7 arg8 harg8 i v jp) Q := by
  unfold B1 blk1
  have hi := i_lt i
  have hC : k0_cond1 i = 1#1 := (c1 i).2 h
  have ht : i.val - 1 < 16 := by omega
  have hbk : (pn (i.val - 1)).val = i.val - 1 := Ring.bk_val ht
  obtain ⟨Z, e1, e2⟩ := scales_send c SC i.val (i.val - 1) (i.val - 2) (by omega) (by omega) (pn (i.val - 1)) hbk
  have hs : ss (pn (i.val - 1)) = sl2 (i.val - 1) := by unfold ss; rw [hbk]
  dsimp only [fS] at e1 e2; rw [hs] at e1 e2
  rw [Nat.sub_add_cancel h] at e2
  rw [e1, e2]
  letI : ClosedOff (k0_off7 i) := ⟨_, off7 i h⟩
  letI : ClosedOff (k0_off8 i) := ⟨_, off8 i h⟩
  iintro ⟨⟨⟨⟨⟨%f, HO⟩, HS, HC⟩, HZ⟩, HL⟩, H2, HWM, HY, H7, H8, ⟨%W, HW⟩, Hk⟩
  sl_exec
  have e4 : k0_pay1 (View.readAt (Elt F) arg2.view (Rect.unit (s := S128x128) ![0, 0] S128x128.size inb_S128x128_S128x128_0_0).toLoadRect (arg2.view.rep tt))
      (View.readAt (Elt F) wM.view (Rect.unit (s := S128x256) ![0, 0] S128x256.size inb_S128x256_S128x256_0_0).toLoadRect (wM.view.rep w)) = k0_pay1 tt w := by
    rw [View.readAt_rep_full, View.readAt_rep_full]
  iapply Hk
  isplitl [HC HZ HL]
  · isplitr [HL]
    · isplitl [HC]
      · iapply (Transfers.Flight_mono countersEmb (c : Thread nD τ) (sep_mono (holds_of_copy c (csT (pn (i.val - 1))) f _ _ (View.read_rep _ _)) .rfl))
        iexact HC
      iexact HZ
    iexact HL
  isplitl [H2]; · iexact H2
  isplitl [HWM]; · iexact HWM
  isplitl [HY]
  · iapply (pointsTo_rep_of_read (c : Thread nD τ) ywM _ _ _ ((View.read_writes_rep_unit ywM.view y _ _ rfl).trans
      (congrArg (VecWindow.put y ![0, 0] S112x256.size) (congr (congrArg k0_pay81 (congrArg k0_pay4 e4)) (congrArg k0_pay5 e4)))))
    iexact HY
  isplitl [H7]
  · iapply (pointsTo_rep_of_read (c : Thread nD τ) arg7 _ _ _ ((View.read_writes_rep_unit arg7.view a _ _ ((off7 i h).trans (by rw [hbk]))).trans
      (congrArg (VecWindow.put a (sOff (i.val - 1)) S112x256.size) (congrArg k0_pay80 (congrArg k0_pay5 e4)))))
    iexact H7
  isplitl [H8]
  · iapply (pointsTo_rep_of_read (c : Thread nD τ) arg8 _ _ _ ((View.read_writes_rep_unit arg8.view b _ _ ((off8 i h).trans (by rw [hbk]))).trans
      (congrArg (VecWindow.put b (sOff (i.val - 1)) S1x256.size) (congrArg k0_pay4 e4))))
    iexact H8
  iexists _; iexact HW

end

end Cert.Proof.Sweep

end
-- ==== Proof.Outer.lean ====
/- The sweeps, one after the other. -/
module

public import proofs.«01_k».proof.Proof.Panels

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-- A counted loop that carries nothing, by an invariant. -/
theorem loop_wp (c : Dev nD) (l : Scf.Loop 32) (hok : l.OK) (body : Fin l.trips → Unit → P1 (F := F)) (I : ℕ → sProp 𝕄) (kk : Unit → P1 (F := F)) (Q : Unit → sProp 𝕄)
    (hbody : ∀ k : Fin l.trips, I k.val ⊢ wp frame (wpE (defs₀ (F := F)) 𝒱₀ (c : Thread nD τ) none) Set.univ (body k ()) (fun _ => I (k.val + 1))) :
    iprop(I 0 ∗ (I l.trips -∗ wp frame (wpE (defs₀ (F := F)) 𝒱₀ (c : Thread nD τ) none) Set.univ (kk ()) Q))
    ⊢ wp frame (wpE (defs₀ (F := F)) 𝒱₀ (c : Thread nD τ) none) Set.univ (Scf.Loop.for l hok () body >>= kk) Q := by
  rw [wp_bind]
  iintro ⟨HI, Hk⟩
  iapply (Scf.wp_for frame (wpE (defs₀ (F := F)) 𝒱₀ (c : Thread nD τ) none) Set.univ l.lb l.ub l.st hok () body (fun k _ => I k) (fun k acc => hbody k))
  isplitl [HI]; · iexact HI
  iintro %acc HI
  iapply Hk
  iexact HI

section
variable (c : Dev nD) (X : Buf (Elt F) (cM.view.loc (c : Thread nD τ)))
  (vw : S32768x128.Idx → Elt F .bf16) (vt : S112x32768.Idx → Elt F .bf16) (tt : S128x128.Idx → Elt F .f32)

/-- The scales of `c`'s panels; the codes and the scales of the coefficients. -/
def SCv (p : Fin 16) : S256x256.Idx → Elt F .f32 := csRow c X p.val
def ycV : S112x4096.Idx → Elt F .fp8e4m3 :=
  fun z => k0_pay80 (yC c X vt tt ((z 1).val / 256)) (ix2 (z 0 : Fin 112) (⟨(z 1).val % 256, Nat.mod_lt _ (by omega)⟩ : Fin 256))
def ysV : S1x4096.Idx → Elt F .f32 :=
  fun z => yS c X vt tt ((z 1).val / 256) (ix2 (z 0 : Fin 1) (⟨(z 1).val % 256, Nat.mod_lt _ (by omega)⟩ : Fin 256))

variable (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

/-- The loops' bodies at the call's own buffers. -/
abbrev TB3 (i : T2) (v : BitVec 32) : T3 → Unit → P1 (F := F) :=
  k0_t3_body arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8 i v
abbrev TB2 : T2 → Unit → P1 (F := F) :=
  k0_t2_body arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8

/-- The coefficients' codes and scales of the first `n` panels are in place. -/
def outP (n : ℕ) : sProp 𝕄 :=
  iprop((∃ a, holds c arg7 a ∗ ⌜∀ z : S112x4096.Idx, (z 1).val < n * 256 → a z = ycV c X vt tt z⌝)
    ∗ (∃ b, holds c arg8 b ∗ ⌜∀ z : S1x4096.Idx, (z 1).val < n * 256 → b z = ysV c X vt tt z⌝))

/-- What sweep `i` finds. -/
def inv2 (i : ℕ) : sProp 𝕄 :=
  iprop(ringP c X (NTv c X vw vt tt) (nsf (i * 32)) (min (i * 32) 512) (i * 32 - 32) (i * 32 - 32) (i * 32 - 36)
    ∗ codesP c (KCv c X) (min (i * 32) 512) (min (i * 32 - 1) 512) (min (i * 32 - 4) 508)
    ∗ scalesP c (SCv c X) (min i 16) (i - 1) (i - 2)
    ∗ (∃ w, holds c wM w ∗ ⌜0 < i → w = Wv c X vt (i - 1) 32⌝) ∗ holds c ywM (yv c X vt tt (i - 1))
    ∗ holds c arg0 vw ∗ holds c arg1 vt ∗ holds c arg2 tt ∗ outP c X vt tt arg7 arg8 (i - 1) ∗ owesP c)
/-- What the steps of sweep `i` find. -/
def mid2 (i : ℕ) : sProp 𝕄 :=
  iprop(ringP c X (NTv c X vw vt tt) (nsf (i * 32)) (min (i * 32) 512) (i * 32 - 32) (i * 32 - 32) (i * 32 - 36)
    ∗ codesP c (KCv c X) (min (i * 32) 512) (min (i * 32 - 1) 512) (min (i * 32 - 4) 508)
    ∗ scalesP c (SCv c X) (min i 16) i (i + 1 - 2)
    ∗ (∃ w, holds c wM w) ∗ holds c ywM (yv c X vt tt i)
    ∗ holds c arg0 vw ∗ holds c arg1 vt ∗ holds c arg2 tt ∗ outP c X vt tt arg7 arg8 i ∗ owesP c)

theorem put_codes (i : ℕ) (a : S112x4096.Idx → Elt F .fp8e4m3) (h : ∀ z : S112x4096.Idx, (z 1).val < i * 256 → a z = ycV c X vt tt z)
    (z : S112x4096.Idx) (hz : (z 1).val < (i + 1) * 256) : VecWindow.put a (sOff i) S112x256.size (k0_pay80 (yC c X vt tt i)) z = ycV c X vt tt z := by
  by_cases hc : i * 256 ≤ (z 1).val
  · have hm : ∀ q : Fin 2, sOff i q ≤ (z q).val ∧ (z q).val < sOff i q + S112x256.size q := by
      intro q; fin_cases q
      · have := (z 0).isLt; exact ⟨Nat.zero_le _, by show (z 0).val < 0 + 112; have : (z 0).val < 112 := (z 0).isLt; omega⟩
      · show i * 256 ≤ (z 1).val ∧ (z 1).val < i * 256 + 256; omega
    refine (dif_pos hm).trans ?_
    unfold ycV
    rw [show (z 1).val / 256 = i by omega]
    refine congrArg (k0_pay80 (yC c X vt tt i)) (funext fun q => Fin.ext ?_)
    fin_cases q
    · show (z 0).val - 0 = (z 0).val; omega
    · show (z 1).val - i * 256 = (z 1).val % 256; omega
  · refine (dif_neg fun hm => hc (hm 1).1).trans (h z (by omega))
theorem put_scales (i : ℕ) (b : S1x4096.Idx → Elt F .f32) (h : ∀ z : S1x4096.Idx, (z 1).val < i * 256 → b z = ysV c X vt tt z)
    (z : S1x4096.Idx) (hz : (z 1).val < (i + 1) * 256) : VecWindow.put b (sOff i) S1x256.size (yS c X vt tt i) z = ysV c X vt tt z := by
  by_cases hc : i * 256 ≤ (z 1).val
  · have hm : ∀ q : Fin 2, sOff i q ≤ (z q).val ∧ (z q).val < sOff i q + S1x256.size q := by
      intro q; fin_cases q
      · exact ⟨Nat.zero_le _, by show (z 0).val < 0 + 1; have : (z 0).val < 1 := (z 0).isLt; omega⟩
      · show i * 256 ≤ (z 1).val ∧ (z 1).val < i * 256 + 256; omega
    refine (dif_pos hm).trans ?_
    unfold ysV
    rw [show (z 1).val / 256 = i by omega]
    refine congrArg (yS c X vt tt i) (funext fun q => Fin.ext ?_)
    fin_cases q
    · show (z 0).val - 0 = (z 0).val; omega
    · show (z 1).val - i * 256 = (z 1).val % 256; omega
  · refine (dif_neg fun hm => hc (hm 1).1).trans (h z (by omega))

/-- The panel before is finished. -/
theorem head1_wp (i : T2) (n : ℕ) (hn : i.val = n + 1) (v : BitVec 32) (jp : Unit → P1 (F := F)) (Q : Unit → sProp 𝕄) :
    iprop(scalesP c (SCv c X) (n + 1) n (n + 1 - 2) ∗ holds c arg2 tt ∗ (∃ w, holds c wM w ∗ ⌜0 < n + 1 → w = Wv c X vt n 32⌝) ∗ holds c ywM (yv c X vt tt n)
      ∗ outP c X vt tt arg7 arg8 n ∗ owesP c
      ∗ ((scalesP c (SCv c X) (n + 1) (n + 1) (n + 1 - 2) ∗ holds c arg2 tt ∗ (∃ w, holds c wM w) ∗ holds c ywM (yv c X vt tt (n + 1)) ∗ outP c X vt tt arg7 arg8 (n + 1) ∗ owesP c)
        -∗ wp frame (wpE (defs₀ (F := F)) 𝒱₀ (c : Thread nD τ) none) Set.univ (jp ⟨⟩) Q))
    ⊢ wp frame (wpE (defs₀ (F := F)) 𝒱₀ (c : Thread nD τ) none) Set.univ
        (B1 arg0 harg0 arg1 harg1 arg2 harg2 arg7 harg7 arg8 harg8 i v jp) Q := by
  have hb1 := fun (a : S112x4096.Idx → Elt F .fp8e4m3) (b : S1x4096.Idx → Elt F .f32) =>
    b1_wp c (SCv c X) arg0 harg0 arg1 harg1 arg2 harg2 arg7 harg7 arg8 harg8 i (by omega) v jp Q tt (Wv c X vt n 32) (yv c X vt tt n) a b
  rw [hn] at hb1
  simp only [Nat.add_sub_cancel] at hb1
  generalize hB : B1 arg0 harg0 arg1 harg1 arg2 harg2 arg7 harg7 arg8 harg8 i v jp = prog at hb1 ⊢
  generalize hJ : jp ⟨⟩ = rest at hb1 ⊢
  unfold outP
  iintro ⟨HS, H2, ⟨%w, HWM, %hw⟩, HY, ⟨⟨%a, H7, %ha⟩, ⟨%b, H8, %hb⟩⟩, HO, Hk⟩
  have hw' := hw (Nat.succ_pos _)
  subst hw'
  iapply (hb1 a b)
  isplitl [HS]; · iexact HS
  isplitl [H2]; · iexact H2
  isplitl [HWM]; · iexact HWM
  isplitl [HY]; · iexact HY
  isplitl [H7]; · iexact H7
  isplitl [H8]; · iexact H8
  isplitl [HO]; · iexact HO
  iintro ⟨HS, H2, HWM, HY, H7, H8, HO⟩
  iapply Hk
  isplitl [HS]; · iexact HS
  isplitl [H2]; · iexact H2
  isplitl [HWM]; · iexists _; iexact HWM
  isplitl [HY]; · iexact HY
  isplitr [HO]
  · isplitl [H7]
    · iexists _
      isplitl [H7]; · iexact H7
      ipureintro
      exact fun z hz => put_codes c X vt tt n a ha z hz
    · iexists _
      isplitl [H8]; · iexact H8
      ipureintro
      exact fun z hz => put_scales c X vt tt n b hb z hz
  iexact HO

/-- The head of a sweep. -/
theorem head_wp (i : T2) (v : BitVec 32) (jp : Unit → P1 (F := F)) (Q : Unit → sProp 𝕄) :
    iprop(inv2 c X vw vt tt arg0 arg1 arg2 arg7 arg8 i.val
      ∗ (mid2 c X vw vt tt arg0 arg1 arg2 arg7 arg8 i.val -∗ wp frame (wpE (defs₀ (F := F)) 𝒱₀ (c : Thread nD τ) none) Set.univ (jp ⟨⟩) Q))
    ⊢ wp frame (wpE (defs₀ (F := F)) 𝒱₀ (c : Thread nD τ) none) Set.univ
        (B1 arg0 harg0 arg1 harg1 arg2 harg2 arg7 harg7 arg8 harg8 i v fun _ => B2 arg0 harg0 arg1 harg1 arg2 harg2 arg7 harg7 arg8 harg8 i jp) Q := by
  have hi := i_lt i
  have hb2 := b2_wp c (SCv c X) arg0 harg0 arg1 harg1 arg2 harg2 arg7 harg7 arg8 harg8 i jp Q
  by_cases h : 0 < i.val
  · obtain ⟨n, hn⟩ : ∃ n, i.val = n + 1 := ⟨i.val - 1, by omega⟩
    have hm : min (n + 1) 16 = n + 1 := by omega
    have hb1 := head1_wp c X vt tt arg0 harg0 arg1 harg1 arg2 harg2 arg7 harg7 arg8 harg8 i n hn v
      (fun _ => B2 arg0 harg0 arg1 harg1 arg2 harg2 arg7 harg7 arg8 harg8 i jp) Q
    unfold inv2 mid2
    rw [hn] at hb2 ⊢
    rw [hm] at hb2 ⊢
    rw [show n + 1 - 1 = n from rfl]
    generalize hB : B1 arg0 harg0 arg1 harg1 arg2 harg2 arg7 harg7 arg8 harg8 i v (fun _ => B2 arg0 harg0 arg1 harg1 arg2 harg2 arg7 harg7 arg8 harg8 i jp) = prog at hb1 ⊢
    beta_reduce at hb1
    generalize hB2 : B2 arg0 harg0 arg1 harg1 arg2 harg2 arg7 harg7 arg8 harg8 i jp = prog2 at hb1 hb2 ⊢
    generalize hJ : jp ⟨⟩ = rest at hb2 ⊢
    iintro ⟨⟨HR, HK, HS, HWM, HY, H0, H1, H2, HP, HO⟩, Hk⟩
    iapply hb1
    isplitl [HS]; · iexact HS
    isplitl [H2]; · iexact H2
    isplitl [HWM]; · iexact HWM
    isplitl [HY]; · iexact HY
    isplitl [HP]; · iexact HP
    isplitl [HO]; · iexact HO
    iintro ⟨HS, H2, HWM, HY, HP, HO⟩
    iapply hb2
    isplitl [HS]; · iexact HS
    isplitl [HO]; · iexact HO
    iintro ⟨HS, HO⟩
    iapply Hk
    isplitl [HR]; · iexact HR
    isplitl [HK]; · iexact HK
    isplitl [HS]; · iexact HS
    isplitl [HWM]; · iexact HWM
    isplitl [HY]; · iexact HY
    isplitl [H0]; · iexact H0
    isplitl [H1]; · iexact H1
    isplitl [H2]; · iexact H2
    isplitl [HP]; · iexact HP
    iexact HO
  · have h0 : i.val = 0 := by omega
    have hC : ¬ k0_cond1 i = 1#1 := fun e => h ((c1 i).1 e)
    have hB : B1 arg0 harg0 arg1 harg1 arg2 harg2 arg7 harg7 arg8 harg8 i v (fun _ => B2 arg0 harg0 arg1 harg1 arg2 harg2 arg7 harg7 arg8 harg8 i jp) = B2 arg0 harg0 arg1 harg1 arg2 harg2 arg7 harg7 arg8 harg8 i jp := by
      unfold B1 blk1; exact dif_neg hC
    unfold inv2 mid2
    rw [h0] at hb2
    rw [hB, h0]
    generalize hB2 : B2 arg0 harg0 arg1 harg1 arg2 harg2 arg7 harg7 arg8 harg8 i jp = prog2 at hb2 ⊢
    generalize hJ : jp ⟨⟩ = rest at hb2 ⊢
    iintro ⟨⟨HR, HK, HS, ⟨%w, HWM, %hw⟩, HY, H0, H1, H2, HP, HO⟩, Hk⟩
    iapply hb2
    isplitl [HS]; · iexact HS
    isplitl [HO]; · iexact HO
    iintro ⟨HS, HO⟩
    iapply Hk
    isplitl [HR]; · iexact HR
    isplitl [HK]; · iexact HK
    isplitl [HS]; · iexact HS
    isplitl [HWM]; · iexists _; iexact HWM
    isplitl [HY]; · iexact HY
    isplitl [H0]; · iexact H0
    isplitl [H1]; · iexact H1
    isplitl [H2]; · iexact H2
    isplitl [HP]; · iexact HP
    iexact HO

/-- The product's buffer is cleared. -/
theorem zero_wp (jp : Unit → P1 (F := F)) (Q : Unit → sProp 𝕄) :
    iprop((∃ w, holds c wM w) ∗ (holds c wM (k0_pay82 (F := F)) -∗ wp frame (wpE (defs₀ (F := F)) 𝒱₀ (c : Thread nD τ) none) Set.univ (jp ⟨⟩) Q))
    ⊢ wp frame (wpE (defs₀ (F := F)) 𝒱₀ (c : Thread nD τ) none) Set.univ (do
        let v58 : Vec F S128x256 .f32 ← Prog.lift (.load wM (Rect.unit (s := S128x256) ![0, 0] S128x256.size inb_S128x256_S128x256_0_0).toLoadRect (View.loadsAt_vmem h_S128x256))
        Prog.lift (.store wM (Rect.unit (s := S128x256) ![0, 0] S128x256.size inb_S128x256_S128x256_0_0) (k0_pay82 (F := F)) Finset.univ (View.stores_vmem_bits_univ h_S128x256 rfl) (.inl rfl))
        jp ⟨⟩) Q := by
  iintro ⟨⟨%w, HW⟩, Hk⟩
  sl_exec
  iapply Hk
  iapply (pointsTo_rep_of_read (c : Thread nD τ) wM _ _ _ (View.read_writes_full wM.view _ _ _ _))
  iexact HW

/-- The steps of a sweep. -/
theorem steps_wp (i : T2) (v : BitVec 32) (kk : Unit → P1 (F := F)) (Q : Unit → sProp 𝕄) :
    iprop(inv3 c X vw vt tt arg0 arg1 i.val 0 ∗ (inv3 c X vw vt tt arg0 arg1 i.val 32 -∗ wp frame (wpE (defs₀ (F := F)) 𝒱₀ (c : Thread nD τ) none) Set.univ (kk ()) Q))
    ⊢ wp frame (wpE (defs₀ (F := F)) 𝒱₀ (c : Thread nD τ) none) Set.univ
        (Scf.Loop.for k0_t3_loop k0_t3_ok () (TB3 arg0 harg0 arg1 harg1 arg2 harg2 arg7 harg7 arg8 harg8 i v) >>= kk) Q := by
  have h := loop_wp c k0_t3_loop k0_t3_ok (TB3 arg0 harg0 arg1 harg1 arg2 harg2 arg7 harg7 arg8 harg8 i v) (fun k => inv3 c X vw vt tt arg0 arg1 i.val k) kk Q
    (fun k => t3_step c X vw vt tt arg0 harg0 arg1 harg1 arg2 harg2 arg7 harg7 arg8 harg8 i k v)
  rw [trips3] at h
  exact h

/-- The scales' slot around a sweep. -/
theorem slot_wp (i : ℕ) (hi : i < 17) :
    (scalesP c (SCv c X) (min i 16) i (i + 1 - 2) : sProp 𝕄)
      ⊢ iprop(slotQ c X i 0 ∗ (slotQ c X i 32 -∗ scalesP c (SCv c X) (min (i + 1) 16) (i + 1 - 1) (i + 1 - 2))) := by
  unfold slotQ
  by_cases h : i < 16
  · rw [if_pos h, if_pos h, show min i 16 = i by omega, show min (i + 1) 16 = i + 1 by omega, show i + 1 - 1 = i by omega]
    have hb : (pn i).val = i := Ring.bk_val h
    have hs : ss (pn i) = sl2 i := by unfold ss; rw [hb]
    have hw := scales_write c (SCv c X) i i (i + 1 - 2) (by omega) le_rfl (by omega) (pn i) hb
    rw [hs] at hw
    have hsc : SCv c X (pn i) = csRow c X i := by unfold SCv; rw [hb]
    unfold slotP
    iintro HS
    icases hw $$ HS with ⟨⟨⟨%g, HG⟩, HC⟩, Hk⟩
    isplitl [HG]
    · iexists g
      isplitl [HG]; · iexact HG
      ipureintro
      intro z hz
      exact absurd hz (by omega)
    iintro ⟨%g, HG, %hg⟩
    iapply Hk
    isplitl [HG]
    · iapply (pointsTo_rep_of_read (c : Thread nD τ) (sS (sl2 i)) _ _ _ ((funext fun z => hg z (by have : (z 0).val < 256 := (z 0).isLt; omega)).trans hsc.symm))
      iexact HG
    iexact HC
  · rw [if_neg h, if_neg h, show min i 16 = min (i + 1) 16 by omega, show i + 1 - 1 = i by omega]
    iintro HS
    isplitr; · iempintro
    iintro _
    iexact HS

/-- A sweep. -/
theorem t2_step (i : T2) :
    inv2 c X vw vt tt arg0 arg1 arg2 arg7 arg8 i.val
    ⊢ wp frame (wpE (defs₀ (F := F)) 𝒱₀ (c : Thread nD τ) none) Set.univ (TB2 arg0 harg0 arg1 harg1 arg2 harg2 arg7 harg7 arg8 harg8 i ())
        (fun _ => inv2 c X vw vt tt arg0 arg1 arg2 arg7 arg8 (i.val + 1)) := by
  have hi := i_lt i
  unfold TB2
  rw [t2_eq]
  have hs := slot_wp (F := F) c X i.val hi
  iintro HI
  iapply (head_wp c X vw vt tt arg0 harg0 arg1 harg1 arg2 harg2 arg7 harg7 arg8 harg8 i (Scf.iv 0#32 1#32 i) _ _)
  isplitl [HI]; · iexact HI
  unfold mid2
  iintro ⟨HR, HK, HS, HWM, HY, H0, H1, H2, HP, HO⟩
  iapply (zero_wp c (fun _ => (Scf.Loop.for k0_t3_loop k0_t3_ok () (TB3 arg0 harg0 arg1 harg1 arg2 harg2 arg7 harg7 arg8 harg8 i (Scf.iv 0#32 1#32 i)) >>= fun _ => pure ⟨⟩)) _)
  isplitl [HWM]; · iexact HWM
  iintro HWM
  icases hs $$ HS with ⟨HSQ, HSk⟩
  iapply (steps_wp c X vw vt tt arg0 harg0 arg1 harg1 arg2 harg2 arg7 harg7 arg8 harg8 i (Scf.iv 0#32 1#32 i) _ _)
  unfold inv3 inv2
  isplitl [HR HK HWM HSQ HY H0 H1 HO]
  · isplitl [HR]; · iexact HR
    isplitl [HK]; · iexact HK
    isplitl [HWM]; · iexact HWM
    isplitl [HSQ]; · iexact HSQ
    isplitl [HY]; · iexact HY
    isplitl [H0]; · iexact H0
    isplitl [H1]; · iexact H1
    iexact HO
  iintro ⟨HR, HK, HWM, HSQ, HY, H0, H1, HO⟩
  ispecialize HSk $$ HSQ
  rw [wp_pure]
  imodintro
  rw [show (i.val + 1) * 32 = i.val * 32 + 32 by omega, show i.val + 1 - 1 = i.val by omega]
  isplitl [HR]; · iexact HR
  isplitl [HK]; · iexact HK
  isplitl [HSk]; · iexact HSk
  isplitl [HWM]
  · iexists _
    isplitl [HWM]; · iexact HWM
    ipureintro
    exact fun _ => rfl
  isplitl [HY]; · iexact HY
  isplitl [H0]; · iexact H0
  isplitl [H1]; · iexact H1
  isplitl [H2]; · iexact H2
  isplitl [HP]; · iexact HP
  iexact HO

end

end Cert.Proof.Sweep

end
-- ==== Proof.Split.lean ====
/- Whole buffers and semaphores against their tiles, slots and cells. -/
module

public import proofs.«01_k».proof.Proof.Panels

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-! ## A buffer and its blocks -/

section Blocks
variable {ℓ : Loc nD τ sig} {B : Type} [Fintype B] [DecidableEq B] (I : B → Finset (Idx ℓ))
  (hd : ∀ b b', b ≠ b' → Disjoint (I b) (I b')) (hc : Finset.univ.biUnion I = Finset.univ)
include hd hc in
/-- A buffer at some contents is its blocks, each at some contents. -/
theorem split_any (P : B → sProp 𝕄) (hP : ∀ b (f : Buf (Elt F) ℓ), (ℓ ↦[I b]{fullShare} f : sProp 𝕄) ⊢ P b) :
    (iprop(∃ f : Buf (Elt F) ℓ, ℓ ↦{fullShare} f) : sProp 𝕄) ⊢ bigSep Finset.univ P := by
  exact exists_elim fun f => (entails_of_eq (Ring.pointsTo_blocks I hd hc f)).trans (bigSep_mono fun b _ => hP b f)
include hd hc in
/-- Blocks at some contents are the buffer at some contents. -/
theorem join_any (P : B → sProp 𝕄) (hP : ∀ b, P b ⊢ (iprop(∃ f : Buf (Elt F) ℓ, ℓ ↦[I b]{fullShare} f) : sProp 𝕄)) (f₀ : Buf (Elt F) ℓ) :
    bigSep Finset.univ P ⊢ (iprop(∃ f : Buf (Elt F) ℓ, ℓ ↦{fullShare} f) : sProp 𝕄) :=
  (bigSep_mono (fun b _ => hP b)).trans (Ring.pointsTo_blocks_join_exists I hd hc f₀)
include hd hc in
/-- Blocks of one contents are the buffer at these contents, and back. -/
theorem blocks_eq (P : B → sProp 𝕄) (g : Buf (Elt F) ℓ) (hP : ∀ b, P b = (ℓ ↦[I b]{fullShare} g : sProp 𝕄)) :
    bigSep Finset.univ P = (ℓ ↦{fullShare} g : sProp 𝕄) := by
  rw [Ring.pointsTo_blocks I hd hc g]
  exact bigSep_congr (fun b _ => hP b)
end Blocks

/-! ## Tiles, panels and slots cover their buffers -/

abbrev tI (q : Fin 512) : Finset S32768x4096.Idx := (Rect.unit (s := S32768x4096) (tOff q.val) S1024x256.size (tOff_inb q)).set
abbrev pI (p : Fin 16) : Finset S256x4096.Idx := (Rect.unit (s := S256x4096) (sOff p.val) S256x256.size (sOff_inb p)).set
abbrev rI (s : Fin 42) : Finset S42x1024x256.Idx := (Rect.unit (s := S42x1024x256) (pOff s.val) S1x1024x256.size (ringOff_inb s)).set
abbrev kI (s : Fin 4) : Finset S4x1024x256.Idx := (Rect.unit (s := S4x1024x256) (pOff s.val) S1x1024x256.size (cstOff_inb s)).set
abbrev sI (s : Fin 2) : Finset S2x256x256.Idx := (Rect.unit (s := S2x256x256) (pOff s.val) S1x256x256.size (csstOff_inb s)).set

/-- The tile an element lies in. -/
def tq (z : S32768x4096.Idx) : Fin 512 :=
  ⟨(z 1).val / 256 * 32 + (z 0).val / 1024, by have h0 : (z 0).val < 32768 := (z 0).isLt; have h1 : (z 1).val < 4096 := (z 1).isLt; omega⟩
def pq (z : S256x4096.Idx) : Fin 16 := ⟨(z 1).val / 256, by have h1 : (z 1).val < 4096 := (z 1).isLt; omega⟩

theorem mem_tI (q : Fin 512) (z : S32768x4096.Idx) : z ∈ tI q ↔ tq z = q := by
  rw [Rect.mem_set_unit, Fin.ext_iff]
  have h0 : (z 0).val < 32768 := (z 0).isLt
  have h1 : (z 1).val < 4096 := (z 1).isLt
  have hq := q.isLt
  constructor
  · intro H
    have a0 : q.val % 32 * 1024 ≤ (z 0).val ∧ (z 0).val < q.val % 32 * 1024 + 1024 := H 0
    have a1 : q.val / 32 * 256 ≤ (z 1).val ∧ (z 1).val < q.val / 32 * 256 + 256 := H 1
    show (z 1).val / 256 * 32 + (z 0).val / 1024 = q.val
    omega
  · intro e
    have e : (z 1).val / 256 * 32 + (z 0).val / 1024 = q.val := e
    intro i; fin_cases i
    · show q.val % 32 * 1024 ≤ (z 0).val ∧ (z 0).val < q.val % 32 * 1024 + 1024; omega
    · show q.val / 32 * 256 ≤ (z 1).val ∧ (z 1).val < q.val / 32 * 256 + 256; omega
theorem mem_pI (q : Fin 16) (z : S256x4096.Idx) : z ∈ pI q ↔ pq z = q := by
  rw [Rect.mem_set_unit, Fin.ext_iff]
  have h0 : (z 0).val < 256 := (z 0).isLt
  have h1 : (z 1).val < 4096 := (z 1).isLt
  have hq := q.isLt
  constructor
  · intro H
    have a1 : q.val * 256 ≤ (z 1).val ∧ (z 1).val < q.val * 256 + 256 := H 1
    show (z 1).val / 256 = q.val
    omega
  · intro e
    have e : (z 1).val / 256 = q.val := e
    intro i; fin_cases i
    · show 0 ≤ (z 0).val ∧ (z 0).val < 0 + 256; omega
    · show q.val * 256 ≤ (z 1).val ∧ (z 1).val < q.val * 256 + 256; omega
/-- Sets told apart by a label are disjoint and cover. -/
theorem label_disjoint {α B : Type} [DecidableEq α] (I : B → Finset α) (f : α → B) (h : ∀ b z, z ∈ I b ↔ f z = b) (b b' : B) (hb : b ≠ b') : Disjoint (I b) (I b') :=
  Finset.disjoint_left.2 fun z hz hz' => hb (((h b z).1 hz).symm.trans ((h b' z).1 hz'))
theorem label_cover {α B : Type} [DecidableEq α] [Fintype α] [Fintype B] (I : B → Finset α) (f : α → B) (h : ∀ b z, z ∈ I b ↔ f z = b) : Finset.univ.biUnion I = Finset.univ :=
  Finset.eq_univ_of_forall fun z => Finset.mem_biUnion.2 ⟨f z, Finset.mem_univ _, (h _ z).2 rfl⟩

theorem tI_disjoint (q q' : Fin 512) (h : q ≠ q') : Disjoint (tI q) (tI q') := label_disjoint tI tq mem_tI q q' h
theorem tI_cover : Finset.univ.biUnion tI = Finset.univ := label_cover tI tq mem_tI
theorem pI_disjoint (q q' : Fin 16) (h : q ≠ q') : Disjoint (pI q) (pI q') := label_disjoint pI pq mem_pI q q' h
theorem pI_cover : Finset.univ.biUnion pI = Finset.univ := label_cover pI pq mem_pI
theorem mem_rI (s : Fin 42) (z : S42x1024x256.Idx) : z ∈ rI s ↔ (z 0 : Fin 42) = s := by
  rw [Rect.mem_set_unit]
  refine Iff.trans ?_ (Fin.ext_iff (n := 42) (a := z 0) (b := s)).symm
  have h1 : (z 1).val < 1024 := (z 1).isLt
  have h2 : (z 2).val < 256 := (z 2).isLt
  constructor
  · intro H; have a0 : s.val ≤ (z 0).val ∧ (z 0).val < s.val + 1 := H 0; omega
  · intro H i; fin_cases i
    · show s.val ≤ (z 0).val ∧ (z 0).val < s.val + 1; omega
    · show 0 ≤ (z 1).val ∧ (z 1).val < 0 + 1024; omega
    · show 0 ≤ (z 2).val ∧ (z 2).val < 0 + 256; omega
theorem mem_kI (s : Fin 4) (z : S4x1024x256.Idx) : z ∈ kI s ↔ (z 0 : Fin 4) = s := by
  rw [Rect.mem_set_unit]
  refine Iff.trans ?_ (Fin.ext_iff (n := 4) (a := z 0) (b := s)).symm
  have h1 : (z 1).val < 1024 := (z 1).isLt
  have h2 : (z 2).val < 256 := (z 2).isLt
  constructor
  · intro H; have a0 : s.val ≤ (z 0).val ∧ (z 0).val < s.val + 1 := H 0; omega
  · intro H i; fin_cases i
    · show s.val ≤ (z 0).val ∧ (z 0).val < s.val + 1; omega
    · show 0 ≤ (z 1).val ∧ (z 1).val < 0 + 1024; omega
    · show 0 ≤ (z 2).val ∧ (z 2).val < 0 + 256; omega
theorem mem_sI (s : Fin 2) (z : S2x256x256.Idx) : z ∈ sI s ↔ (z 0 : Fin 2) = s := by
  rw [Rect.mem_set_unit]
  refine Iff.trans ?_ (Fin.ext_iff (n := 2) (a := z 0) (b := s)).symm
  have h1 : (z 1).val < 256 := (z 1).isLt
  have h2 : (z 2).val < 256 := (z 2).isLt
  constructor
  · intro H; have a0 : s.val ≤ (z 0).val ∧ (z 0).val < s.val + 1 := H 0; omega
  · intro H i; fin_cases i
    · show s.val ≤ (z 0).val ∧ (z 0).val < s.val + 1; omega
    · show 0 ≤ (z 1).val ∧ (z 1).val < 0 + 256; omega
    · show 0 ≤ (z 2).val ∧ (z 2).val < 0 + 256; omega
theorem rI_disjoint (q q' : Fin 42) (h : q ≠ q') : Disjoint (rI q) (rI q') := label_disjoint rI (fun z => (z 0 : Fin 42)) mem_rI q q' h
theorem rI_cover : Finset.univ.biUnion rI = Finset.univ := label_cover rI (fun z => (z 0 : Fin 42)) mem_rI
theorem kI_disjoint (q q' : Fin 4) (h : q ≠ q') : Disjoint (kI q) (kI q') := label_disjoint kI (fun z => (z 0 : Fin 4)) mem_kI q q' h
theorem kI_cover : Finset.univ.biUnion kI = Finset.univ := label_cover kI (fun z => (z 0 : Fin 4)) mem_kI
theorem sI_disjoint (q q' : Fin 2) (h : q ≠ q') : Disjoint (sI q) (sI q') := label_disjoint sI (fun z => (z 0 : Fin 2)) mem_sI q q' h
theorem sI_cover : Finset.univ.biUnion sI = Finset.univ := label_cover sI (fun z => (z 0 : Fin 2)) mem_sI

theorem cT_set (q : Fin 512) : (cT q).view.set = tI q := View.set_slice_whole _ _
theorem coT_set (q : Fin 512) : (coT q).view.set = tI q := View.set_slice_whole _ _
theorem ccT_set (q : Fin 512) : (ccT q).view.set = tI q := View.set_slice_whole _ _
theorem csT_set (q : Fin 16) : (csT q).view.set = pI q := View.set_slice_whole _ _
theorem rS_set (s : Fin 42) : (rS s).view.set = rI s := (View.set_reshape _ _).trans (View.set_slice_whole _ _)
theorem kS_set (s : Fin 4) : (kS s).view.set = kI s := (View.set_reshape _ _).trans (View.set_slice_whole _ _)
theorem sS_set (s : Fin 2) : (sS s).view.set = sI s := (View.set_reshape _ _).trans (View.set_slice_whole _ _)

/-! ## Contents glued from their tiles -/

/-- The place of an element within its tile, within its panel. -/
def tz (z : S32768x4096.Idx) : S1024x256.Idx := ix2 (⟨(z 0).val % 1024, Nat.mod_lt _ (by omega)⟩ : Fin 1024) (⟨(z 1).val % 256, Nat.mod_lt _ (by omega)⟩ : Fin 256)
def pz (z : S256x4096.Idx) : S256x256.Idx := ix2 (z 0 : Fin 256) (⟨(z 1).val % 256, Nat.mod_lt _ (by omega)⟩ : Fin 256)
def glueT {e : EltTy} (A : Fin 512 → S1024x256.Idx → Elt F e) (z : S32768x4096.Idx) : Elt F e := A (tq z) (tz z)
def glueS {e : EltTy} (A : Fin 16 → S256x256.Idx → Elt F e) (z : S256x4096.Idx) : Elt F e := A (pq z) (pz z)
/-- An element of a tile, in the array. -/
def tAt (q : Fin 512) (y : S1024x256.Idx) : S32768x4096.Idx :=
  (Rect.unit (s := S32768x4096) (tOff q.val) S1024x256.size (tOff_inb q)).emb y
def pAt (q : Fin 16) (y : S256x256.Idx) : S256x4096.Idx :=
  (Rect.unit (s := S256x4096) (sOff q.val) S256x256.size (sOff_inb q)).emb y
theorem tAt0 (q : Fin 512) (y : S1024x256.Idx) : (tAt q y 0).val = q.val % 32 * 1024 + 1 * (y 0).val := rfl
theorem tAt1 (q : Fin 512) (y : S1024x256.Idx) : (tAt q y 1).val = q.val / 32 * 256 + 1 * (y 1).val := rfl
theorem pAt0 (q : Fin 16) (y : S256x256.Idx) : (pAt q y 0).val = 0 + 1 * (y 0).val := rfl
theorem pAt1 (q : Fin 16) (y : S256x256.Idx) : (pAt q y 1).val = q.val * 256 + 1 * (y 1).val := rfl
theorem glueT_at {e : EltTy} (A : Fin 512 → S1024x256.Idx → Elt F e) (q : Fin 512) (y : S1024x256.Idx) : glueT A (tAt q y) = A q y := by
  unfold glueT
  have h0 : (y 0).val < 1024 := (y 0).isLt
  have h1 : (y 1).val < 256 := (y 1).isLt
  have hq := q.isLt
  have e0 := tAt0 q y
  have e1 := tAt1 q y
  have a : tq (tAt q y) = q := Fin.ext (by show (tAt q y 1).val / 256 * 32 + (tAt q y 0).val / 1024 = q.val; omega)
  have b : tz (tAt q y) = y := funext fun i => Fin.ext (by
    fin_cases i
    · show (tAt q y 0).val % 1024 = (y 0).val; omega
    · show (tAt q y 1).val % 256 = (y 1).val; omega)
  rw [a, b]
theorem glueS_at {e : EltTy} (A : Fin 16 → S256x256.Idx → Elt F e) (q : Fin 16) (y : S256x256.Idx) : glueS A (pAt q y) = A q y := by
  unfold glueS
  have h0 : (y 0).val < 256 := (y 0).isLt
  have h1 : (y 1).val < 256 := (y 1).isLt
  have hq := q.isLt
  have e0 := pAt0 q y
  have e1 := pAt1 q y
  have a : pq (pAt q y) = q := Fin.ext (by show (pAt q y 1).val / 256 = q.val; omega)
  have b : pz (pAt q y) = y := funext fun i => Fin.ext (by
    fin_cases i
    · show (pAt q y 0).val = (y 0).val; omega
    · show (pAt q y 1).val % 256 = (y 1).val; omega)
  rw [a, b]

section
variable (c : Dev nD)

/-- A buffer at some contents. -/
abbrev anyB (b : Ref sig .tc) : sProp 𝕄 := iprop(∃ f : Buf (Elt F) ((c : Thread nD τ).loc b), ((c : Thread nD τ).loc b) ↦{fullShare} f)

theorem any_eq {sp : Space} {s : Shape} {e : EltTy} (M : Memref sig .tc sp s e) (I : Finset (Idx (M.view.loc (c : Thread nD τ)))) (h : M.view.set = I)
    (f : Buf (Elt F) (M.view.loc (c : Thread nD τ))) :
    (M.view.loc (c : Thread nD τ) ↦[I]{fullShare} f : sProp 𝕄) ⊢ any c M := by
  subst h; iintro H; iexists f; iexact H
theorem eq_any {sp : Space} {s : Shape} {e : EltTy} (M : Memref sig .tc sp s e) (I : Finset (Idx (M.view.loc (c : Thread nD τ)))) (h : M.view.set = I) :
    (any c M : sProp 𝕄) ⊢ iprop(∃ f : Buf (Elt F) (M.view.loc (c : Thread nD τ)), M.view.loc (c : Thread nD τ) ↦[I]{fullShare} f) := by
  subst h; exact .rfl
/-- A block at values read from contents is a block of these contents. -/
theorem holds_eq {sp : Space} {s : Shape} {e : EltTy} (M : Memref sig .tc sp s e) (I : Finset (Idx (M.view.loc (c : Thread nD τ)))) (h : M.view.set = I)
    (g : Buf (Elt F) (M.view.loc (c : Thread nD τ))) (v : s.Idx → Elt F e) (hv : M.view.read (Elt F) g = v) :
    (holds c M v : sProp 𝕄) = (M.view.loc (c : Thread nD τ) ↦[I]{fullShare} g) := by
  subst h hv
  exact (pointsTo_rep (c : Thread nD τ) M g fullShare).symm

theorem co_split : (anyB c main_v3_0 : sProp 𝕄) ⊢ bigSep Finset.univ (fun q => any c (coT q)) :=
  split_any (ℓ := (c : Thread nD τ).loc main_v3_0) tI tI_disjoint tI_cover _ (fun q f => any_eq c (coT q) (tI q) (coT_set q) f)
theorem cc_split : (anyB c main_v3_1 : sProp 𝕄) ⊢ bigSep Finset.univ (fun q => any c (ccT q)) :=
  split_any (ℓ := (c : Thread nD τ).loc main_v3_1) tI tI_disjoint tI_cover _ (fun q f => any_eq c (ccT q) (tI q) (ccT_set q) f)
theorem cs_split : (anyB c main_v3_2 : sProp 𝕄) ⊢ bigSep Finset.univ (fun q => any c (csT q)) :=
  split_any (ℓ := (c : Thread nD τ).loc main_v3_2) pI pI_disjoint pI_cover _ (fun q f => any_eq c (csT q) (pI q) (csT_set q) f)
theorem ring_split : (anyB c cc0_scratch0 : sProp 𝕄) ⊢ bigSep Finset.univ (fun q => any c (rS q)) :=
  split_any (ℓ := (c : Thread nD τ).loc cc0_scratch0) rI rI_disjoint rI_cover _ (fun q f => any_eq c (rS q) (rI q) (rS_set q) f)
theorem cst_split : (anyB c cc0_scratch1 : sProp 𝕄) ⊢ bigSep Finset.univ (fun q => any c (kS q)) :=
  split_any (ℓ := (c : Thread nD τ).loc cc0_scratch1) kI kI_disjoint kI_cover _ (fun q f => any_eq c (kS q) (kI q) (kS_set q) f)
theorem csst_split : (anyB c cc0_scratch2 : sProp 𝕄) ⊢ bigSep Finset.univ (fun q => any c (sS q)) :=
  split_any (ℓ := (c : Thread nD τ).loc cc0_scratch2) sI sI_disjoint sI_cover _ (fun q f => any_eq c (sS q) (sI q) (sS_set q) f)
def junk {s : Shape} {e : EltTy} : s.Idx → Elt F e := fun _ => Classical.choice inferInstance
theorem ring_join : bigSep Finset.univ (fun q => any c (rS q)) ⊢ (anyB c cc0_scratch0 : sProp 𝕄) :=
  join_any (ℓ := (c : Thread nD τ).loc cc0_scratch0) rI rI_disjoint rI_cover _ (fun q => eq_any c (rS q) (rI q) (rS_set q)) (junk (F := F) (s := S42x1024x256) (e := .f32))
theorem cst_join : bigSep Finset.univ (fun q => any c (kS q)) ⊢ (anyB c cc0_scratch1 : sProp 𝕄) :=
  join_any (ℓ := (c : Thread nD τ).loc cc0_scratch1) kI kI_disjoint kI_cover _ (fun q => eq_any c (kS q) (kI q) (kS_set q)) (junk (F := F) (s := S4x1024x256) (e := .fp8e4m3))
theorem csst_join : bigSep Finset.univ (fun q => any c (sS q)) ⊢ (anyB c cc0_scratch2 : sProp 𝕄) :=
  join_any (ℓ := (c : Thread nD τ).loc cc0_scratch2) sI sI_disjoint sI_cover _ (fun q => eq_any c (sS q) (sI q) (sS_set q)) (junk (F := F) (s := S2x256x256) (e := .f32))

theorem home_blocks (X : Buf (Elt F) (cM.view.loc (c : Thread nD τ))) :
    bigSep Finset.univ (homeP c X) = (((c : Thread nD τ).loc main_arg2) ↦{fullShare} X : sProp 𝕄) :=
  blocks_eq (ℓ := (c : Thread nD τ).loc main_arg2) tI tI_disjoint tI_cover _ X (fun q => congrArg (fun S => (_ ↦[S]{fullShare} X : sProp 𝕄)) (cT_set q))
theorem co_glue (A : Fin 512 → S1024x256.Idx → Elt F .f32) :
    bigSep Finset.univ (fun q => holds c (coT q) (A q)) = (((c : Thread nD τ).loc main_v3_0) ↦{fullShare} glueT A : sProp 𝕄) :=
  blocks_eq (ℓ := (c : Thread nD τ).loc main_v3_0) tI tI_disjoint tI_cover _ (glueT A)
    (fun q => holds_eq c (coT q) (tI q) (coT_set q) (glueT A) (A q) (funext fun y => glueT_at A q y))
theorem cc_glue (A : Fin 512 → S1024x256.Idx → Elt F .fp8e4m3) :
    bigSep Finset.univ (fun q => holds c (ccT q) (A q)) = (((c : Thread nD τ).loc main_v3_1) ↦{fullShare} glueT A : sProp 𝕄) :=
  blocks_eq (ℓ := (c : Thread nD τ).loc main_v3_1) tI tI_disjoint tI_cover _ (glueT A)
    (fun q => holds_eq c (ccT q) (tI q) (ccT_set q) (glueT A) (A q) (funext fun y => glueT_at A q y))
theorem cs_glue (A : Fin 16 → S256x256.Idx → Elt F .f32) :
    bigSep Finset.univ (fun q => holds c (csT q) (A q)) = (((c : Thread nD τ).loc main_v3_2) ↦{fullShare} glueS A : sProp 𝕄) :=
  blocks_eq (ℓ := (c : Thread nD τ).loc main_v3_2) pI pI_disjoint pI_cover _ (glueS A)
    (fun q => holds_eq c (csT q) (pI q) (csT_set q) (glueS A) (A q) (funext fun y => glueS_at A q y))

/-! ## The kernel's semaphores -/

abbrev KSem : Type := (Fin 42 ⊕ Fin 42) ⊕ (Fin 4 ⊕ Fin 2)
abbrev osem : KSem → SemLoc sig := Sum.elim (Sum.elim (fun s => .dma (mI s).sem) (fun s => .dma (mO s).sem)) (Sum.elim (fun s => .dma (mC s).sem) (fun s => .dma (mS s).sem))
theorem ownSemFacts : Pipeline.OwnSemFacts spec0 osem := by decide +kernel
theorem ownSems0_eq : (Pipeline.ownSems0 (Ix := Unit) (Name := ℕ) (U := UU nD τ) (Lvl := ℕ) (Val := Elt F) (τ := τ) osem c : sProp 𝕄)
    = iprop((bigSep Finset.univ (fun s => cellP c (mI s)) ∗ bigSep Finset.univ (fun s => cellP c (mO s))) ∗ bigSep Finset.univ (fun s => cellP c (mC s)) ∗ bigSep Finset.univ (fun s => cellP c (mS s))) := by
  unfold Pipeline.ownSems0
  rw [bigSep_univ_sum, bigSep_univ_sum, bigSep_univ_sum]
  rfl

/-! ## In and out -/

variable (X : Buf (Elt F) (cM.view.loc (c : Thread nD τ))) (NT : Fin 512 → S1024x256.Idx → Elt F .f32) (KC : Fin 512 → S1024x256.Idx → Elt F .fp8e4m3)
  (SC : Fin 16 → S256x256.Idx → Elt F .f32)

/-- The ring's slots not yet used when `ns` tiles were asked for. -/
def slackR (ns : ℕ) : sProp 𝕄 := bigSep Finset.univ (fun s : Fin 42 => if ns ≤ s.val then freeR c s else iprop(emp))

/-- The kernel's buffers and semaphores, at the start. -/
theorem enter : iprop((((c : Thread nD τ).loc main_arg2) ↦{fullShare} X) ∗ anyB c main_v3_0 ∗ anyB c main_v3_1 ∗ anyB c main_v3_2
      ∗ anyB c cc0_scratch0 ∗ anyB c cc0_scratch1 ∗ anyB c cc0_scratch2
      ∗ Pipeline.ownSems0 (Ix := Unit) (Name := ℕ) (U := UU nD τ) (Lvl := ℕ) (Val := Elt F) (τ := τ) osem c)
    ⊢ (iprop((ringP c X NT 0 0 0 0 0 ∗ slackR c 0) ∗ codesP c KC 0 0 0 ∗ scalesP c SC 0 0 0) : sProp 𝕄) := by
  rw [ownSems0_eq, ← home_blocks]
  iintro ⟨HX, Hco, Hcc, Hcs, Hr, Hk, Hs, ⟨HI, HO⟩, HC, HS⟩
  ihave Hco := (co_split c) $$ Hco
  ihave Hcc := (cc_split c) $$ Hcc
  ihave Hcs := (cs_split c) $$ Hcs
  ihave Hr := (ring_split c) $$ Hr
  ihave Hk := (cst_split c) $$ Hk
  ihave Hs := (csst_split c) $$ Hs
  have e1 : (ringP c X NT 0 0 0 0 0 : sProp 𝕄) = bigSep Finset.univ (fun q => iprop(homeP c X q ∗ any c (coT q))) :=
    bigSep_congr fun q _ => by unfold tileP; simp only [Nat.not_lt_zero, if_false]
  have e2 : (slackR c 0 : sProp 𝕄) = bigSep Finset.univ (fun s => iprop(any c (rS s) ∗ cellP c (mI s) ∗ cellP c (mO s))) :=
    bigSep_congr fun q _ => if_pos (Nat.zero_le _)
  have e3 : (bigSep Finset.univ (codeP c KC 0 0 0) : sProp 𝕄) = bigSep Finset.univ (fun q => any c (ccT q)) :=
    bigSep_congr fun q _ => by unfold codeP; simp only [Nat.not_lt_zero, if_false]
  have e4 : (slackK c 0 : sProp 𝕄) = bigSep Finset.univ (fun s => iprop(any c (kS s) ∗ cellP c (mC s))) :=
    bigSep_congr fun q _ => if_pos (Nat.zero_le _)
  have e5 : (bigSep Finset.univ (panelP c SC 0 0 0) : sProp 𝕄) = bigSep Finset.univ (fun q => any c (csT q)) :=
    bigSep_congr fun q _ => by unfold panelP; simp only [Nat.not_lt_zero, if_false]
  have e6 : (slackS c 0 : sProp 𝕄) = bigSep Finset.univ (fun s => iprop(any c (sS s) ∗ cellP c (mS s))) :=
    bigSep_congr fun q _ => if_pos (Nat.zero_le _)
  unfold codesP scalesP
  rw [e1, e2, e3, e4, e5, e6, bigSep_sep', bigSep_sep', bigSep_sep', bigSep_sep', bigSep_sep']
  isplitl [HX Hco Hr HI HO]
  · isplitl [HX Hco]
    · isplitl [HX]; · iexact HX
      iexact Hco
    isplitl [Hr]; · iexact Hr
    isplitl [HI]; · iexact HI
    iexact HO
  isplitl [Hcc Hk HC]
  · isplitl [Hcc]; · iexact Hcc
    isplitl [Hk]; · iexact Hk
    iexact HC
  isplitl [Hcs]; · iexact Hcs
  isplitl [Hs]; · iexact Hs
  iexact HS

/-- What the last tiles left in the slots is every slot. -/
theorem last_slots {n m : ℕ} (P : Fin m → sProp 𝕄) (f : Fin n → Fin m) (p : Fin n → Prop) [DecidablePred p]
    (hf : Set.InjOn f (Finset.univ.filter p)) (hs : (Finset.univ.filter p).image f = Finset.univ) :
    bigSep Finset.univ (fun q => if p q then P (f q) else iprop(emp)) = bigSep Finset.univ P := by
  rw [← hs, bigSep_image_of_injOn hf]
  exact (bigSep_filter Finset.univ p (fun q => P (f q))).symm

/-- The kernel's buffers and semaphores, at the end. -/
theorem leave : iprop(ringP c X NT 512 512 512 512 512 ∗ codesP c KC 512 512 512 ∗ scalesP c SC 16 16 16)
    ⊢ (iprop((((c : Thread nD τ).loc main_arg2) ↦{fullShare} X) ∗ (((c : Thread nD τ).loc main_v3_0) ↦{fullShare} glueT NT)
      ∗ (((c : Thread nD τ).loc main_v3_1) ↦{fullShare} glueT KC) ∗ (((c : Thread nD τ).loc main_v3_2) ↦{fullShare} glueS SC)
      ∗ anyB c cc0_scratch0 ∗ anyB c cc0_scratch1 ∗ anyB c cc0_scratch2
      ∗ Pipeline.ownSems0 (Ix := Unit) (Name := ℕ) (U := UU nD τ) (Lvl := ℕ) (Val := Elt F) (τ := τ) osem c) : sProp 𝕄) := by
  rw [ownSems0_eq, ← home_blocks, ← co_glue, ← cc_glue, ← cs_glue]
  have e1 : (ringP c X NT 512 512 512 512 512 : sProp 𝕄)
      = bigSep Finset.univ (fun q => iprop(homeP c X q ∗ holds c (coT q) (NT q) ∗ (if 512 ≤ q.val + 42 then freeR c (sq q) else iprop(emp)))) :=
    bigSep_congr fun q _ => by unfold tileP; rw [if_pos q.isLt]
  have e3 : (bigSep Finset.univ (codeP c KC 512 512 512) : sProp 𝕄)
      = bigSep Finset.univ (fun q => iprop(holds c (ccT q) (KC q) ∗ (if 512 ≤ q.val + 4 then freeK c (sk q) else iprop(emp)))) :=
    bigSep_congr fun q _ => by unfold codeP; rw [if_pos q.isLt]
  have e5 : (bigSep Finset.univ (panelP c SC 16 16 16) : sProp 𝕄)
      = bigSep Finset.univ (fun q => iprop(holds c (csT q) (SC q) ∗ (if 16 ≤ q.val + 2 then freeS c (ss q) else iprop(emp)))) :=
    bigSep_congr fun q _ => by unfold panelP; rw [if_pos q.isLt]
  unfold codesP scalesP
  have l1 := last_slots (freeR (F := F) c) sq (fun q => 512 ≤ q.val + 42)
    (fun a ha b hb e => by
      have ha := (Finset.mem_filter.1 ha).2
      have hb := (Finset.mem_filter.1 hb).2
      have e : a.val % 42 = b.val % 42 := congrArg Fin.val e
      exact Fin.ext (by omega))
    (Finset.eq_univ_of_forall fun s => Finset.mem_image.2 ⟨⟨470 + (s.val + 34) % 42, by omega⟩, Finset.mem_filter.2 ⟨Finset.mem_univ _, by show 512 ≤ 470 + (s.val + 34) % 42 + 42; omega⟩,
      Fin.ext (by show (470 + (s.val + 34) % 42) % 42 = s.val; omega)⟩)
  have l3 := last_slots (freeK (F := F) c) sk (fun q => 512 ≤ q.val + 4)
    (fun a ha b hb e => by
      have ha := (Finset.mem_filter.1 ha).2
      have hb := (Finset.mem_filter.1 hb).2
      have e : a.val % 4 = b.val % 4 := congrArg Fin.val e
      exact Fin.ext (by omega))
    (Finset.eq_univ_of_forall fun s => Finset.mem_image.2 ⟨⟨508 + s.val, by omega⟩, Finset.mem_filter.2 ⟨Finset.mem_univ _, by show 512 ≤ 508 + s.val + 4; omega⟩,
      Fin.ext (by show (508 + s.val) % 4 = s.val; omega)⟩)
  have l5 := last_slots (freeS (F := F) c) ss (fun q => 16 ≤ q.val + 2)
    (fun a ha b hb e => by
      have ha := (Finset.mem_filter.1 ha).2
      have hb := (Finset.mem_filter.1 hb).2
      have e : a.val % 2 = b.val % 2 := congrArg Fin.val e
      exact Fin.ext (by omega))
    (Finset.eq_univ_of_forall fun s => Finset.mem_image.2 ⟨⟨14 + s.val, by omega⟩, Finset.mem_filter.2 ⟨Finset.mem_univ _, by show 16 ≤ 14 + s.val + 2; omega⟩,
      Fin.ext (by show (14 + s.val) % 2 = s.val; omega)⟩)
  rw [e1, e3, e5, bigSep_sep', bigSep_sep', bigSep_sep', bigSep_sep', l1, l3, l5, bigSep_sep', bigSep_sep', bigSep_sep', bigSep_sep']
  iintro ⟨⟨HX, Hco, Hr, HI, HO⟩, ⟨⟨Hcc, Hk, HC⟩, -⟩, ⟨Hcs, Hs, HS⟩, -⟩
  isplitl [HX]; · iexact HX
  isplitl [Hco]; · iexact Hco
  isplitl [Hcc]; · iexact Hcc
  isplitl [Hcs]; · iexact Hcs
  isplitl [Hr]; · iapply (ring_join c); iexact Hr
  isplitl [Hk]; · iapply (cst_join c); iexact Hk
  isplitl [Hs]; · iapply (csst_join c); iexact Hs
  isplitl [HI HO]
  · isplitl [HI]; · iexact HI
    iexact HO
  isplitl [HC]; · iexact HC
  iexact HS

end

end Cert.Proof.Sweep

end
-- ==== Proof.Whole.lean ====
/- The kernel's body: the first tiles asked for, the sweeps, the last waits. -/
module

public import proofs.«01_k».proof.Proof.Outer
public import proofs.«01_k».proof.Proof.Split

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD) (X : Buf (Elt F) (cM.view.loc (c : Thread nD τ)))
  (vw : S32768x128.Idx → Elt F .bf16) (vt : S112x32768.Idx → Elt F .bf16) (tt : S128x128.Idx → Elt F .f32)
  (NT : Fin 512 → S1024x256.Idx → Elt F .f32) (KC : Fin 512 → S1024x256.Idx → Elt F .fp8e4m3) (SC : Fin 16 → S256x256.Idx → Elt F .f32)
  (arg0 : Memref sig .tc .vmem S32768x128 .bf16) (harg0 : arg0.IsWhole) (arg1 : Memref sig .tc .vmem S112x32768 .bf16) (harg1 : arg1.IsWhole)
  (arg2 : Memref sig .tc .vmem S128x128 .f32) (harg2 : arg2.IsWhole) (arg7 : Memref sig .tc .vmem S112x4096 .fp8e4m3) (harg7 : arg7.IsWhole)
  (arg8 : Memref sig .tc .vmem S1x4096 .f32) (harg8 : arg8.IsWhole)

abbrev TB1 : T1 → Unit → P1 (F := F) :=
  k0_t1_body arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8
abbrev PA : P1 (F := F) :=
  k0_part23 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8
abbrev PB : P1 (F := F) :=
  k0_part24 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8
abbrev KB : P1 (F := F) :=
  cc0_householder_fp8 arg0 harg0 arg1 harg1 arg2 harg2 cM (Memref.isWhole_whole _) coM (Memref.isWhole_whole _) ccM (Memref.isWhole_whole _) csM (Memref.isWhole_whole _)
    arg7 harg7 arg8 harg8 ringM (Memref.isWhole_whole _) cstM (Memref.isWhole_whole _) csstM (Memref.isWhole_whole _) wM (Memref.isWhole_whole _) ywM (Memref.isWhole_whole _)
    cc0_scratch5 cc0_scratch6 cc0_scratch7 cc0_scratch8

/-- One more tile is asked for at the start. -/
theorem first_step (n : ℕ) (h : n < 42) (q : Fin 512) (hq : q.val = n) :
    ∃ Z Z' : sProp 𝕄, ringP c X NT n 0 0 0 0 = iprop((homeP c X q ∗ any c (coT q)) ∗ Z) ∧ ringP c X NT (n + 1) 0 0 0 0 = iprop((fI c X q ∗ any c (coT q) ∗ cellP c (mO (sq q))) ∗ Z)
      ∧ slackR c n = iprop(freeR c (sq q) ∗ Z') ∧ slackR c (n + 1) = iprop(emp ∗ Z') := by
  obtain ⟨Z, h1, h2⟩ := bigSep_step1 (tileP c X NT n 0 0 0 0) (tileP c X NT (n + 1) 0 0 0 0) q (fun r hr => by
    have : r.val ≠ n := fun e => hr (Fin.ext (e.trans hq.symm))
    unfold tileP
    simp only [Nat.not_lt_zero, if_false]
    by_cases h1 : r.val < n
    · rw [if_pos h1, if_pos (show r.val < n + 1 by omega)]
    · rw [if_neg h1, if_neg (show ¬ r.val < n + 1 by omega)])
  have hs : (sq q).val = n := by show q.val % 42 = n; omega
  obtain ⟨Z', h3, h4⟩ := bigSep_step1 (fun s : Fin 42 => if n ≤ s.val then freeR (F := F) c s else iprop(emp)) (fun s : Fin 42 => if n + 1 ≤ s.val then freeR (F := F) c s else iprop(emp)) (sq q) (fun r hr => by
    have : r.val ≠ n := fun e => hr (Fin.ext (e.trans hs.symm))
    by_cases h1 : n ≤ r.val
    · rw [if_pos h1, if_pos (show n + 1 ≤ r.val by omega)]
    · rw [if_neg h1, if_neg (show ¬ n + 1 ≤ r.val by omega)])
  refine ⟨Z, Z', h1.trans ?_, h2.trans ?_, h3.trans ?_, h4.trans ?_⟩
  · unfold tileP; simp only [Nat.not_lt_zero, if_false]; rw [if_neg (by omega)]
  · unfold tileP; simp only [Nat.not_lt_zero, if_false]; rw [if_pos (by omega)]
  · rw [if_pos hs.ge]
  · rw [if_neg (by omega)]

theorem t1_step (q : T1) :
    iprop(ringP c X NT q.val 0 0 0 0 ∗ slackR c q.val ∗ owesP c)
    ⊢ wp frame (wpE (defs₀ (F := F)) 𝒱₀ (c : Thread nD τ) none) Set.univ (TB1 arg0 harg0 arg1 harg1 arg2 harg2 arg7 harg7 arg8 harg8 q ())
        (fun _ => iprop(ringP c X NT (q.val + 1) 0 0 0 0 ∗ slackR c (q.val + 1) ∗ owesP c)) := by
  have hq : q.val < 42 := lt_of_lt_of_eq q.isLt trips1
  have ht : q.val < 512 := by omega
  obtain ⟨Z, Z', e1, e2, e3, e4⟩ := first_step c X NT q.val hq (tl q.val) (Ring.bk_val ht)
  have hs : sq (tl q.val) = sl42 q.val := by unfold sq; rw [Ring.bk_val ht]
  dsimp only [fI, freeR] at e1 e2 e3; rw [hs] at e2 e3
  rw [e1, e2, e3, e4]
  unfold TB1 k0_t1_body
  iintro ⟨⟨⟨HH, HO⟩, HZ⟩, ⟨⟨⟨%f, HS⟩, HC, HC'⟩, HZ'⟩, ⟨%W, HW⟩⟩
  sl_exec
  sl_step
  isplitr [HZ' HW]
  · isplitr [HZ]
    · isplitl [HC]
      · iapply (Transfers.Flight_mono countersEmb (c : Thread nD τ) (sep_mono (holds_of_copy c (rS (sl42 q.val)) f _ _ rfl) .rfl))
        iexact HC
      isplitl [HO]; · iexact HO
      iexact HC'
    iexact HZ
  isplitl [HZ']
  · isplitr; · iempintro
    iexact HZ'
  iexists _; iexact HW

/-- The last codes, tiles and scales, taken apart to be waited for. -/
theorem codes_pull (n : ℕ) (h : 508 ≤ n) (h2 : n < 512) (q : Fin 512) (hq : q.val = n) (s : Fin 4) (hs : sk q = s) :
    (codesP c KC 512 512 n : sProp 𝕄) ⊢ iprop(Transfers.Flight countersEmb (c : Thread nD τ) (SemLoc.dma (mC s).sem) () 8192 iprop(holds c (ccT q) (KC q) ∗ holds c (kS s) (KC q))
      ∗ ((holds c (ccT q) (KC q) ∗ any c (kS s) ∗ cellP c (mC s)) -∗ codesP c KC 512 512 (n + 1))) := by
  obtain ⟨Z, e1, e2⟩ := codes_out c KC 512 512 n h2 (by omega) q hq
  dsimp only [fK, freeK] at e1 e2
  rw [hs] at e1 e2
  rw [e1, e2]
  iintro ⟨⟨HF, HZ⟩, HS⟩
  isplitl [HF]; · iexact HF
  iintro HP
  isplitr [HS]
  · isplitl [HP]; · iexact HP
    iexact HZ
  iexact HS
theorem ring_pull (n : ℕ) (h : 508 ≤ n) (h2 : n < 512) (q : Fin 512) (hq : q.val = n) (s : Fin 42) (hs : sq q = s) :
    (ringP c X NT 512 512 512 512 n : sProp 𝕄) ⊢ iprop(Transfers.Flight countersEmb (c : Thread nD τ) (SemLoc.dma (mO s).sem) () 32768 iprop(holds c (coT q) (NT q) ∗ holds c (rS s) (NT q))
      ∗ ((holds c (coT q) (NT q) ∗ any c (rS s) ∗ cellP c (mO s)) -∗ ringP c X NT 512 512 512 512 (n + 1))) := by
  obtain ⟨Z, e1, e2⟩ := ring_out c X NT 512 512 512 512 n h2 (by omega) q hq
  dsimp only [fO, freeR] at e1 e2
  rw [hs] at e1 e2
  rw [e1, e2]
  iintro ⟨⟨HH, HF, HC⟩, HZ⟩
  isplitl [HF]; · iexact HF
  iintro ⟨HP, HA, HC'⟩
  isplitr [HZ]
  · isplitl [HH]; · iexact HH
    isplitl [HP]; · iexact HP
    isplitl [HA]; · iexact HA
    isplitl [HC]; · iexact HC
    iexact HC'
  iexact HZ
theorem scales_pull :
    (scalesP c SC 16 16 15 : sProp 𝕄) ⊢ iprop(Transfers.Flight countersEmb (c : Thread nD τ) (SemLoc.dma (mS 1).sem) () 8192 iprop(holds c (csT 15) (SC 15) ∗ holds c (sS 1) (SC 15))
      ∗ ((holds c (csT 15) (SC 15) ∗ any c (sS 1) ∗ cellP c (mS 1)) -∗ scalesP c SC 16 16 16)) := by
  obtain ⟨Z, e1, e2⟩ := scales_out c SC 16 16 15 (by omega) (by omega) 15 rfl
  dsimp only [fS, freeS] at e1 e2
  rw [show ss 15 = 1 by decide] at e1 e2
  rw [e1, e2]
  iintro ⟨⟨HF, HZ⟩, HS⟩
  isplitl [HF]; · iexact HF
  iintro HP
  isplitr [HS]
  · isplitl [HP]; · iexact HP
    iexact HZ
  iexact HS

/-- The rest of the body after the first part's codes, the second part. -/
theorem partB_wp (Q : Unit → sProp 𝕄) :
    iprop(codesP c KC 512 512 511 ∗ ringP c X NT 512 512 512 512 508 ∗ owesP c
      ∗ ((codesP c KC 512 512 512 ∗ ringP c X NT 512 512 512 512 512 ∗ owesP c) -∗ Q ()))
    ⊢ wp frame (wpE (defs₀ (F := F)) 𝒱₀ (c : Thread nD τ) none) Set.univ (PB arg0 harg0 arg1 harg1 arg2 harg2 arg7 harg7 arg8 harg8) Q := by
  unfold PB
  rw [k0_part24_eq_skeleton]; unfold k0_part24_skel
  iintro ⟨HK, HR, ⟨%W, HW⟩, Hk⟩
  icases (codes_pull c KC 511 (by omega) (by omega) 511 rfl 3 (by decide)) $$ HK with ⟨HF, Hf⟩
  icases (ring_pull c X NT 508 (by omega) (by omega) 508 rfl 4 (by decide)) $$ HR with ⟨HG, Hg⟩
  sl_exec
  ispecialize Hg $$ [HG_dst HG_src HG]
  · isplitl [HG_dst]; · iexact HG_dst
    isplitl [HG_src]; · iexists _; iexact HG_src
    iexact HG
  icases (ring_pull c X NT 509 (by omega) (by omega) 509 rfl 5 (by decide)) $$ Hg with ⟨HG, Hg⟩
  sl_exec
  ispecialize Hg $$ [HG_dst HG_src HG]
  · isplitl [HG_dst]; · iexact HG_dst
    isplitl [HG_src]; · iexists _; iexact HG_src
    iexact HG
  icases (ring_pull c X NT 510 (by omega) (by omega) 510 rfl 6 (by decide)) $$ Hg with ⟨HG, Hg⟩
  sl_exec
  ispecialize Hg $$ [HG_dst HG_src HG]
  · isplitl [HG_dst]; · iexact HG_dst
    isplitl [HG_src]; · iexists _; iexact HG_src
    iexact HG
  icases (ring_pull c X NT 511 (by omega) (by omega) 511 rfl 7 (by decide)) $$ Hg with ⟨HG, Hg⟩
  sl_exec
  sl_step
  iapply Hk
  isplitl [HF_dst HF_src HF Hf]
  · iapply Hf
    isplitl [HF_dst]; · iexact HF_dst
    isplitl [HF_src]; · iexists _; iexact HF_src
    iexact HF
  isplitl [HG_dst HG_src HG Hg]
  · iapply Hg
    isplitl [HG_dst]; · iexact HG_dst
    isplitl [HG_src]; · iexists _; iexact HG_src
    iexact HG
  iexists _; iexact HW

/-- The first part: tiles are asked for, the coefficients cleared, the sweeps run, the last codes waited for. -/
theorem partA_wp (Q : Unit → sProp 𝕄) :
    iprop((ringP c X (NTv c X vw vt tt) 0 0 0 0 0 ∗ slackR c 0) ∗ codesP c (KCv c X) 0 0 0 ∗ scalesP c (SCv c X) 0 0 0 ∗ (∃ w, holds c wM w) ∗ (∃ y, holds c ywM y)
      ∗ holds c arg0 vw ∗ holds c arg1 vt ∗ holds c arg2 tt ∗ (∃ a, holds c arg7 a) ∗ (∃ b, holds c arg8 b) ∗ owesP c
      ∗ ((codesP c (KCv c X) 512 512 511 ∗ ringP c X (NTv c X vw vt tt) 512 512 512 512 508 ∗ scalesP c (SCv c X) 16 16 15 ∗ (∃ w, holds c wM w) ∗ (∃ y, holds c ywM y)
        ∗ holds c arg0 vw ∗ holds c arg1 vt ∗ holds c arg2 tt ∗ outP c X vt tt arg7 arg8 16 ∗ owesP c) -∗ Q ()))
    ⊢ wp frame (wpE (defs₀ (F := F)) 𝒱₀ (c : Thread nD τ) none) Set.univ (PA arg0 harg0 arg1 harg1 arg2 harg2 arg7 harg7 arg8 harg8) Q := by
  unfold PA
  rw [k0_part23_eq_skeleton]; unfold k0_part23_skel
  have hL1 := fun (kk : Unit → P1 (F := F)) => loop_wp c k0_t1_loop k0_t1_ok (TB1 arg0 harg0 arg1 harg1 arg2 harg2 arg7 harg7 arg8 harg8)
    (fun n => iprop(ringP c X (NTv c X vw vt tt) n 0 0 0 0 ∗ slackR c n ∗ owesP c)) kk Q
    (t1_step c X (NTv c X vw vt tt) arg0 harg0 arg1 harg1 arg2 harg2 arg7 harg7 arg8 harg8)
  have hL2 := fun (kk : Unit → P1 (F := F)) => loop_wp c k0_t2_loop k0_t2_ok (TB2 arg0 harg0 arg1 harg1 arg2 harg2 arg7 harg7 arg8 harg8)
    (fun i => inv2 c X vw vt tt arg0 arg1 arg2 arg7 arg8 i) kk Q
    (t2_step c X vw vt tt arg0 harg0 arg1 harg1 arg2 harg2 arg7 harg7 arg8 harg8)
  rw [trips1] at hL1
  rw [trips2] at hL2
  iintro ⟨⟨HR, HL⟩, HK, HS, HWM, ⟨%y, HY⟩, H0, H1, H2, ⟨%a, H7⟩, ⟨%b, H8⟩, HO, Hk⟩
  iapply (hL1 _)
  isplitl [HR HL HO]
  · isplitl [HR]; · iexact HR
    isplitl [HL]; · iexact HL
    iexact HO
  iintro ⟨HR, HL, HO⟩
  sl_exec
  iapply (hL2 _)
  isplitr [Hk]
  · unfold inv2 outP
    icases HWM with ⟨%w, HWM⟩
    isplitl [HR]; · iexact HR
    isplitl [HK]; · iexact HK
    isplitl [HS]; · iexact HS
    isplitl [HWM]
    · iexists w
      isplitl [HWM]; · iexact HWM
      ipureintro
      exact fun h => absurd h (by omega)
    isplitl [HY]
    · iapply (pointsTo_rep_of_read (c : Thread nD τ) ywM _ _ _ (View.read_writes_full ywM.view _ _ _ _))
      iexact HY
    isplitl [H0]; · iexact H0
    isplitl [H1]; · iexact H1
    isplitl [H2]; · iexact H2
    isplitl [H7 H8]
    · isplitl [H7]
      · iexists a
        isplitl [H7]; · iexact H7
        ipureintro
        exact fun z h => absurd h (by omega)
      iexists b
      isplitl [H8]; · iexact H8
      ipureintro
      exact fun z h => absurd h (by omega)
    iexact HO
  unfold inv2
  rw [show min (17 * 32) 512 = 512 from rfl, show min (17 * 32 - 1) 512 = 512 from rfl, show min (17 * 32 - 4) 508 = 508 from rfl]
  iintro ⟨HR, HK, HS, ⟨%w, HWM, -⟩, HY, H0, H1, H2, HP, ⟨%W, HW⟩⟩
  icases (codes_pull c (KCv c X) 508 (by omega) (by omega) 508 rfl 0 (by decide)) $$ HK with ⟨HF, Hf⟩
  sl_exec
  ispecialize Hf $$ [HF_dst HF_src HF]
  · isplitl [HF_dst]; · iexact HF_dst
    isplitl [HF_src]; · iexists _; iexact HF_src
    iexact HF
  icases (codes_pull c (KCv c X) 509 (by omega) (by omega) 509 rfl 1 (by decide)) $$ Hf with ⟨HF, Hf⟩
  sl_exec
  ispecialize Hf $$ [HF_dst HF_src HF]
  · isplitl [HF_dst]; · iexact HF_dst
    isplitl [HF_src]; · iexists _; iexact HF_src
    iexact HF
  icases (codes_pull c (KCv c X) 510 (by omega) (by omega) 510 rfl 2 (by decide)) $$ Hf with ⟨HF, Hf⟩
  sl_exec
  sl_step
  iapply Hk
  isplitl [HF_dst HF_src HF Hf]
  · iapply Hf
    isplitl [HF_dst]; · iexact HF_dst
    isplitl [HF_src]; · iexists _; iexact HF_src
    iexact HF
  isplitl [HR]; · iexact HR
  isplitl [HS]; · iexact HS
  isplitl [HWM]; · iexists _; iexact HWM
  isplitl [HY]; · iexists _; iexact HY
  isplitl [H0]; · iexact H0
  isplitl [H1]; · iexact H1
  isplitl [H2]; · iexact H2
  isplitl [HP]; · iexact HP
  iexists _; iexact HW

/-- The whole body. -/
theorem body_wp (Q : Unit → sProp 𝕄) :
    iprop((ringP c X (NTv c X vw vt tt) 0 0 0 0 0 ∗ slackR c 0) ∗ codesP c (KCv c X) 0 0 0 ∗ scalesP c (SCv c X) 0 0 0 ∗ (∃ w, holds c wM w) ∗ (∃ y, holds c ywM y)
      ∗ holds c arg0 vw ∗ holds c arg1 vt ∗ holds c arg2 tt ∗ (∃ a, holds c arg7 a) ∗ (∃ b, holds c arg8 b) ∗ owesP c
      ∗ (((ringP c X (NTv c X vw vt tt) 512 512 512 512 512 ∗ codesP c (KCv c X) 512 512 512 ∗ scalesP c (SCv c X) 16 16 16) ∗ (∃ w, holds c wM w) ∗ (∃ y, holds c ywM y)
        ∗ holds c arg0 vw ∗ holds c arg1 vt ∗ holds c arg2 tt ∗ holds c arg7 (ycV c X vt tt) ∗ holds c arg8 (ysV c X vt tt) ∗ owesP c) -∗ Q ()))
    ⊢ wp frame (wpE (defs₀ (F := F)) 𝒱₀ (c : Thread nD τ) none) Set.univ (KB arg0 harg0 arg1 harg1 arg2 harg2 arg7 harg7 arg8 harg8) Q := by
  unfold KB
  rw [cc0_householder_fp8_eq_skeleton]; unfold cc0_householder_fp8_skel
  rw [wp_bind]
  iintro ⟨HRL, HK, HS, HWM, HY, H0, H1, H2, H7, H8, HO, Hk⟩
  iapply (partA_wp c X vw vt tt arg0 harg0 arg1 harg1 arg2 harg2 arg7 harg7 arg8 harg8 _)
  isplitl [HRL]; · iexact HRL
  isplitl [HK]; · iexact HK
  isplitl [HS]; · iexact HS
  isplitl [HWM]; · iexact HWM
  isplitl [HY]; · iexact HY
  isplitl [H0]; · iexact H0
  isplitl [H1]; · iexact H1
  isplitl [H2]; · iexact H2
  isplitl [H7]; · iexact H7
  isplitl [H8]; · iexact H8
  isplitl [HO]; · iexact HO
  iintro ⟨HK, HR, HS, HWM, HY, H0, H1, H2, HP, HO⟩
  rw [wp_bind]
  iapply (partB_wp c X (NTv c X vw vt tt) (KCv c X) arg0 harg0 arg1 harg1 arg2 harg2 arg7 harg7 arg8 harg8 _)
  isplitl [HK]; · iexact HK
  isplitl [HR]; · iexact HR
  isplitl [HO]; · iexact HO
  iintro ⟨HK, HR, ⟨%W, HW⟩⟩
  icases (scales_pull c (SCv c X)) $$ HS with ⟨HF, Hf⟩
  sl_exec
  sl_step
  iapply Hk
  unfold outP
  icases HP with ⟨⟨%a, H7, %ha⟩, ⟨%b, H8, %hb⟩⟩
  obtain rfl : a = ycV c X vt tt := funext fun z => ha z (by have : (z 1).val < 4096 := (z 1).isLt; omega)
  obtain rfl : b = ysV c X vt tt := funext fun z => hb z (by have : (z 1).val < 4096 := (z 1).isLt; omega)
  isplitl [HR HK HF_dst HF_src HF Hf]
  · isplitl [HR]; · iexact HR
    isplitl [HK]; · iexact HK
    iapply Hf
    isplitl [HF_dst]; · iexact HF_dst
    isplitl [HF_src]; · iexists _; iexact HF_src
    iexact HF
  isplitl [HWM]; · iexact HWM
  isplitl [HY]; · iexact HY
  isplitl [H0]; · iexact H0
  isplitl [H1]; · iexact H1
  isplitl [H2]; · iexact H2
  isplitl [H7]; · iexact H7
  isplitl [H8]; · iexact H8
  iexists _; iexact HW

end

end Cert.Proof.Sweep

end
-- ==== Proof.Run.lean ====
/- The run: the body inside its call, the call inside the program. -/
module

public import proofs.«01_k».proof.Proof.Whole
public import proofs.«01_k».proof.Proof.Gen.KernelIdeal.Frame

@[expose] public section

noncomputable section

namespace Cert.Proof.Sweep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What the call reads: the matrix as launched, and the three arrays the program makes. -/
abbrev XV (c : Dev nD) : Buf (Elt F) (cM.view.loc (c : Thread nD τ)) := V m c main_arg2
abbrev vwV (c : Dev nD) : S32768x128.Idx → Elt F .bf16 := iblk m c 0 t0_0
abbrev vtV (c : Dev nD) : S112x32768.Idx → Elt F .bf16 := iblk m c 1 t0_0
abbrev ttV (c : Dev nD) : S128x128.Idx → Elt F .f32 := iblk m c 2 t0_0
/-- What it leaves. -/
abbrev coV (c : Dev nD) : S32768x4096.Idx → Elt F .f32 := glueT (NTv c (XV m c) (vwV m c) (vtV m c) (ttV m c))
abbrev ccV (c : Dev nD) : S32768x4096.Idx → Elt F .fp8e4m3 := glueT (KCv c (XV m c))
abbrev csV (c : Dev nD) : S256x4096.Idx → Elt F .f32 := glueS (SCv c (XV m c))

abbrev restP (c : Dev nD) : sProp 𝕄 :=
  iprop(anyB c cc0_scratch0 ∗ anyB c cc0_scratch1 ∗ anyB c cc0_scratch2 ∗ anyB c cc0_scratch3 ∗ anyB c cc0_scratch4)
abbrev semsP (c : Dev nD) : sProp 𝕄 := Pipeline.ownSems0 (Ix := Unit) (Name := ℕ) (U := UU nD τ) (Lvl := ℕ) (Val := Elt F) (τ := τ) osem c
def inP (c : Dev nD) : sProp 𝕄 :=
  iprop((((c : Thread nD τ).loc main_arg2) ↦{fullShare} XV m c) ∗ anyB c main_v3_0 ∗ anyB c main_v3_1 ∗ anyB c main_v3_2)
def exP (c : Dev nD) : sProp 𝕄 :=
  iprop((((c : Thread nD τ).loc main_arg2) ↦{fullShare} XV m c) ∗ (((c : Thread nD τ).loc main_v3_0) ↦{fullShare} coV m c)
    ∗ (((c : Thread nD τ).loc main_v3_1) ↦{fullShare} ccV m c) ∗ (((c : Thread nD τ).loc main_v3_2) ↦{fullShare} csV m c))
/-- The region's invariant, before and after its one point. -/
def PhiV (c : Dev nD) (n : ℕ) : sProp 𝕄 := if n = 0 then iprop(inP m c ∗ semsP c ∗ restP c) else iprop(exP m c ∗ semsP c ∗ restP c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ycV c (XV m c) (vtV m c) (ttV m c)
    | ⟨4, _⟩ => ysV c (XV m c) (vtV m c) (ttV m c)
  Φ p := PhiV m c p.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = ycV c (XV m c) (vtV m c) (ttV m c) := by dsimp only [dats]
theorem after_w4 (c : Dev nD) (t : Fin cfg0.N) : (dats m 0 c).after 4 t = ysV c (XV m c) (vtV m c) (ttV m c) := by dsimp only [dats]

abbrev bodyG (a0 : Memref sig .tc .vmem S32768x128 .bf16) (h0 : a0.IsWhole) (a1 : Memref sig .tc .vmem S112x32768 .bf16) (h1 : a1.IsWhole)
    (a2 : Memref sig .tc .vmem S128x128 .f32) (h2 : a2.IsWhole) (a7 : Memref sig .tc .vmem S112x4096 .fp8e4m3) (h7 : a7.IsWhole)
    (a8 : Memref sig .tc .vmem S1x4096 .f32) (h8 : a8.IsWhole) : P1 (F := F) := KB a0 h0 a1 h1 a2 h2 a7 h7 a8 h8
theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) :=
  (congrFun defs_tc _).trans rfl

/-- A whole scratch buffer at some contents, as the body reads it. -/
theorem any_holds (c : Dev nD) {sp : Space} {s : Shape} {e : EltTy} (M : Memref sig .tc sp s e) (h : M.view.set = Finset.univ) :
    (iprop(∃ f : Buf (Elt F) (M.view.loc (c : Thread nD τ)), M.view.loc (c : Thread nD τ) ↦{fullShare} f) : sProp 𝕄) ⊢ iprop(∃ w, holds c M w) := by
  iintro ⟨%f, H⟩
  iexists (M.view.read (Elt F) f)
  iapply (pointsTo_rep_entails (c : Thread nD τ) M f fullShare)
  rw [h]
  iexact H
theorem holds_any (c : Dev nD) {sp : Space} {s : Shape} {e : EltTy} (M : Memref sig .tc sp s e) (h : M.view.set = Finset.univ) :
    (iprop(∃ w, holds c M w) : sProp 𝕄) ⊢ iprop(∃ f : Buf (Elt F) (M.view.loc (c : Thread nD τ)), M.view.loc (c : Thread nD τ) ↦{fullShare} f) := by
  iintro ⟨%w, H⟩
  iexists (M.view.rep w)
  rw [← h]
  iexact H
theorem wM_set : wM.view.set = Finset.univ := View.set_whole _
theorem ywM_set : ywM.view.set = Finset.univ := View.set_whole _

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, after_w0, after_w1, after_w2, after_w3, after_w4]
  rw [show (dats m 0 c).Φ t0_0.castSucc = iprop(inP m c ∗ semsP c ∗ restP c) from rfl, show (dats m 0 c).Φ t0_0.succ = iprop(exP m c ∗ semsP c ∗ restP c) from rfl]
  unfold Dat.owesAt Pipeline.owesWithin
  rw [show (dats m 0 c).owed t0_0.castSucc = 0 from rfl, show (dats m 0 c).owed t0_0.succ = 0 from rfl]
  unfold owns inP exP
  have hin := enter (F := F) c (XV m c) (NTv c (XV m c) (vwV m c) (vtV m c) (ttV m c)) (KCv c (XV m c)) (SCv c (XV m c))
  have hout := leave (F := F) c (XV m c) (NTv c (XV m c) (vwV m c) (vtV m c) (ttV m c)) (KCv c (XV m c)) (SCv c (XV m c))
  iintro ⟨⟨⟨HX, Hco, Hcc, Hcs⟩, HSe, Hr0, Hr1, Hr2, Hr3, Hr4⟩, ⟨%W, -, HW⟩, ⟨%d0, %g0, %hg0, H0⟩, ⟨%d1, %g1, %hg1, H1⟩, ⟨%d2, %g2, %hg2, H2⟩, ⟨%d3, %g3, -, H3⟩, ⟨%d4, %g4, -, H4⟩⟩
  ihave H0 := (pointsTo_rep_entails (c : Thread nD τ) (st0_0 t0_0) g0 fullShare) $$ H0
  ihave H1 := (pointsTo_rep_entails (c : Thread nD τ) (st0_1 t0_0) g1 fullShare) $$ H1
  ihave H2 := (pointsTo_rep_entails (c : Thread nD τ) (st0_2 t0_0) g2 fullShare) $$ H2
  ihave H3 := (pointsTo_rep_entails (c : Thread nD τ) (st0_3 t0_0) g3 fullShare) $$ H3
  ihave H4 := (pointsTo_rep_entails (c : Thread nD τ) (st0_4 t0_0) g4 fullShare) $$ H4
  rw [hg0, hg1, hg2]
  ihave Hr3 := (any_holds c wM wM_set) $$ Hr3
  ihave Hr4 := (any_holds c ywM ywM_set) $$ Hr4
  ihave HE := hin $$ [HX Hco Hcc Hcs Hr0 Hr1 Hr2 HSe]
  · isplitl [HX]; · iexact HX
    isplitl [Hco]; · iexact Hco
    isplitl [Hcc]; · iexact Hcc
    isplitl [Hcs]; · iexact Hcs
    isplitl [Hr0]; · iexact Hr0
    isplitl [Hr1]; · iexact Hr1
    isplitl [Hr2]; · iexact Hr2
    iexact HSe
  icases HE with ⟨HR, HK, HS⟩
  sl_rw [prog_eq t0_0]
  iapply (body_wp c (XV m c) (vwV m c) (vtV m c) (ttV m c) (st0_0 t0_0) (hstage0_0 0) (st0_1 t0_0) (hstage0_1 0) (st0_2 t0_0) (hstage0_2 0) (st0_3 t0_0) (hstage0_3 0) (st0_4 t0_0) (hstage0_4 0) _)
  isplitl [HR]; · iexact HR
  isplitl [HK]; · iexact HK
  isplitl [HS]; · iexact HS
  isplitl [Hr3]; · iexact Hr3
  isplitl [Hr4]; · iexact Hr4
  isplitl [H0]; · iexact H0
  isplitl [H1]; · iexact H1
  isplitl [H2]; · iexact H2
  isplitl [H3]; · iexists _; iexact H3
  isplitl [H4]; · iexists _; iexact H4
  isplitl [HW]; · iexists W; iexact HW
  iintro ⟨HL, Hr3, Hr4, H0, H1, H2, H3, H4, ⟨%W', HW⟩⟩
  ihave HL := hout $$ HL
  icases HL with ⟨HX, Hco, Hcc, Hcs, Hr0, Hr1, Hr2, HSe⟩
  isplitl [HX Hco Hcc Hcs Hr0 Hr1 Hr2 HSe Hr3 Hr4]
  · isplitl [HX Hco Hcc Hcs]
    · isplitl [HX]; · iexact HX
      isplitl [Hco]; · iexact Hco
      isplitl [Hcc]; · iexact Hcc
      iexact Hcs
    isplitl [HSe]; · iexact HSe
    isplitl [Hr0]; · iexact Hr0
    isplitl [Hr1]; · iexact Hr1
    isplitl [Hr2]; · iexact Hr2
    isplitl [Hr3]; · iapply (holds_any c wM wM_set); iexact Hr3
    iapply (holds_any c ywM ywM_set); iexact Hr4
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists _; isplitr; · ipureintro; exact View.read_rep _ _
  iexact H4

/-! ## The program -/

def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_v3_0) = coV m c
  ∧ s.mem ((c : Thread nD τ).loc main_v3_1) = ccV m c ∧ s.mem ((c : Thread nD τ).loc main_v3_2) = csV m c
def QC : PUnit × MemSt nD τ sig (Elt F) → Prop := fun r =>
  ∀ c : Dev nD, (∀ w : Fin cfg0.W, r.2.mem ((cfg0.win w).arr.view.loc (c : Thread nD τ)) = finalA m c w) ∧ QY m c r.2
def asideP (c : Dev nD) : sProp 𝕄 := iprop((((c : Thread nD τ).loc main_arg0) ↦{fullShare} V m c main_arg0) ∗ (((c : Thread nD τ).loc main_arg1) ↦{fullShare} V m c main_arg1))

set_option backward.isDefEq.respectTransparency.types false in
set_option maxHeartbeats 1600000 in
/-- At the compiled mesh, for any float values, from any memory with zero counters: every weakly fair execution of the program
    terminates, and every final state has the results at the computed contents, the arguments unchanged, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
      (by simp only [List.Forall]; exact ⟨hostOps0_fresh, hostOps0_1_fresh, hostOps0_2_fresh, hostOps0_3_fresh⟩) main_chain)
    (hA := fun _ _ => rfl)
    (X := fun c => iprop(inP m c ∗ semsP c)) (Y := exP m) (Z := asideP m)
    (hX := fun c => by
      rw [unscopedRest0_eq]
      unfold inP asideP
      iintro ⟨⟨H0, H1, H2, -, -, -, -, Hco, Hcc, Hcs⟩, HS, -⟩; imodintro
      isplitl [H2 Hco Hcc Hcs HS]
      · isplitl [H2 Hco Hcc Hcs]
        · isplitl [H2]; · iexact H2
          isplitl [Hco]; · iexists _; iexact Hco
          isplitl [Hcc]; · iexists _; iexact Hcc
          iexists _; iexact Hcs
        iexact HS
      isplitl [H0]; · iexact H0
      iexact H1)
    (hin := fun c => by
      rw [scopedRest0_eq, show (dats m 0 c).Φ 0 = iprop(inP m c ∗ semsP c ∗ restP c) from rfl]
      iintro ⟨⟨H0, HS⟩, HR⟩
      isplitl [H0]; · iexact H0
      isplitl [HS]; · iexact HS
      iexact HR)
    (hout := fun c => by
      rw [scopedRest0_eq, show (dats m 0 c).Φ (Fin.last cfg0.N) = iprop(exP m c ∗ semsP c ∗ restP c) from rfl])
    (QY := QY m)
    (hY := fun c s' => by
      unfold exP asideP
      iintro ⟨⟨H2, Hco, Hcc, Hcs⟩, ⟨H0, H1⟩, HSI⟩
      icombine HSI H0 gives %h0
      icombine HSI H1 gives %h1
      icombine HSI H2 gives %h2
      icombine HSI Hco gives %h3
      icombine HSI Hcc gives %h4
      icombine HSI Hcs gives %h5
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), Buf.eq_of_forall_mem_univ h3, Buf.eq_of_forall_mem_univ h4, Buf.eq_of_forall_mem_univ h5⟩
      iexact HSI)
    (hQ := fun _ hh hz => ⟨hh, hz⟩)

/-- The frame: the arguments end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).2.1, (h.1 c).2.2.1, (h.1 c).2.2.2.1⟩, h.2⟩) (run_main m ρ)

end Cert.Proof.Sweep

end
-- ==== Proof.Scale.lean ====
/- The exponent of a block's scale: the kernel's count of thresholds and the reference's exponent give the same words. -/
module

public import proofs.«01_k».proof.Proof.Run
public import Idealize.ShloMosaic.Lib.Pointwise

@[expose] public section

noncomputable section

namespace Cert.Proof.Value

open Idealize.ShloMosaic
open scoped BigOperators

/-- The power of two that is the least normal number, and those above it. -/
def pw (j : ℕ) : EReal := (((2 : ℝ) ^ ((j : ℤ) - 126) : ℝ) : EReal)

/-- The word whose exponent field is `j + 1`. -/
def wd (j : ℕ) : BitVec 32 := (BitVec.ofNat 32 j + 1#32) <<< 23

theorem wd_sign : ∀ j : Fin 255, ((wd j.val).extractLsb' 31 1 == 1#1) = false := by decide +kernel
theorem wd_exp : ∀ j : Fin 255, ((wd j.val).extractLsb' 23 8).toNat = j.val + 1 := by decide +kernel
theorem wd_rest : ∀ j : Fin 255, ((wd j.val).extractLsb' 0 23).toNat = 0 := by decide +kernel

theorem ofBits_eq (b : BitVec 32) : Ideal.ofBits .f32 b = Ideal.ieee 8 23 b := by simp only [Ideal.ofBits]

theorem two23 (k : ℤ) : (1 : ℝ) * ((2 ^ 23 + 0 : ℕ) : ℝ) * (2 : ℝ) ^ (k - 23) = (2 : ℝ) ^ k := by
  have e : ((2 ^ 23 + 0 : ℕ) : ℝ) = (2 : ℝ) ^ (23 : ℤ) := by norm_num
  rw [one_mul, e, ← zpow_add₀ (by norm_num)]
  congr 1
  ring

theorem ieee_pw (b : BitVec 32) (j : ℕ) (hj : j < 254) (h1 : (b.extractLsb' 31 1 == 1#1) = false)
    (h2 : (b.extractLsb' 23 8).toNat = j + 1) (h3 : (b.extractLsb' 0 23).toNat = 0) : Ideal.ieee 8 23 b = pw j := by
  have n1 : ¬ j + 1 = 2 ^ 8 - 1 := by norm_num; omega
  have n2 : ¬ j + 1 = 0 := by omega
  have e : ((j + 1 : ℕ) : ℤ) - (2 ^ (8 - 1) - 1) - (23 : ℕ) = ((j : ℤ) - 126) - 23 := by push_cast; norm_num; ring
  unfold Ideal.ieee
  simp only [Nat.reduceAdd, h1, h2, h3]
  rw [if_neg n1, if_neg n2]
  unfold pw
  refine congrArg _ ?_
  rw [e]
  exact two23 _

/-- The word with exponent field `j + 1` and nothing else is the `j`-th power. -/
theorem ofBits_pw (j : Fin 254) : Ideal.ofBits .f32 (wd j.val) = pw j.val := by
  have h1 := wd_sign ⟨j.val, by omega⟩
  have h2 := wd_exp ⟨j.val, by omega⟩
  have h3 := wd_rest ⟨j.val, by omega⟩
  have hj := j.isLt
  rw [ofBits_eq]
  generalize wd j.val = b at h1 h2 h3
  exact ieee_pw b j.val hj h1 h2 h3

/-- The word with every bit of the exponent field set is infinity. -/
theorem ofBits_top : Ideal.ofBits .f32 (wd 254) = ⊤ := by
  have h1 := wd_sign ⟨254, by omega⟩
  have h2 := wd_exp ⟨254, by omega⟩
  have h3 := wd_rest ⟨254, by omega⟩
  rw [ofBits_eq]
  unfold Ideal.ieee
  dsimp only at h1 h2 h3 ⊢
  rw [h1, h2, h3]
  simp

theorem wd_inf : wd 254 = 0x7F800000#32 := by decide +kernel
theorem wd_least : wd 0 = 0x00800000#32 := by decide +kernel
theorem ofBits_inf : Ideal.ofBits .f32 0x7F800000#32 = ⊤ := by rw [← wd_inf]; exact ofBits_top
theorem ofBits_least : Ideal.ofBits .f32 0x00800000#32 = pw 0 := by rw [← wd_least]; exact ofBits_pw 0

theorem toInt_pos : ∀ j : Fin 254, (BitVec.ofNat 32 j.val - 126#32).toInt = (j.val : ℤ) - 126 := by decide +kernel

/-- Two to the power `j - 126`. -/
theorem exp2_pw (j : Fin 254) : Ideal.exp2 (((BitVec.ofNat 32 j.val - 126#32).toInt : ℝ) : EReal) = pw j.val := by
  rw [toInt_pos j]
  unfold pw
  show ((Real.rpow 2 (((j.val : ℤ) - 126 : ℤ) : ℝ) : ℝ) : EReal) = _
  exact congrArg _ (Real.rpow_intCast 2 _)

theorem pw_mono {i j : ℕ} (h : i ≤ j) : pw i ≤ pw j := by
  unfold pw
  exact EReal.coe_le_coe_iff.mpr (zpow_le_zpow_right₀ (by norm_num) (by omega))

theorem pw_lt_top (j : ℕ) : pw j < ⊤ := EReal.coe_lt_top _

/-- How many of the powers a number has reached. -/
def cnt (t : EReal) : BitVec 32 := Finset.fold IntOp.addi 0#32 (fun j : Fin 254 => if pw j.val ≤ t then 1#32 else 0#32) Finset.univ

/-- The reference's exponent: the power reached, for a normal number; else nought. -/
def eR (t : EReal) : BitVec 32 := open Classical in if pw 0 ≤ t ∧ t < ⊤ then cnt t - 126#32 else 0#32

/-- The kernel's count, which counts infinity too. -/
def cntK (t : EReal) : BitVec 32 :=
  Finset.fold IntOp.addi 0#32 (fun j : Fin 255 => if Ideal.ofBits .f32 (wd j.val) ≤ t then 1#32 else 0#32) Finset.univ

theorem cntK_eq (t : EReal) : cntK t = cnt t + if ⊤ ≤ t then 1#32 else 0#32 := by
  unfold cntK cnt
  rw [Fin.univ_castSuccEmb, Finset.fold_cons, Finset.fold_map]
  have h : (Fin.last 254).val = 254 := rfl
  rw [h, ofBits_top]
  have e : ((fun j : Fin 255 => if Ideal.ofBits .f32 (wd j.val) ≤ t then 1#32 else 0#32) ∘ ⇑Fin.castSuccEmb)
      = fun j : Fin 254 => if pw j.val ≤ t then 1#32 else 0#32 := by
    funext j
    show (if Ideal.ofBits .f32 (wd j.val) ≤ t then 1#32 else 0#32) = _
    rw [ofBits_pw]
  rw [e]
  exact BitVec.add_comm _ _

theorem cnt_nat (t : EReal) : cnt t = BitVec.ofNat 32 (Finset.univ.filter fun j : Fin 254 => pw j.val ≤ t).card := by
  unfold cnt
  have : ∀ s : Finset (Fin 254), s.fold IntOp.addi 0#32 (fun j : Fin 254 => if pw j.val ≤ t then 1#32 else 0#32) = BitVec.ofNat 32 (s.filter fun j : Fin 254 => pw j.val ≤ t).card := by
    intro s
    induction s using Finset.induction_on with
    | empty => simp
    | insert a s ha ih =>
      rw [Finset.fold_insert ha, ih, Finset.filter_insert]
      show _ + _ = _
      by_cases h : pw a.val ≤ t
      · rw [if_pos h, if_pos h, Finset.card_insert_of_notMem (by simp [ha]), BitVec.ofNat_add, BitVec.add_comm]
      · rw [if_neg h, if_neg h, BitVec.zero_add]
  exact this _

theorem cnt_top : cnt ⊤ = 254#32 := by
  rw [cnt_nat, Finset.filter_true_of_mem (fun j _ => le_top), Finset.card_univ, Fintype.card_fin]

theorem cnt_low {t : EReal} (h : t < pw 0) : cnt t = 0#32 := by
  rw [cnt_nat, Finset.filter_false_of_mem (fun j _ => not_le.mpr (h.trans_le (pw_mono (Nat.zero_le _)))), Finset.card_empty]

theorem cnt_mid {t : EReal} (h : pw 0 ≤ t) : 1 ≤ (cnt t).toNat ∧ (cnt t).toNat ≤ 254 := by
  have hle : (Finset.univ.filter fun j : Fin 254 => pw j.val ≤ t).card ≤ 254 :=
    (Finset.card_le_univ _).trans_eq (Fintype.card_fin _)
  have hpos : 0 < (Finset.univ.filter fun j : Fin 254 => pw j.val ≤ t).card :=
    Finset.card_pos.mpr ⟨0, by simpa using h⟩
  rw [cnt_nat, BitVec.toNat_ofNat, Nat.mod_eq_of_lt (by omega)]
  omega

/-- Whether the kernel takes the number for a normal one. -/
def plain (f : BitVec 32) : BitVec 1 := IntOp.andi (IntOp.cmpi .sgt f 0#32) (IntOp.cmpi .slt f 255#32)

theorem plain_word : ∀ k : Fin 255, 1 ≤ k.val → plain (BitVec.ofNat 32 k.val) = 1#1 := by decide +kernel

theorem plain_mid {f : BitVec 32} (h1 : 1 ≤ f.toNat) (h2 : f.toNat ≤ 254) : plain f = 1#1 := by
  have e : f = BitVec.ofNat 32 f.toNat := by simp
  rw [e]; exact plain_word ⟨f.toNat, by omega⟩ h1

theorem plain_none : plain 0#32 = 0#1 := by decide +kernel
theorem plain_all : plain (254#32 + 1#32) = 0#1 := by decide +kernel
theorem one_one : (1#1 : BitVec 1) = 1 := rfl
theorem no_one : ¬ (0#1 : BitVec 1) = 1 := by decide

/-- The word of the scale and the word of its inverse, as the kernel makes them, are the reference's. -/
theorem words (t : EReal) :
    Scalar.select (plain (cntK t)) (cntK t + 1#32) 127#32 = eR t + 127#32
    ∧ Scalar.select (plain (cntK t)) (253#32 - cntK t) 127#32 = 0#32 - eR t + 127#32 := by
  unfold Scalar.select
  by_cases ht : t = ⊤
  · subst ht
    rw [cntK_eq, cnt_top, if_pos le_rfl, plain_all]
    unfold eR
    rw [if_neg (fun h : pw 0 ≤ ⊤ ∧ (⊤ : EReal) < ⊤ => lt_irrefl _ h.2), if_neg no_one, if_neg no_one]
    constructor <;> rfl
  have hlt : t < ⊤ := lt_top_iff_ne_top.mpr ht
  have hK : cntK t = cnt t := by rw [cntK_eq, if_neg (not_le.mpr hlt), BitVec.add_zero]
  rw [hK]
  by_cases h0 : pw 0 ≤ t
  · obtain ⟨a, b⟩ := cnt_mid h0
    unfold eR
    rw [if_pos (And.intro h0 hlt), plain_mid a b, if_pos one_one, if_pos one_one]
    constructor <;> bv_omega
  · unfold eR
    rw [cnt_low (not_le.mp h0), if_neg (fun h : pw 0 ≤ t ∧ t < ⊤ => h0 h.1), plain_none, if_neg no_one, if_neg no_one]
    constructor <;> rfl

/-- Two comparisons and a choice, as the reference writes its exponent. -/
theorem eR_eq (t : EReal) (s : BitVec 32) (hs : s = cnt t) :
    Scalar.select (IntOp.andi (BitVec.ofBool (decide (Ideal.ofBits .f32 0x00800000#32 ≤ t))) (BitVec.ofBool (decide (t < Ideal.ofBits .f32 0x7F800000#32))))
      (IntOp.subi s 126#32) 0#32 = eR t := by
  subst hs
  rw [ofBits_inf, ofBits_least]
  unfold eR Scalar.select
  by_cases h1 : pw 0 ≤ t <;> by_cases h2 : t < ⊤ <;> simp [h1, h2, IntOp.andi, IntOp.subi]

/-- The reference's count, whose powers are made by raising two to a whole number. -/
theorem cnt_eq (t : EReal) :
    Finset.fold IntOp.addi 0#32 (fun j : Fin 254 => if FloatOps.exp2 (F := Ideal) (φ := .f32) (FloatOps.sitofp .f32 (IntOp.subi (BitVec.ofNat 32 j.val) 126#32)) ≤ t then 1#32 else 0#32) Finset.univ = cnt t := by
  unfold cnt
  congr 1
  funext j
  have e : FloatOps.exp2 (F := Ideal) (φ := .f32) (FloatOps.sitofp .f32 (IntOp.subi (BitVec.ofNat 32 j.val) 126#32)) = pw j.val := exp2_pw j
  rw [e]

/-- The greatest magnitude of a run of numbers, times the constant: what the exponent is read from. -/
def top {n : ℕ} (f : Fin n → EReal) : EReal :=
  Finset.fold max (Ideal.ofBits .f32 4286578688#32) (fun r => FloatOps.absf (F := Ideal) (φ := .f32) (f r)) Finset.univ * Ideal.ofBits .f32 991054117#32

/-- The scale, its inverse, and the clipped code of a number. -/
def sc (t : EReal) : EReal := Ideal.ofBits .f32 (IntOp.shli .vector (IntOp.addi (eR t) 127#32) 23#32)
def iv (t : EReal) : EReal := Ideal.ofBits .f32 (IntOp.shli .vector (IntOp.addi (IntOp.subi 0#32 (eR t)) 127#32) 23#32)
def code (t v : EReal) : EReal := min (Ideal.ofBits .f32 1138753536#32) (max (Ideal.ofBits .f32 3286237184#32) (v * iv t))

theorem wd_shli (j : ℕ) : IntOp.shli .vector (IntOp.addi (BitVec.ofNat 32 j) 1#32) 23#32 = wd j := by
  unfold IntOp.shli IntOp.addi wd
  rw [if_pos (by decide)]
  rfl

end Cert.Proof.Value
-- ==== Proof.Reads.lean ====
/- What the kernel computes of a block, read at an index. -/
module

public import proofs.«01_k».proof.Proof.Scale

@[expose] public section

set_option maxRecDepth 16384

noncomputable section

namespace Cert.Proof.Value

open Cert.KernelIdeal Cert.KernelIdeal.Gen
open Idealize.ShloMosaic
open scoped BigOperators
open Cert.Proof.Sweep

theorem pay8_at (v : S1x128x256.Idx → Elt Ideal .f32) (n : Fin 256) :
    k0_pay8 (k0_pay7 (F := Ideal) v) (ix2 0 n) = cntK (top fun r : Fin 128 => v (ix3 0 r n)) := by
  pointwise [k0_pay8, k0_pay7, k0_pay6]
  simp only [wd_shli]
  rfl

/-- The scale of a block's column. -/
theorem sB_at (v : S1x128x256.Idx → Elt Ideal .f32) (n : Fin 256) :
    sB (F := Ideal) v (ix2 0 n) = sc (top fun r : Fin 128 => v (ix3 0 r n)) := by
  unfold sB
  pointwise [k0_pay10, k0_pay9]
  rw [pay8_at]
  exact congrArg (fun w => Ideal.ofBits .f32 (IntOp.shli .vector w 23#32)) (words _).1

/-- A block's code. -/
theorem cB_at (v : S1x128x256.Idx → Elt Ideal .f32) (r : Fin 128) (n : Fin 256) :
    cB (F := Ideal) v (ix2 r n) = code (top fun r : Fin 128 => v (ix3 0 r n)) (v (ix3 0 r n)) := by
  unfold cB
  pointwise [k0_pay11, k0_pay9]
  rw [pay8_at]
  have h6 : k0_pay6 (F := Ideal) v (ix2 r n) = v (ix3 0 r n) := by pointwise [k0_pay6]
  rw [h6]
  exact congrArg (fun w => min (Ideal.ofBits .f32 1138753536#32) (max (Ideal.ofBits .f32 3286237184#32) (v (ix3 0 r n) * Ideal.ofBits .f32 (IntOp.shli .vector w 23#32)))) (words _).2

/-- A block's decoded value. -/
theorem dB_at (v : S1x128x256.Idx → Elt Ideal .f32) (r : Fin 128) (n : Fin 256) :
    dB (F := Ideal) v (ix2 r n) = code (top fun r : Fin 128 => v (ix3 0 r n)) (v (ix3 0 r n)) * sc (top fun r : Fin 128 => v (ix3 0 r n)) := by
  rw [← cB_at, ← sB_at]
  unfold dB cB sB
  pointwise [k0_pay12]

theorem pay1_at (x : S128x128.Idx → Elt Ideal .f32) (y : S128x256.Idx → Elt Ideal .f32) (j : Fin 112) (n : Fin 256) :
    k0_pay1 (F := Ideal) x y (ix2 j n) = ∑ k : Fin 128, x (ix2 k ⟨j.val, by omega⟩) * y (ix2 k n) := by
  pointwise [k0_pay1]

theorem pay2_at (x : FVec Ideal S112x256 .f32) (n : Fin 256) :
    k0_pay2 (F := Ideal) x (ix2 0 n) = cntK (top fun r : Fin 112 => x (ix2 r n)) := by
  pointwise [k0_pay2]
  simp only [wd_shli]
  rfl

/-- The scale of the coefficients' column. -/
theorem pay4_at (x : FVec Ideal S112x256 .f32) (n : Fin 256) :
    k0_pay4 (F := Ideal) x (ix2 0 n) = sc (top fun r : Fin 112 => x (ix2 r n)) := by
  pointwise [k0_pay4, k0_pay3]
  rw [pay2_at]
  exact congrArg (fun w => Ideal.ofBits .f32 (IntOp.shli .vector w 23#32)) (words _).1

/-- A coefficient's code. -/
theorem pay5_at (x : FVec Ideal S112x256 .f32) (r : Fin 112) (n : Fin 256) :
    k0_pay5 (F := Ideal) x (ix2 r n) = code (top fun r : Fin 112 => x (ix2 r n)) (x (ix2 r n)) := by
  pointwise [k0_pay5, k0_pay3]
  rw [pay2_at]
  exact congrArg (fun w => min (Ideal.ofBits .f32 1138753536#32) (max (Ideal.ofBits .f32 3286237184#32) (x (ix2 r n) * Ideal.ofBits .f32 (IntOp.shli .vector w 23#32)))) (words _).2

theorem pay81_at (x : FVec Ideal S1x256 .f32) (y : FVec Ideal S112x256 .f32) (r : Fin 112) (n : Fin 256) :
    k0_pay81 (F := Ideal) x y (ix2 r n) = y (ix2 r n) * x (ix2 0 n) := by
  pointwise [k0_pay81, k0_pay80]

theorem pay80_at (y : FVec Ideal S112x256 .f32) (r : Fin 112) (n : Fin 256) : k0_pay80 (F := Ideal) y (ix2 r n) = y (ix2 r n) := by
  pointwise [k0_pay80]

theorem pay82_at (r : Fin 128) (n : Fin 256) : k0_pay82 (F := Ideal) (ix2 r n) = 0 := by
  pointwise [k0_pay82]

theorem pay79_at (r : Fin 128) (n : Fin 256) : k0_pay79 (F := Ideal) (ix2 r n) = 0 := by
  pointwise [k0_pay79]

theorem pay83_at (x : S1x1024x256.Idx → Elt Ideal .f32) (y : S1024x128.Idx → Elt Ideal .bf16) (v : S128x256.Idx → Elt Ideal .bf16) (r : Fin 1024) (n : Fin 256) :
    k0_pay83 (F := Ideal) x y v (ix3 0 r n) = x (ix3 0 r n) - ∑ k : Fin 128, y (ix2 r k) * v (ix2 k n) := by
  pointwise [k0_pay83]

/-- Eight blocks one above the other, read at a row. -/
theorem cat_at {α : Type} (f : Fin 8 → (S128x256.Idx → α)) (h) (k : Fin 1024) (n : Fin 256) :
    concatenate S1024x256 0 [⟨S128x256, f 0⟩, ⟨S128x256, f 1⟩, ⟨S128x256, f 2⟩, ⟨S128x256, f 3⟩, ⟨S128x256, f 4⟩, ⟨S128x256, f 5⟩, ⟨S128x256, f 6⟩, ⟨S128x256, f 7⟩] h (ix2 k n)
      = f ⟨k.val / 128, by omega⟩ (ix2 ⟨k.val % 128, by omega⟩ n) :=
  concatenate_ofFn_apply 0 f h rfl 128 rfl (ix2 k n) ⟨k.val / 128, by omega⟩ rfl (ix2 ⟨k.val % 128, by omega⟩ n) rfl
    (fun b hb => by
      match b with
      | ⟨0, _⟩ => exact absurd rfl hb
      | ⟨1, _⟩ => rfl)

theorem cat8_at {α : Type} (f : Fin 8 → (S1x256.Idx → α)) (h) (k : Fin 8) (n : Fin 256) :
    concatenate S8x256 0 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩] h (ix2 k n)
      = f k (ix2 0 n) :=
  concatenate_ofFn_apply 0 f h rfl 1 rfl (ix2 k n) k (Nat.div_one _) (ix2 0 n) (Nat.mod_one _).symm
    (fun b hb => by
      match b with
      | ⟨0, _⟩ => exact absurd rfl hb
      | ⟨1, _⟩ => rfl)

theorem pay85_at (f : Fin 8 → FVec Ideal S128x256 .bf16) (w : S112x256.Idx → Elt Ideal .f32) (v : S112x1024.Idx → Elt Ideal .bf16) (r : Fin 112) (n : Fin 256) :
    k0_pay85 (F := Ideal) (f 0) (f 1) (f 2) (f 3) (f 4) (f 5) (f 6) (f 7) w v (ix2 r n)
      = w (ix2 r n) + ∑ k : Fin 1024, v (ix2 r k) * f ⟨k.val / 128, by omega⟩ (ix2 ⟨k.val % 128, by omega⟩ n) := by
  rw [Finset.sum_congr rfl fun k _ => by rw [← cat_at f concatenates_S128x256_S128x256_S128x256_S128x256_S128x256_S128x256_S128x256_S128x256_S1024x256_d0 k n]]
  unfold k0_pay85
  generalize concatenate S1024x256 0 _ _ = D
  pointwise []

end Cert.Proof.Value
-- ==== Proof.RefReads.lean ====
/- What the reference computes, read at an index. -/
module

public import proofs.«01_k».proof.Proof.Scale
public import proofs.«01_k».proof.Proof.Gen.ReferenceIdeal.Value

@[expose] public section

set_option maxRecDepth 16384

noncomputable section

namespace Cert.Proof.Value

open Cert.ReferenceIdeal Cert.ReferenceIdeal.Gen
open Idealize.ShloMosaic
open scoped BigOperators
open Cert.ReferenceIdeal.Value

/-- A column of a block of 128 rows. -/
def col (X : S32768x4096.Idx → Elt Ideal .f32) (g : Fin 256) (n : Fin 4096) : Fin 128 → EReal :=
  fun r => X (ix2 ⟨g.val * 128 + r.val, by omega⟩ n)

/-- A sum of words along the leading axis, read at an index. -/
theorem lead_at (v : IVec S254x256x1x4096 32) (g : Fin 256) (n : Fin 4096) (h) (h2) :
    multiReductionI .add [0] S256x1x4096 v 0#32 h h2 (ix3 g 0 n) = Finset.fold IntOp.addi 0#32 (fun j : Fin 254 => v (ix4 j g 0 n)) Finset.univ := by
  rw [multiReductionI_eq_fold]
  refine (h.fold_filter_drop_single _ _ v (ix3 g 0 n)).trans ?_
  show Finset.fold IntOp.addi 0#32 (fun j : Fin 254 => v (h.lift (ix3 g 0 n) j)) Finset.univ = _
  congr 1
  funext j
  congr 1
  funext c; apply Fin.ext
  match c with
  | ⟨0, _⟩ => rfl
  | ⟨1, _⟩ => rfl
  | ⟨2, _⟩ => rfl
  | ⟨3, _⟩ => rfl

/-- The greatest magnitude of a block's column, times the constant. -/
def peak (X : FVec Ideal S32768x4096 .f32) : FVec Ideal S256x1x4096 .f32 :=
  mulf (shapeCast S256x1x4096 (multiReduction .maximumf [1] S256x4096 (absf (k0_pay1 (F := Ideal) X)) 0xFF800000#32 reduces_S256x128x4096_S256x4096 (.inl rfl) rfl) shapeCasts_S256x4096_S256x1x4096)
    (broadcast S256x1x4096 (Scalar.ofBits .f32 0x3B124925#32))

theorem most_at (v : FVec Ideal S256x128x4096 .f32) (g : Fin 256) (n : Fin 4096) :
    multiReduction .maximumf [1] S256x4096 v 0xFF800000#32 reduces_S256x128x4096_S256x4096 (.inl rfl) rfl (ix2 g n)
      = Finset.fold max (Ideal.ofBits .f32 4286578688#32) (fun r : Fin 128 => v (ix3 g r n)) Finset.univ := by
  refine (Ideal.multiReduction_maximumf_single v _ reduces_S256x128x4096_S256x4096 _ _ (ix2 g n)).trans ?_
  show Finset.fold max (Ideal.ofBits .f32 4286578688#32) (fun r : Fin 128 => v (Shape.Reduces.lift reduces_S256x128x4096_S256x4096 (ix2 g n) r)) Finset.univ = _
  congr 1
  funext r
  congr 1
  funext c; apply Fin.ext
  match c with
  | ⟨0, _⟩ => rfl
  | ⟨1, _⟩ => rfl
  | ⟨2, _⟩ => rfl

theorem rpay1_at (X : FVec Ideal S32768x4096 .f32) (g : Fin 256) (r : Fin 128) (n : Fin 4096) : k0_pay1 (F := Ideal) X (ix3 g r n) = col X g n r := by
  pointwise [k0_pay1]
  rfl

theorem flat_at (v : FVec Ideal S256x4096 .f32) (g : Fin 256) (n : Fin 4096) :
    shapeCast S256x1x4096 v shapeCasts_S256x4096_S256x1x4096 (ix3 g 0 n) = v (ix2 g n) := by
  pointwise []

theorem times_at (A : FVec Ideal S256x1x4096 .f32) (w : Ideal .f32) (i : S256x1x4096.Idx) : mulf A (broadcast S256x1x4096 w) i = A i * w := rfl

theorem abs_at (v : FVec Ideal S256x128x4096 .f32) (i : S256x128x4096.Idx) : absf v i = FloatOps.absf (F := Ideal) (φ := .f32) (v i) := rfl

theorem peak_at (X : FVec Ideal S32768x4096 .f32) (g : Fin 256) (n : Fin 4096) : peak X (ix3 g 0 n) = top (col X g n) := by
  unfold peak
  refine (times_at _ _ _).trans ?_
  rw [flat_at]
  refine (congrArg (fun z : EReal => z * (Scalar.ofBits .f32 0x3B124925#32 : Ideal .f32)) (most_at _ g n)).trans ?_
  unfold top
  refine congrArg (fun f : Fin 128 → EReal => Finset.fold max (Ideal.ofBits .f32 4286578688#32) f Finset.univ * Ideal.ofBits .f32 991054117#32) (funext fun r => ?_)
  rw [abs_at, rpay1_at]

/-- One threshold's comparison. -/
def above (M : FVec Ideal S256x1x4096 .f32) : IVec S254x256x1x4096 32 :=
  select (cmpf .oge (broadcastTo S254x256x1x4096 (shapeCast S1x256x1x4096 M shapeCasts_S256x1x4096_S1x256x1x4096) broadcasts_S1x256x1x4096_S254x256x1x4096)
      (exp2 (sitofp .f32 (subi (iota .tc S254x256x1x4096 32 [0] iota_S254x256x1x4096_d0_w32) (broadcast S254x256x1x4096 126#32)))))
    (broadcast S254x256x1x4096 1#32) (broadcast S254x256x1x4096 0#32)

theorem above_at (M : FVec Ideal S256x1x4096 .f32) (j : Fin 254) (g : Fin 256) (n : Fin 4096) :
    above M (ix4 j g 0 n) = if FloatOps.exp2 (F := Ideal) (φ := .f32) (FloatOps.sitofp .f32 (IntOp.subi (BitVec.ofNat 32 j.val) 126#32)) ≤ M (ix3 g 0 n) then 1#32 else 0#32 := by
  pointwise [above]

/-- The choice between the exponent and nought. -/
def pick (M : FVec Ideal S256x1x4096 .f32) (N : IVec S256x1x4096 32) : IVec S256x1x4096 32 :=
  select (andi (cmpf .oge M (broadcast S256x1x4096 (Scalar.ofBits .f32 0x00800000#32))) (cmpf .olt M (broadcast S256x1x4096 (Scalar.ofBits .f32 0x7F800000#32))))
    (subi N (broadcast S256x1x4096 126#32)) (broadcast S256x1x4096 0#32)

theorem pick_at (M : FVec Ideal S256x1x4096 .f32) (N : IVec S256x1x4096 32) (g : Fin 256) (n : Fin 4096) (h : N (ix3 g 0 n) = cnt (M (ix3 g 0 n))) :
    pick M N (ix3 g 0 n) = eR (M (ix3 g 0 n)) := by
  refine Eq.trans ?_ (eR_eq _ _ h)
  pointwise [pick]

/-- How many thresholds a block's column has reached. -/
def reached (M : FVec Ideal S256x1x4096 .f32) : IVec S256x1x4096 32 :=
  multiReductionI .add [0] S256x1x4096 (above M) 0#32 reduces_S254x256x1x4096_S256x1x4096 rfl

theorem reached_at (M : FVec Ideal S256x1x4096 .f32) (g : Fin 256) (n : Fin 4096) : reached M (ix3 g 0 n) = cnt (M (ix3 g 0 n)) := by
  unfold reached
  refine (lead_at (above M) g n _ _).trans ?_
  exact (congrArg (fun f : Fin 254 → BitVec 32 => Finset.fold IntOp.addi 0#32 f Finset.univ) (funext fun j => above_at M j g n)).trans (cnt_eq _)

theorem rpay2_eq (X : FVec Ideal S32768x4096 .f32) : k0_pay2 (F := Ideal) X = pick (peak X) (reached (peak X)) := rfl

/-- The exponent of a block's column. -/
theorem rpay2_at (X : FVec Ideal S32768x4096 .f32) (g : Fin 256) (n : Fin 4096) :
    k0_pay2 (F := Ideal) X (ix3 g 0 n) = eR (top (col X g n)) := by
  rw [rpay2_eq, pick_at _ _ g n (reached_at _ g n), peak_at]

/-- The scale of a block's column. -/
theorem rpay3_at (X : FVec Ideal S32768x4096 .f32) (g : Fin 256) (n : Fin 4096) :
    k0_pay3 (F := Ideal) X (ix3 g 0 n) = sc (top (col X g n)) := by
  pointwise [k0_pay3]
  rw [rpay2_at]
  rfl

/-- A code before it is clipped. -/
theorem rpay4_at (X : FVec Ideal S32768x4096 .f32) (g : Fin 256) (r : Fin 128) (n : Fin 4096) :
    k0_pay4 (F := Ideal) X (ix3 g r n) = col X g n r * iv (top (col X g n)) := by
  pointwise [k0_pay4, k0_pay1]
  rw [rpay2_at]
  rfl

/-- The column a row of the matrix belongs to. -/
abbrev colOf (X : FVec Ideal S32768x4096 .f32) (k : Fin 32768) (n : Fin 4096) : Fin 128 → EReal := col X ⟨k.val / 128, by omega⟩ n

theorem col_self (X : FVec Ideal S32768x4096 .f32) (k : Fin 32768) (n : Fin 4096) :
    colOf X k n ⟨k.val % 128, by omega⟩ = X (ix2 k n) := by
  unfold colOf col
  congr 2
  apply Fin.ext
  show k.val / 128 * 128 + k.val % 128 = k.val
  omega

/-- A decoded value of the matrix. -/
def dec (X : FVec Ideal S32768x4096 .f32) (k : Fin 32768) (n : Fin 4096) : EReal :=
  code (top (colOf X k n)) (X (ix2 k n)) * sc (top (colOf X k n))

/-- The coefficients of the decoded matrix. -/
def yw (V : Vec Ideal S32768x112 .bf16) (T : Vec Ideal S112x112 .f32) (X : FVec Ideal S32768x4096 .f32) (r : Fin 112) (n : Fin 4096) : EReal :=
  ∑ x : Fin 112, T (ix2 x r) * ∑ k : Fin 32768, V (ix2 k x) * dec X k n

theorem rpay16_at (V : Vec Ideal S32768x112 .bf16) (T : Vec Ideal S112x112 .f32) (X : Vec Ideal S32768x4096 .f32) (r : Fin 112) (n : Fin 4096) :
    k0_pay6 (F := Ideal) (k0_pay3 X) (k0_pay4 X) (Scalar.ofBits .f32 0xC3E00000#32) V T (ix2 r n) = yw V T X r n := by
  pointwise [k0_pay6, k0_pay5]
  unfold yw
  refine Finset.sum_congr rfl fun x _ => congrArg _ (Finset.sum_congr rfl fun k _ => congrArg _ ?_)
  rw [rpay3_at, rpay4_at]
  unfold dec
  rw [← col_self X k n]
  rfl

theorem rpay7_at (v32 : FVec Ideal S256x1x4096 .f32) (v41 : FVec Ideal S256x128x4096 .f32) (w : Ideal .f32) (V : Vec Ideal S32768x112 .bf16) (T : Vec Ideal S112x112 .f32) (n : Fin 4096) :
    k0_pay7 (F := Ideal) v32 v41 w V T (ix2 0 n) = eR (top fun r : Fin 112 => k0_pay6 v32 v41 w V T (ix2 r n)) := by
  pointwise [k0_pay7]
  exact eR_eq _ _ (cnt_eq _)

/-- The exponent of the coefficients' column. -/
theorem rpay17_at (V : Vec Ideal S32768x112 .bf16) (T : Vec Ideal S112x112 .f32) (X : Vec Ideal S32768x4096 .f32) (n : Fin 4096) :
    k0_pay7 (F := Ideal) (k0_pay3 X) (k0_pay4 X) (Scalar.ofBits .f32 0xC3E00000#32) V T (ix2 0 n) = eR (top fun r : Fin 112 => yw V T X r n) := by
  rw [rpay7_at]
  exact congrArg (fun f : Fin 112 → EReal => eR (top f)) (funext fun r => rpay16_at V T X r n)

theorem k14_eq (V : Vec Ideal S32768x112 .bf16) (T : Vec Ideal S112x112 .f32) (X : Vec Ideal S32768x4096 .f32) : k0_pay14 V T X = k0_pay3 X := by
  unfold k0_pay14; rw [View.ld_unit_zero (S := S32768x4096) hz2 _ X]

theorem k15_eq (V : Vec Ideal S32768x112 .bf16) (T : Vec Ideal S112x112 .f32) (X : Vec Ideal S32768x4096 .f32) : k0_pay15 V T X = k0_pay4 X := by
  unfold k0_pay15; rw [View.ld_unit_zero (S := S32768x4096) hz2 _ X]

theorem k16_eq (V : Vec Ideal S32768x112 .bf16) (T : Vec Ideal S112x112 .f32) (X : Vec Ideal S32768x4096 .f32) :
    k0_pay16 V T X = k0_pay6 (k0_pay3 X) (k0_pay4 X) (Scalar.ofBits .f32 0xC3E00000#32) V T := by
  unfold k0_pay16; rw [k14_eq, k15_eq, View.ld_unit_zero (S := S32768x112) hz0 _ V, View.ld_unit_zero (S := S112x112) hz1 _ T]

theorem k17_eq (V : Vec Ideal S32768x112 .bf16) (T : Vec Ideal S112x112 .f32) (X : Vec Ideal S32768x4096 .f32) :
    k0_pay17 V T X = k0_pay7 (k0_pay3 X) (k0_pay4 X) (Scalar.ofBits .f32 0xC3E00000#32) V T := by
  unfold k0_pay17; rw [k14_eq, k15_eq, View.ld_unit_zero (S := S32768x112) hz0 _ V, View.ld_unit_zero (S := S112x112) hz1 _ T]

theorem k18_eq (V : Vec Ideal S32768x112 .bf16) (T : Vec Ideal S112x112 .f32) (X : Vec Ideal S32768x4096 .f32) :
    k0_pay18 V T X = k0_pay8 (k0_pay3 X) (k0_pay4 X) (Scalar.ofBits .f32 0xC3E00000#32) V T := by
  unfold k0_pay18; rw [k14_eq, k15_eq, View.ld_unit_zero (S := S32768x112) hz0 _ V, View.ld_unit_zero (S := S112x112) hz1 _ T]

/-- The reference's results, read at an index. -/
theorem rpay5_at (v : FVec Ideal S256x128x4096 .f32) (w : Ideal .f32) (k : Fin 32768) (n : Fin 4096) :
    k0_pay12 (k0_pay5 v w) (ix2 k n) = min (Ideal.ofBits .f32 1138753536#32) (max w (v (ix3 ⟨k.val / 128, by omega⟩ ⟨k.val % 128, by omega⟩ n))) := by
  pointwise [k0_pay12, k0_pay5]

theorem rpay13_at (v : FVec Ideal S256x1x4096 .f32) (g : Fin 256) (n : Fin 4096) : k0_pay13 v (ix2 g n) = v (ix3 g 0 n) := by
  pointwise [k0_pay13]

theorem G4_at (V : Vec Ideal S32768x112 .bf16) (T : Vec Ideal S112x112 .f32) (X : Vec Ideal S32768x4096 .f32) (k : Fin 32768) (n : Fin 4096) :
    G4 (F := Ideal) V T X (ix2 k n) = code (top (colOf X k n)) (X (ix2 k n)) := by
  unfold G4
  rw [k15_eq]
  rw [rpay5_at, rpay4_at, ← col_self X k n]
  rfl

theorem G5_at (V : Vec Ideal S32768x112 .bf16) (T : Vec Ideal S112x112 .f32) (X : Vec Ideal S32768x4096 .f32) (g : Fin 256) (n : Fin 4096) :
    G5 (F := Ideal) V T X (ix2 g n) = sc (top (col X g n)) := by
  unfold G5
  rw [k14_eq]
  rw [rpay13_at]
  exact rpay3_at X g n

/-- The code and the scale of a coefficient. -/
def yc (V : Vec Ideal S32768x112 .bf16) (T : Vec Ideal S112x112 .f32) (X : Vec Ideal S32768x4096 .f32) (r : Fin 112) (n : Fin 4096) : EReal :=
  code (top fun r : Fin 112 => yw V T X r n) (yw V T X r n)
def ys (V : Vec Ideal S32768x112 .bf16) (T : Vec Ideal S112x112 .f32) (X : Vec Ideal S32768x4096 .f32) (n : Fin 4096) : EReal :=
  sc (top fun r : Fin 112 => yw V T X r n)

theorem rpay10_at (v : FVec Ideal S112x4096 .f32) (w : IVec S1x4096 32) (r : Fin 112) (n : Fin 4096) :
    k0_pay10 (F := Ideal) v w (ix2 r n) = min (Ideal.ofBits .f32 1138753536#32) (max (Ideal.ofBits .f32 3286237184#32)
      (v (ix2 r n) * Ideal.ofBits .f32 (IntOp.shli .vector (IntOp.addi (IntOp.subi 0#32 (w (ix2 0 n))) 127#32) 23#32))) := by
  pointwise [k0_pay10]

theorem rpay9_at (w : IVec S1x4096 32) (n : Fin 4096) : k0_pay9 (F := Ideal) w (ix2 0 n) = Ideal.ofBits .f32 (IntOp.shli .vector (w (ix2 0 n)) 23#32) := by
  pointwise [k0_pay9]

theorem rpay8_at (v32 : FVec Ideal S256x1x4096 .f32) (v41 : FVec Ideal S256x128x4096 .f32) (w : Ideal .f32) (V : Vec Ideal S32768x112 .bf16) (T : Vec Ideal S112x112 .f32) (n : Fin 4096) :
    k0_pay8 (F := Ideal) v32 v41 w V T (ix2 0 n) = IntOp.addi (k0_pay7 v32 v41 w V T (ix2 0 n)) 127#32 := by
  pointwise [k0_pay8]

theorem rpay11_at (v : FVec Ideal S112x4096 .f32) (w u : IVec S1x4096 32) (V : Vec Ideal S32768x112 .bf16) (X : Vec Ideal S32768x4096 .f32) (k : Fin 32768) (n : Fin 4096) :
    k0_pay11 (F := Ideal) v w u V X (ix2 k n) = X (ix2 k n) - ∑ r : Fin 112, V (ix2 k r) * ((k0_pay10 (F := Ideal) v w (ix2 r n) : EReal) * (k0_pay9 (F := Ideal) u (ix2 0 n) : EReal)) := by
  pointwise [k0_pay11]

theorem G6_at (V : Vec Ideal S32768x112 .bf16) (T : Vec Ideal S112x112 .f32) (X : Vec Ideal S32768x4096 .f32) (r : Fin 112) (n : Fin 4096) :
    G6 (F := Ideal) V T X (ix2 r n) = yc V T X r n := by
  unfold G6
  rw [k16_eq, k17_eq, rpay10_at, rpay16_at, rpay17_at]
  rfl

theorem G7_at (V : Vec Ideal S32768x112 .bf16) (T : Vec Ideal S112x112 .f32) (X : Vec Ideal S32768x4096 .f32) (n : Fin 4096) :
    G7 (F := Ideal) V T X (ix2 0 n) = ys V T X n := by
  unfold G7
  rw [k18_eq, rpay9_at, rpay8_at, rpay17_at]
  rfl

theorem G3_at (V : Vec Ideal S32768x112 .bf16) (T : Vec Ideal S112x112 .f32) (X : Vec Ideal S32768x4096 .f32) (k : Fin 32768) (n : Fin 4096) :
    G3 (F := Ideal) V T X (ix2 k n) = X (ix2 k n) - ∑ r : Fin 112, V (ix2 k r) * (yc V T X r n * ys V T X n) := by
  unfold G3
  rw [rpay11_at]
  refine congrArg _ (Finset.sum_congr rfl fun r _ => ?_)
  rw [← G6_at, ← G7_at]

end Cert.Proof.Value
-- ==== Proof.Totals.lean ====
/- The sweeps' totals: what the kernel leaves, read at an index, is the reference's mathematics. -/
module

public import proofs.«01_k».proof.Proof.Reads
public import proofs.«01_k».proof.Proof.RefReads

@[expose] public section

set_option maxRecDepth 16384

noncomputable section

namespace Cert.Proof.Value

open Cert.KernelIdeal Cert.KernelIdeal.Gen Cert.Proof.Sweep
open Idealize.ShloMosaic
open scoped BigOperators

variable (c : Dev nD) (X : S32768x4096.Idx → Elt Ideal .f32)

/-- A tile's element, in the matrix. -/
theorem xt_at (q : Fin 512) (r : Fin 1024) (n : Fin 256) (K : Fin 32768) (N : Fin 4096)
    (hK : K.val = q.val % 32 * 1024 + r.val) (hN : N.val = q.val / 32 * 256 + n.val) : xt c X q (ix2 r n) = X (ix2 K N) := by
  show X (tAt q (ix2 r n)) = _
  refine congrArg X (funext fun a => Fin.ext ?_)
  match a with
  | ⟨0, _⟩ => refine (tAt0 q (ix2 r n)).trans ?_; show q.val % 32 * 1024 + 1 * r.val = K.val; omega
  | ⟨1, _⟩ => refine (tAt1 q (ix2 r n)).trans ?_; show q.val / 32 * 256 + 1 * n.val = N.val; omega

theorem blk_at (q : Fin 512) (b : Fin 8) (r : Fin 128) (n : Fin 256) (K : Fin 32768) (N : Fin 4096)
    (hK : K.val = q.val % 32 * 1024 + (b.val * 128 + r.val)) (hN : N.val = q.val / 32 * 256 + n.val) :
    blkOf (xt c X q) b (ix3 0 r n) = X (ix2 K N) :=
  xt_at c X q ⟨b.val * 128 + r.val, by omega⟩ n K N hK hN

theorem blk_col (q : Fin 512) (b : Fin 8) (r : Fin 128) (n : Fin 256) (K : Fin 32768) (N : Fin 4096)
    (hK : K.val = q.val % 32 * 1024 + (b.val * 128 + r.val)) (hN : N.val = q.val / 32 * 256 + n.val) :
    (fun s : Fin 128 => blkOf (xt c X q) b (ix3 0 s n)) = colOf X K N := by
  funext s
  refine blk_at c X q b s n ⟨K.val / 128 * 128 + s.val, by omega⟩ N ?_ hN
  show K.val / 128 * 128 + s.val = _
  omega

/-- A tile's codes and decoded values. -/
theorem codes_at (q : Fin 512) (r : Fin 1024) (n : Fin 256) (K : Fin 32768) (N : Fin 4096)
    (hK : K.val = q.val % 32 * 1024 + r.val) (hN : N.val = q.val / 32 * 256 + n.val) :
    KCv (F := Ideal) c X q (ix2 r n) = code (top (colOf X K N)) (X (ix2 K N)) := by
  show cB (blkOf (xt c X q) ⟨r.val / 128, by omega⟩) (ix2 ⟨r.val % 128, by omega⟩ n) = _
  rw [cB_at, blk_col c X q ⟨r.val / 128, by omega⟩ ⟨r.val % 128, by omega⟩ n K N (by show K.val = _ + (r.val / 128 * 128 + r.val % 128); omega) hN,
    blk_at c X q ⟨r.val / 128, by omega⟩ ⟨r.val % 128, by omega⟩ n K N (by show K.val = _ + (r.val / 128 * 128 + r.val % 128); omega) hN]

theorem decs_at (q : Fin 512) (r : Fin 1024) (n : Fin 256) (K : Fin 32768) (N : Fin 4096)
    (hK : K.val = q.val % 32 * 1024 + r.val) (hN : N.val = q.val / 32 * 256 + n.val) :
    dB (F := Ideal) (blkOf (xt c X q) ⟨r.val / 128, by omega⟩) (ix2 ⟨r.val % 128, by omega⟩ n) = dec X K N := by
  rw [dB_at, blk_col c X q ⟨r.val / 128, by omega⟩ ⟨r.val % 128, by omega⟩ n K N (by show K.val = _ + (r.val / 128 * 128 + r.val % 128); omega) hN,
    blk_at c X q ⟨r.val / 128, by omega⟩ ⟨r.val % 128, by omega⟩ n K N (by show K.val = _ + (r.val / 128 * 128 + r.val % 128); omega) hN]
  rfl

/-- A tile's scales. -/
theorem scales_at (q : Fin 512) (b : Fin 8) (n : Fin 256) (g : Fin 256) (N : Fin 4096)
    (hg : g.val = q.val % 32 * 8 + b.val) (hN : N.val = q.val / 32 * 256 + n.val) :
    scT (F := Ideal) (xt c X q) (ix2 b n) = sc (top (col X g N)) := by
  refine (cat8_at (fun b => sB (blkOf (xt c X q) b)) _ b n).trans ?_
  rw [sB_at]
  refine congrArg (fun f : Fin 128 → EReal => sc (top f)) (funext fun s => ?_)
  refine blk_at c X q b s n ⟨g.val * 128 + s.val, by omega⟩ N ?_ hN
  show g.val * 128 + s.val = _
  omega

/-- The top rows of a put, and the rows below it. -/
theorem put_low {α : Type} (y : S128x256.Idx → α) (w : S112x256.Idx → α) (r : Fin 112) (n : Fin 256) :
    VecWindow.put y ![0, 0] S112x256.size w (ix2 ⟨r.val, by omega⟩ n) = w (ix2 r n) := by
  have h : ∀ a : Fin 2, (![0, 0] : Fin 2 → ℕ) a ≤ ((ix2 ⟨r.val, by omega⟩ n : S128x256.Idx) a).val
      ∧ ((ix2 ⟨r.val, by omega⟩ n : S128x256.Idx) a).val < (![0, 0] : Fin 2 → ℕ) a + S112x256.size a := fun a =>
    match a with
    | ⟨0, _⟩ => ⟨Nat.zero_le _, (by show r.val < 0 + 112; omega)⟩
    | ⟨1, _⟩ => ⟨Nat.zero_le _, (by show n.val < 0 + 256; omega)⟩
  refine (dif_pos h).trans (congrArg w (funext fun a => Fin.ext ?_))
  match a with
  | ⟨0, _⟩ => rfl
  | ⟨1, _⟩ => rfl

theorem put_high {α : Type} (y : S128x256.Idx → α) (w : S112x256.Idx → α) (r : Fin 128) (n : Fin 256) (hr : 112 ≤ r.val) :
    VecWindow.put y ![0, 0] S112x256.size w (ix2 r n) = y (ix2 r n) := by
  refine dif_neg fun h => ?_
  have h0 : r.val < 0 + 112 := (h (0 : Fin 2)).2
  omega

variable (vw : S32768x128.Idx → Elt Ideal .bf16) (vt : S112x32768.Idx → Elt Ideal .bf16) (tt : S128x128.Idx → Elt Ideal .f32)

/-- One term of the product with the decoded matrix. -/
def term (r : Fin 112) (N : Fin 4096) (k : ℕ) : EReal := if h : k < 32768 then vt (ix2 r ⟨k, h⟩) * dec X ⟨k, h⟩ N else 0

theorem upW_at (q : Fin 512) (w : S112x256.Idx → Elt Ideal .f32) (v : S112x1024.Idx → Elt Ideal .bf16) (r : Fin 112) (n : Fin 256) (N : Fin 4096)
    (hv : ∀ k : Fin 1024, v (ix2 r k) = vt (ix2 r ⟨q.val % 32 * 1024 + k.val, by omega⟩)) (hN : N.val = q.val / 32 * 256 + n.val) :
    upW (F := Ideal) (xt c X q) w v (ix2 r n) = w (ix2 r n) + ∑ k ∈ Finset.range 1024, term X vt r N (q.val % 32 * 1024 + k) := by
  refine (pay85_at (fun b => dB (blkOf (xt c X q) b)) w v r n).trans ?_
  rw [← Fin.sum_univ_eq_sum_range]
  refine congrArg _ (Finset.sum_congr rfl fun k _ => ?_)
  unfold term
  rw [dif_pos (by omega : q.val % 32 * 1024 + k.val < 32768), hv, decs_at c X q k n ⟨q.val % 32 * 1024 + k.val, by omega⟩ N rfl hN]

theorem tl_val (n : ℕ) (h : n < 512) : (tl n).val = n := Nat.mod_eq_of_lt h

/-- The product's rows after `k` tiles of panel `i`. -/
theorem Wv_at (i : ℕ) (hi : i < 16) (r : Fin 112) (n : Fin 256) (N : Fin 4096) (hN : N.val = i * 256 + n.val) :
    ∀ k, k ≤ 32 → Wv (F := Ideal) c X vt i k (ix2 ⟨r.val, by omega⟩ n) = ∑ j ∈ Finset.range (k * 1024), term X vt r N j := by
  intro k
  induction k with
  | zero => intro _; exact (pay82_at _ _).trans (by simp)
  | succ k ih =>
    intro hk
    have hq : (tl (i * 32 + k)).val = i * 32 + k := tl_val _ (by omega)
    have e : Wv (F := Ideal) c X vt i (k + 1) = wStep vt ⟨k, lt_of_lt_of_eq (by omega) trips3.symm⟩ (xt c X (tl (i * 32 + k))) (Wv c X vt i k) :=
      dif_pos ⟨hi, by omega⟩
    rw [e]
    unfold wStep
    refine (put_low _ _ r n).trans ?_
    refine (upW_at c X vt (tl (i * 32 + k)) _ _ r n N (fun j => ?_) (by rw [hq]; omega)).trans ?_
    · refine congrArg vt (funext fun a => Fin.ext ?_)
      match a with
      | ⟨0, _⟩ => show 0 + 1 * r.val = r.val; omega
      | ⟨1, _⟩ => show k * 1024 + 1 * j.val = (tl (i * 32 + k)).val % 32 * 1024 + j.val; rw [hq]; omega
    · have hm : (tl (i * 32 + k)).val % 32 = k := by rw [hq]; omega
      rw [hm, show (k + 1) * 1024 = k * 1024 + 1024 by ring, Finset.sum_range_add, ← ih (by omega)]
      refine congrArg (· + _) ?_
      refine congrArg (Wv c X vt i k) (funext fun a => Fin.ext ?_)
      match a with
      | ⟨0, _⟩ => show 0 + 1 * r.val = r.val; omega
      | ⟨1, _⟩ => show 0 + 1 * n.val = n.val; omega

theorem Wv_high (i : ℕ) (hi : i < 16) (r : Fin 128) (hr : 112 ≤ r.val) (n : Fin 256) :
    ∀ k, k ≤ 32 → Wv (F := Ideal) c X vt i k (ix2 r n) = 0 := by
  intro k
  induction k with
  | zero => intro _; exact pay82_at _ _
  | succ k ih =>
    intro hk
    have e : Wv (F := Ideal) c X vt i (k + 1) = wStep vt ⟨k, lt_of_lt_of_eq (by omega) trips3.symm⟩ (xt c X (tl (i * 32 + k))) (Wv c X vt i k) :=
      dif_pos ⟨hi, by omega⟩
    rw [e]
    unfold wStep
    exact (put_high _ _ r n hr).trans (ih (by omega))

theorem sum112 (f : Fin 128 → EReal) (h : ∀ x, 112 ≤ x.val → f x = 0) : ∑ x, f x = ∑ x : Fin 112, f ⟨x.val, by omega⟩ := by
  have e := Fin.sum_univ_add (a := 112) (b := 16) f
  rw [e, Finset.sum_eq_zero (s := (Finset.univ : Finset (Fin 16))) fun x _ => h _ (by show 112 ≤ 112 + x.val; omega), add_zero]
  rfl

variable (V : S32768x112.Idx → Elt Ideal .bf16) (T : S112x112.Idx → Elt Ideal .f32)
  (hvt : ∀ (r : Fin 112) (k : Fin 32768), vt (ix2 r k) = V (ix2 k r))
  (htt : ∀ x r : Fin 112, tt (ix2 ⟨x.val, by omega⟩ ⟨r.val, by omega⟩) = T (ix2 x r))
  (hvw : ∀ (k : Fin 32768) (r : Fin 112), vw (ix2 k ⟨r.val, by omega⟩) = V (ix2 k r))

include hvt htt in
/-- The coefficients of panel `i`. -/
theorem coef_at (i : ℕ) (hi : i < 16) (r : Fin 112) (n : Fin 256) (N : Fin 4096) (hN : N.val = i * 256 + n.val) :
    k0_pay1 (F := Ideal) tt (Wv c X vt i 32) (ix2 r n) = yw V T X r N := by
  rw [pay1_at, sum112 _ fun x hx => by rw [Wv_high c X vt i hi x hx n 32 le_rfl, mul_zero]]
  unfold yw
  refine Finset.sum_congr rfl fun x _ => ?_
  rw [htt x r, Wv_at c X vt i hi x n N hN 32 le_rfl, ← Fin.sum_univ_eq_sum_range]
  refine congrArg _ (Finset.sum_congr rfl fun k _ => ?_)
  unfold term
  rw [dif_pos (show k.val < 32768 from k.isLt), hvt]

include hvt htt in
theorem coefs (i : ℕ) (hi : i < 16) (n : Fin 256) (N : Fin 4096) (hN : N.val = i * 256 + n.val) :
    (fun r : Fin 112 => k0_pay1 (F := Ideal) tt (Wv c X vt i 32) (ix2 r n)) = fun r => yw V T X r N :=
  funext fun r => coef_at c X vt tt V T hvt htt i hi r n N hN

include hvt htt in
theorem yS_at (i : ℕ) (hi : i < 16) (n : Fin 256) (N : Fin 4096) (hN : N.val = i * 256 + n.val) :
    yS (F := Ideal) c X vt tt i (ix2 0 n) = ys V T X N := by
  unfold yS
  rw [pay4_at, coefs c X vt tt V T hvt htt i hi n N hN]
  rfl

include hvt htt in
theorem yC_at (i : ℕ) (hi : i < 16) (r : Fin 112) (n : Fin 256) (N : Fin 4096) (hN : N.val = i * 256 + n.val) :
    yC (F := Ideal) c X vt tt i (ix2 r n) = yc V T X r N := by
  unfold yC
  rw [pay5_at, coefs c X vt tt V T hvt htt i hi n N hN, coef_at c X vt tt V T hvt htt i hi r n N hN]
  rfl

theorem yv_high (r : Fin 128) (hr : 112 ≤ r.val) (n : Fin 256) : ∀ i, yv (F := Ideal) c X vt tt i (ix2 r n) = 0 := by
  intro i
  induction i with
  | zero => exact pay79_at _ _
  | succ i ih => exact (put_high _ _ r n hr).trans ih

include hvt htt in
theorem yv_at (i : ℕ) (hi : i < 16) (r : Fin 112) (n : Fin 256) (N : Fin 4096) (hN : N.val = i * 256 + n.val) :
    yv (F := Ideal) c X vt tt (i + 1) (ix2 ⟨r.val, by omega⟩ n) = yc V T X r N * ys V T X N := by
  refine (put_low _ _ r n).trans ?_
  rw [pay81_at, yC_at c X vt tt V T hvt htt i hi r n N hN, yS_at c X vt tt V T hvt htt i hi n N hN]

include hvt htt hvw in
/-- A tile of the updated matrix. -/
theorem upd_at (q : Fin 512) (r : Fin 1024) (n : Fin 256) (K : Fin 32768) (N : Fin 4096)
    (hK : K.val = q.val % 32 * 1024 + r.val) (hN : N.val = q.val / 32 * 256 + n.val) :
    NTv (F := Ideal) c X vw vt tt q (ix2 r n) = X (ix2 K N) - ∑ x : Fin 112, V (ix2 K x) * (yc V T X x N * ys V T X N) := by
  unfold NTv ntT
  refine (pay83_at _ _ _ r n).trans ?_
  have hx : xt c X q (ix2 r n) = X (ix2 K N) := xt_at c X q r n K N hK hN
  refine congrArg₂ (fun a b : EReal => a - b) hx ?_
  rw [sum112 _ fun x hx => by rw [yv_high c X vt tt x hx n, mul_zero]]
  refine Finset.sum_congr rfl fun x _ => ?_
  rw [yv_at c X vt tt V T hvt htt (q.val / 32) (by omega) x n N hN]
  refine congrArg (fun z : EReal => z * _) ?_
  rw [← hvw K x]
  refine congrArg vw (funext fun a => Fin.ext ?_)
  match a with
  | ⟨0, _⟩ => show q.val % 32 * 1024 + 1 * r.val = K.val; omega
  | ⟨1, _⟩ => show 0 + 1 * x.val = x.val; omega

end Cert.Proof.Value
-- ==== Proof.Ends.lean ====
/- The run's results are the reference's results: the arrays that the call reads and leaves, index by index. -/
module

public import proofs.«01_k».proof.Proof.Totals
public import Idealize.ShloMosaic.Lib.KernelVsHost

@[expose] public section

set_option maxRecDepth 16384

noncomputable section

namespace Cert.Proof.Value

open Cert.KernelIdeal Cert.KernelIdeal.Gen Cert.Proof.Sweep
open Idealize.ShloMosaic
open Idealize.ShloMosaic.TcCoe Idealize.ShloMosaic.Tactic
open Idealize.SL.Sem
open Idealize.ShloMosaic.Pipeline (Dat Cfg Window)
open scoped BigOperators

variable (m : (ℓ : Loc nD τ sig) → Buf (Elt Ideal) ℓ) (ρ : Dev nD → PrngReg)

/-! ## The arrays that the program makes for the call -/

theorem V_v0 (c : Dev nD) : V m c main_v0 = pad S32768x128 ![0, 0] ![0, 16] ![0, 0] (m ((c : Thread nD τ).loc main_arg0))
    (sitofp (F := Ideal) .bf16 (constantI S_ 32 0#32)) pads_S32768x112_S32768x128_000_0160 h_S_ := by
  unfold V
  simp only [List.flatten_cons, List.flatten_nil, List.append_nil, List.cons_append, List.nil_append]
  after_results
  rfl

theorem V_v1 (c : Dev nD) : V m c main_v1 = transpose S112x32768 [1, 0] (m ((c : Thread nD τ).loc main_arg0)) transposes_S32768x112_S112x32768_1_0 := by
  unfold V
  simp only [List.flatten_cons, List.flatten_nil, List.append_nil, List.cons_append, List.nil_append]
  after_results

theorem V_v2 (c : Dev nD) : V m c main_v2 = pad S128x128 ![0, 0] ![16, 16] ![0, 0] (m ((c : Thread nD τ).loc main_arg1))
    (sitofp (F := Ideal) .f32 (constantI S_ 32 0#32)) pads_S112x112_S128x128_0160_0160 h_S_ := by
  unfold V
  simp only [List.flatten_cons, List.flatten_nil, List.append_nil, List.cons_append, List.nil_append]
  after_results
  rfl

theorem zero_w0 : ∀ t : Fin cfg0.N, win0_0.index t (0 : Fin 2) = 0 ∧ win0_0.index t (1 : Fin 2) = 0 := (by decide +kernel : ∀ t : Fin grid0.N, _)
theorem zero_w1 : ∀ t : Fin cfg0.N, win0_1.index t (0 : Fin 2) = 0 ∧ win0_1.index t (1 : Fin 2) = 0 := (by decide +kernel : ∀ t : Fin grid0.N, _)
theorem zero_w2 : ∀ t : Fin cfg0.N, win0_2.index t (0 : Fin 2) = 0 ∧ win0_2.index t (1 : Fin 2) = 0 := (by decide +kernel : ∀ t : Fin grid0.N, _)
theorem zero_w3 : ∀ t : Fin cfg0.N, win0_3.index t (0 : Fin 2) = 0 ∧ win0_3.index t (1 : Fin 2) = 0 := (by decide +kernel : ∀ t : Fin grid0.N, _)
theorem zero_w4 : ∀ t : Fin cfg0.N, win0_4.index t (0 : Fin 2) = 0 ∧ win0_4.index t (1 : Fin 2) = 0 := (by decide +kernel : ∀ t : Fin grid0.N, _)

theorem emb_w0 (t : Fin cfg0.N) (j : S32768x128.Idx) : ((cfg0.win 0).blk t).view.emb j = j := by
  obtain ⟨e0, e1⟩ := zero_w0 t
  funext a; apply Fin.ext
  match a with
  | ⟨0, _⟩ => show win0_0.index t (0 : Fin 2) * 32768 + 1 * (j 0).val = (j 0).val; omega
  | ⟨1, _⟩ => show win0_0.index t (1 : Fin 2) * 128 + 1 * (j 1).val = (j 1).val; omega
theorem emb_w1 (t : Fin cfg0.N) (j : S112x32768.Idx) : ((cfg0.win 1).blk t).view.emb j = j := by
  obtain ⟨e0, e1⟩ := zero_w1 t
  funext a; apply Fin.ext
  match a with
  | ⟨0, _⟩ => show win0_1.index t (0 : Fin 2) * 112 + 1 * (j 0).val = (j 0).val; omega
  | ⟨1, _⟩ => show win0_1.index t (1 : Fin 2) * 32768 + 1 * (j 1).val = (j 1).val; omega
theorem emb_w2 (t : Fin cfg0.N) (j : S128x128.Idx) : ((cfg0.win 2).blk t).view.emb j = j := by
  obtain ⟨e0, e1⟩ := zero_w2 t
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega
theorem emb_w3 (t : Fin cfg0.N) (j : S112x4096.Idx) : ((cfg0.win 3).blk t).view.emb j = j := by
  obtain ⟨e0, e1⟩ := zero_w3 t
  funext a; apply Fin.ext
  match a with
  | ⟨0, _⟩ => show win0_3.index t (0 : Fin 2) * 112 + 1 * (j 0).val = (j 0).val; omega
  | ⟨1, _⟩ => show win0_3.index t (1 : Fin 2) * 4096 + 1 * (j 1).val = (j 1).val; omega
theorem emb_w4 (t : Fin cfg0.N) (j : S1x4096.Idx) : ((cfg0.win 4).blk t).view.emb j = j := by
  obtain ⟨e0, e1⟩ := zero_w4 t
  funext a; apply Fin.ext
  match a with
  | ⟨0, _⟩ => show win0_4.index t (0 : Fin 2) * 1 + 1 * (j 0).val = (j 0).val; omega
  | ⟨1, _⟩ => show win0_4.index t (1 : Fin 2) * 4096 + 1 * (j 1).val = (j 1).val; omega

theorem vwV_eq (c : Dev nD) : vwV m c = V m c main_v0 := by
  funext j; show V m c main_v0 (((cfg0.win 0).blk t0_0).view.emb j) = V m c main_v0 j; rw [emb_w0]
theorem vtV_eq (c : Dev nD) : vtV m c = V m c main_v1 := by
  funext j; show V m c main_v1 (((cfg0.win 1).blk t0_0).view.emb j) = V m c main_v1 j; rw [emb_w1]
theorem ttV_eq (c : Dev nD) : ttV m c = V m c main_v2 := by
  funext j; show V m c main_v2 (((cfg0.win 2).blk t0_0).view.emb j) = V m c main_v2 j; rw [emb_w2]

/-- The arguments, as the reference takes them. -/
abbrev aV (c : Dev nD) : S32768x112.Idx → Elt Ideal .bf16 := m ((c : Thread nD τ).loc main_arg0)
abbrev aT (c : Dev nD) : S112x112.Idx → Elt Ideal .f32 := m ((c : Thread nD τ).loc main_arg1)
abbrev aX (c : Dev nD) : S32768x4096.Idx → Elt Ideal .f32 := m ((c : Thread nD τ).loc main_arg2)

theorem hvw (c : Dev nD) (k : Fin 32768) (r : Fin 112) : vwV m c (ix2 k ⟨r.val, by omega⟩) = aV m c (ix2 k r) := by
  rw [vwV_eq, V_v0]
  refine pad_apply_of_inside _ _ _ _ _ _ _ _ (ix2 k r) fun a => ?_
  match a with
  | ⟨0, _⟩ => show k.val = 0 + k.val * (0 + 1); omega
  | ⟨1, _⟩ => show r.val = 0 + r.val * (0 + 1); omega

theorem hvt (c : Dev nD) (r : Fin 112) (k : Fin 32768) : vtV m c (ix2 r k) = aV m c (ix2 k r) := by
  rw [vtV_eq, V_v1]
  pointwise

theorem htt (c : Dev nD) (x r : Fin 112) : ttV m c (ix2 ⟨x.val, by omega⟩ ⟨r.val, by omega⟩) = aT m c (ix2 x r) := by
  rw [ttV_eq, V_v2]
  refine pad_apply_of_inside _ _ _ _ _ _ _ _ (ix2 x r) fun a => ?_
  match a with
  | ⟨0, _⟩ => show x.val = 0 + x.val * (0 + 1); omega
  | ⟨1, _⟩ => show r.val = 0 + r.val * (0 + 1); omega

theorem XV_eq (c : Dev nD) : XV m c = aX m c := V_main_arg2 m c

/-! ## The results -/

theorem co_eq (c : Dev nD) : coV m c = Cert.ReferenceIdeal.Value.G3 (aV m c) (aT m c) (aX m c) := by
  funext z
  obtain ⟨k, n, rfl⟩ : ∃ k n, z = ix2 k n := ⟨z 0, z 1, eq_ix2 z⟩
  rw [G3_at, ← XV_eq]
  exact upd_at c (XV m c) (vwV m c) (vtV m c) (ttV m c) (aV m c) (aT m c) (hvt m c) (htt m c) (hvw m c)
    ⟨n.val / 256 * 32 + k.val / 1024, by omega⟩ ⟨k.val % 1024, by omega⟩ ⟨n.val % 256, by omega⟩ k n
    (by show k.val = (n.val / 256 * 32 + k.val / 1024) % 32 * 1024 + k.val % 1024; omega)
    (by show n.val = (n.val / 256 * 32 + k.val / 1024) / 32 * 256 + n.val % 256; omega)

theorem cc_eq (c : Dev nD) : ccV m c = Cert.ReferenceIdeal.Value.G4 (aV m c) (aT m c) (aX m c) := by
  funext z
  obtain ⟨k, n, rfl⟩ : ∃ k n, z = ix2 k n := ⟨z 0, z 1, eq_ix2 z⟩
  rw [G4_at, ← XV_eq]
  exact codes_at c (XV m c)
    ⟨n.val / 256 * 32 + k.val / 1024, by omega⟩ ⟨k.val % 1024, by omega⟩ ⟨n.val % 256, by omega⟩ k n
    (by show k.val = (n.val / 256 * 32 + k.val / 1024) % 32 * 1024 + k.val % 1024; omega)
    (by show n.val = (n.val / 256 * 32 + k.val / 1024) / 32 * 256 + n.val % 256; omega)

theorem cs_eq (c : Dev nD) : csV m c = Cert.ReferenceIdeal.Value.G5 (aV m c) (aT m c) (aX m c) := by
  funext z
  obtain ⟨g, n, rfl⟩ : ∃ g n, z = ix2 g n := ⟨z 0, z 1, eq_ix2 z⟩
  rw [G5_at, ← XV_eq]
  have hq : (tl (n.val / 256 * 32 + g.val / 8)).val = n.val / 256 * 32 + g.val / 8 := tl_val _ (by omega)
  exact scales_at c (XV m c) (tl (n.val / 256 * 32 + g.val / 8)) ⟨g.val % 8, by omega⟩ ⟨n.val % 256, by omega⟩ g n
    (by rw [hq]; show g.val = (n.val / 256 * 32 + g.val / 8) % 32 * 8 + g.val % 8; omega)
    (by rw [hq]; show n.val = (n.val / 256 * 32 + g.val / 8) / 32 * 256 + n.val % 256; omega)

theorem yc_eq (c : Dev nD) : ycV c (XV m c) (vtV m c) (ttV m c) = Cert.ReferenceIdeal.Value.G6 (aV m c) (aT m c) (aX m c) := by
  funext z
  obtain ⟨r, n, rfl⟩ : ∃ r n, z = ix2 r n := ⟨z 0, z 1, eq_ix2 z⟩
  rw [G6_at, ← XV_eq]
  refine (pay80_at _ r ⟨n.val % 256, by omega⟩).trans ?_
  exact yC_at c (XV m c) (vtV m c) (ttV m c) (aV m c) (aT m c) (hvt m c) (htt m c) (n.val / 256) (by omega) r ⟨n.val % 256, by omega⟩ n
    (by show n.val = n.val / 256 * 256 + n.val % 256; omega)

theorem ys_eq (c : Dev nD) : ysV c (XV m c) (vtV m c) (ttV m c) = Cert.ReferenceIdeal.Value.G7 (aV m c) (aT m c) (aX m c) := by
  funext z
  obtain ⟨r, n, rfl⟩ : ∃ r n, z = ix2 r n := ⟨z 0, z 1, eq_ix2 z⟩
  obtain rfl : r = 0 := Subsingleton.elim _ _
  rw [G7_at, ← XV_eq]
  exact yS_at c (XV m c) (vtV m c) (ttV m c) (aV m c) (aT m c) (hvt m c) (htt m c) (n.val / 256) (by omega) ⟨n.val % 256, by omega⟩ n
    (by show n.val = n.val / 256 * 256 + n.val % 256; omega)

/-! ## The two arrays that the call writes through its windows -/

theorem cut_w3 (t : Fin cfg0.N) (Y : Vec Ideal S112x4096 .fp8e4m3) : (cfg0.win 3).cut (grid0.coords t) Y = ((cfg0.win 3).blk t).view.read (Elt Ideal) Y := by
  funext j; show Y j = Y (((cfg0.win 3).blk t).view.emb j); rw [emb_w3]
theorem cut_w4 (t : Fin cfg0.N) (Y : Vec Ideal S1x4096 .f32) : (cfg0.win 4).cut (grid0.coords t) Y = ((cfg0.win 4).blk t).view.read (Elt Ideal) Y := by
  funext j; show Y j = Y (((cfg0.win 4).blk t).view.emb j); rw [emb_w4]

theorem flushed_w3 (c : Dev nD) (t : Fin cfg0.N) : (dats m 0 c).flushed 3 t
    = ((cfg0.win 3).blk t).view.read (Elt Ideal) (ycV c (XV m c) (vtV m c) (ttV m c)) := by
  show (cfg0.win 3).cut (grid0.coords t) ((dats m 0 c).after 3 t) = _
  rw [after_w3]; exact cut_w3 t _
theorem flushed_w4 (c : Dev nD) (t : Fin cfg0.N) : (dats m 0 c).flushed 4 t
    = ((cfg0.win 4).blk t).view.read (Elt Ideal) (ysV c (XV m c) (vtV m c) (ttV m c)) := by
  show (cfg0.win 4).cut (grid0.coords t) ((dats m 0 c).after 4 t) = _
  rw [after_w4]; exact cut_w4 t _

theorem covered_w3 (i : S112x4096.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb_w3] at h⟩
theorem covered_w4 (i : S1x4096.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb_w4] at h⟩

theorem final_w3 (c : Dev nD) : finalA m c 3 = ycV c (XV m c) (vtV m c) (ttV m c) :=
  (dats m 0 c).arrAt_eq_of_cover 3 (ycV c (XV m c) (vtV m c) (ttV m c)) (fun t _ => flushed_w3 m c t) covered_w3
theorem final_w4 (c : Dev nD) : finalA m c 4 = ysV c (XV m c) (vtV m c) (ttV m c) :=
  (dats m 0 c).arrAt_eq_of_cover 4 (ysV c (XV m c) (vtV m c) (ttV m c)) (fun t _ => flushed_w4 m c t) covered_w4

/-- Every run of the kernel ends with the reference's results, the arguments as launched. -/
theorem run_value : θ_run (defs (F := Ideal)) (onTc (τ := τ) (main (F := Ideal))) ⟨m, fun _ => 0, ρ⟩ fun r => ∀ c : Dev nD,
      r.2.mem ((c.tc : Thread nD τ).loc main_v3_0) = Cert.ReferenceIdeal.Value.G3 (aV m c) (aT m c) (aX m c)
      ∧ r.2.mem ((c.tc : Thread nD τ).loc main_v3_1) = Cert.ReferenceIdeal.Value.G4 (aV m c) (aT m c) (aX m c)
      ∧ r.2.mem ((c.tc : Thread nD τ).loc main_v3_2) = Cert.ReferenceIdeal.Value.G5 (aV m c) (aT m c) (aX m c)
      ∧ r.2.mem ((c.tc : Thread nD τ).loc main_v3_3) = Cert.ReferenceIdeal.Value.G6 (aV m c) (aT m c) (aX m c)
      ∧ r.2.mem ((c.tc : Thread nD τ).loc main_v3_4) = Cert.ReferenceIdeal.Value.G7 (aV m c) (aT m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨hw, h0, h1, h2, hco, hcc, hcs⟩ := h.1 c
    exact ⟨hco.trans (co_eq m c), hcc.trans (cc_eq m c), hcs.trans (cs_eq m c), (hw 3).trans ((final_w3 m c).trans (yc_eq m c)),
      (hw 4).trans ((final_w4 m c).trans (ys_eq m c)), h0, h1, h2⟩) (run_main m ρ)

end Cert.Proof.Value
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Twin
public import proofs.«01_k».proof.Proof.Run
public import proofs.«01_k».proof.Proof.Ends

@[expose] public section

noncomputable section

namespace Cert.Proof

open Idealize.ShloMosaic Idealize.SL.Sem

/-- The program as printed runs as its ideal reading does: both are one program. -/
theorem kernel_frame : Cert.quiescent_Kernel := by
  intro m g _
  rw [defs_eq, main_eq]
  exact Sweep.frame_main (F := Bits) m g

/-- From the same arguments the kernel and the reference end with the same five results. -/
theorem same_results : Cert.algebraic_KernelIdeal_ReferenceIdeal := by
  intro m g m' g' _ h
  refine ⟨_, _, _, _, _, Value.run_value m g, ?_⟩
  refine (θ_run Cert.ReferenceIdeal.defs _ _).mono (fun r hr c => ?_) (Cert.ReferenceIdeal.Value.run m' g')
  obtain ⟨h0, h1, h2⟩ := h c
  have hc := hr c
  rw [h0, h1, h2] at hc ⊢
  exact hc

theorem claim : Cert.Claim :=
  ⟨Cert.Kernel.Gen.facts, Cert.KernelIdeal.Gen.facts, Cert.ReferenceIdeal.Gen.facts,
    kernel_frame, fun m g _ => Sweep.frame_main (F := Ideal) m g, fun m g _ => Cert.ReferenceIdeal.Gen.frame m g, trivial, same_results⟩

end Cert.Proof

end
